-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lists_in_order [hPre_lists_in_order : Cert.Pre_lists_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_lists_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lists_in_order [hPre_lists_in_order : Cert.Pre_lists_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lists_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_SelIdeal (m : (ℓ : Loc Cert.SelIdeal.nD Cert.SelIdeal.τ Cert.SelIdeal.sig) → Buf (Elt Ideal) ℓ) : Prop :=
  True

def Pre_FpsIdeal (m : (ℓ : Loc Cert.FpsIdeal.nD Cert.FpsIdeal.τ Cert.FpsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_lists_in_order [hKernelIdeal : Cert.KernelIdeal.Facts] [hPre_lists_in_order : Cert.Pre_lists_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lists_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_lists_in_order [hReferenceIdeal : Cert.ReferenceIdeal.Facts] [hPre_lists_in_order : Cert.Pre_lists_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lists_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_SelIdeal [hSelIdeal : Cert.SelIdeal.Facts] : Prop :=
  ∀ (m : (ℓ : Loc Cert.SelIdeal.nD Cert.SelIdeal.τ Cert.SelIdeal.sig) → Buf (Elt Ideal) ℓ) (g : Dev Cert.SelIdeal.nD → PrngReg), Pre_SelIdeal m →
    θ_run (Cert.SelIdeal.defs (F := Ideal)) (onTc (τ := Cert.SelIdeal.τ) (Cert.SelIdeal.main (F := Ideal))) ⟨m, fun _ => 0, g⟩ (fun r => (∀ c : Dev Cert.SelIdeal.nD,
      r.2.mem ((c.tc : Thread Cert.SelIdeal.nD Cert.SelIdeal.τ).loc Cert.SelIdeal.main_arg0) = m ((c.tc : Thread Cert.SelIdeal.nD Cert.SelIdeal.τ).loc Cert.SelIdeal.main_arg0))
      ∧ r.2.sem = fun _ => 0)

def quiescent_FpsIdeal [hFpsIdeal : Cert.FpsIdeal.Facts] : Prop :=
  ∀ (m : (ℓ : Loc Cert.FpsIdeal.nD Cert.FpsIdeal.τ Cert.FpsIdeal.sig) → Buf (Elt Ideal) ℓ) (g : Dev Cert.FpsIdeal.nD → PrngReg), Pre_FpsIdeal m →
    θ_run (Cert.FpsIdeal.defs (F := Ideal)) (onTc (τ := Cert.FpsIdeal.τ) (Cert.FpsIdeal.main (F := Ideal))) ⟨m, fun _ => 0, g⟩ (fun r => (∀ c : Dev Cert.FpsIdeal.nD,
      r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ r.2.sem = fun _ => 0)

def preserves_Kernel_KernelIdeal : Prop :=
  True

def algebraic_KernelIdeal_ReferenceIdeal_pre_lists_in_order [hKernelIdeal : Cert.KernelIdeal.Facts] [hReferenceIdeal : Cert.ReferenceIdeal.Facts] [hPre_lists_in_order : Cert.Pre_lists_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lists_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def algebraic_SelIdeal_FpsIdeal [hSelIdeal : Cert.SelIdeal.Facts] [hFpsIdeal : Cert.FpsIdeal.Facts] : Prop :=
  ∀ (m : (ℓ : Loc Cert.SelIdeal.nD Cert.SelIdeal.τ Cert.SelIdeal.sig) → Buf (Elt Ideal) ℓ) (g : Dev Cert.SelIdeal.nD → PrngReg)
    (m' : (ℓ : Loc Cert.FpsIdeal.nD Cert.FpsIdeal.τ Cert.FpsIdeal.sig) → Buf (Elt Ideal) ℓ) (g' : Dev Cert.FpsIdeal.nD → PrngReg), Pre_SelIdeal m →
    (∀ c : Dev Cert.SelIdeal.nD,
      m' ((c.tc : Thread Cert.FpsIdeal.nD Cert.FpsIdeal.τ).loc Cert.FpsIdeal.main_arg0) = m ((c.tc : Thread Cert.SelIdeal.nD Cert.SelIdeal.τ).loc Cert.SelIdeal.main_arg0)) →
    ∃ (v0 : (c : Dev Cert.SelIdeal.nD) → Buf (Elt Ideal) ((c.tc : Thread Cert.SelIdeal.nD Cert.SelIdeal.τ).loc Cert.SelIdeal.main_v2)) (v1 : (c : Dev Cert.SelIdeal.nD) → Buf (Elt Ideal) ((c.tc : Thread Cert.SelIdeal.nD Cert.SelIdeal.τ).loc Cert.SelIdeal.main_v5)) (v2 : (c : Dev Cert.SelIdeal.nD) → Buf (Elt Ideal) ((c.tc : Thread Cert.SelIdeal.nD Cert.SelIdeal.τ).loc Cert.SelIdeal.main_v13)),
      θ_run (Cert.SelIdeal.defs (F := Ideal)) (onTc (τ := Cert.SelIdeal.τ) (Cert.SelIdeal.main (F := Ideal))) ⟨m, fun _ => 0, g⟩ (fun r => ∀ c : Dev Cert.SelIdeal.nD,
          r.2.mem ((c.tc : Thread Cert.SelIdeal.nD Cert.SelIdeal.τ).loc Cert.SelIdeal.main_v2) = v0 c
          ∧ r.2.mem ((c.tc : Thread Cert.SelIdeal.nD Cert.SelIdeal.τ).loc Cert.SelIdeal.main_v5) = v1 c
          ∧ r.2.mem ((c.tc : Thread Cert.SelIdeal.nD Cert.SelIdeal.τ).loc Cert.SelIdeal.main_v13) = v2 c
          ∧ r.2.mem ((c.tc : Thread Cert.SelIdeal.nD Cert.SelIdeal.τ).loc Cert.SelIdeal.main_arg0) = m ((c.tc : Thread Cert.SelIdeal.nD Cert.SelIdeal.τ).loc Cert.SelIdeal.main_arg0))
      ∧ θ_run (Cert.FpsIdeal.defs (F := Ideal)) (onTc (τ := Cert.FpsIdeal.τ) (Cert.FpsIdeal.main (F := Ideal))) ⟨m', fun _ => 0, g'⟩ (fun r => ∀ c : Dev Cert.FpsIdeal.nD,
          r.2.mem ((c.tc : Thread Cert.FpsIdeal.nD Cert.FpsIdeal.τ).loc Cert.FpsIdeal.main_v10) = v0 c
          ∧ r.2.mem ((c.tc : Thread Cert.FpsIdeal.nD Cert.FpsIdeal.τ).loc Cert.FpsIdeal.main_v13) = v1 c
          ∧ r.2.mem ((c.tc : Thread Cert.FpsIdeal.nD Cert.FpsIdeal.τ).loc Cert.FpsIdeal.main_v20) = v2 c
          ∧ r.2.mem ((c.tc : Thread Cert.FpsIdeal.nD Cert.FpsIdeal.τ).loc Cert.FpsIdeal.main_arg0) = m' ((c.tc : Thread Cert.FpsIdeal.nD Cert.FpsIdeal.τ).loc Cert.FpsIdeal.main_arg0))

def Claim : Prop :=
  ∃ (hKernel : Cert.Kernel.Facts) (hKernelIdeal : Cert.KernelIdeal.Facts) (hReferenceIdeal : Cert.ReferenceIdeal.Facts) (hSelIdeal : Cert.SelIdeal.Facts) (hFpsIdeal : Cert.FpsIdeal.Facts) (hPre_lists_in_order : Cert.Pre_lists_in_order.Facts),
    quiescent_Kernel (hKernel := hKernel)
    ∧ quiescent_KernelIdeal (hKernelIdeal := hKernelIdeal)
    ∧ quiescent_KernelIdeal_pre_lists_in_order (hKernelIdeal := hKernelIdeal) (hPre_lists_in_order := hPre_lists_in_order)
    ∧ quiescent_ReferenceIdeal (hReferenceIdeal := hReferenceIdeal)
    ∧ quiescent_ReferenceIdeal_pre_lists_in_order (hReferenceIdeal := hReferenceIdeal) (hPre_lists_in_order := hPre_lists_in_order)
    ∧ quiescent_SelIdeal (hSelIdeal := hSelIdeal)
    ∧ quiescent_FpsIdeal (hFpsIdeal := hFpsIdeal)
    ∧ preserves_Kernel_KernelIdeal
    ∧ algebraic_KernelIdeal_ReferenceIdeal_pre_lists_in_order (hKernelIdeal := hKernelIdeal) (hReferenceIdeal := hReferenceIdeal) (hPre_lists_in_order := hPre_lists_in_order)
    ∧ algebraic_SelIdeal_FpsIdeal (hSelIdeal := hSelIdeal) (hFpsIdeal := hFpsIdeal)
-- ==== Pre_lists_in_order.lean ====
abbrev S8x64x1024 : Shape := ⟨3, ![8, 64, 1024]⟩
abbrev S8x1024x3 : Shape := ⟨3, ![8, 1024, 3]⟩
abbrev S16384x3 : Shape := ⟨2, ![16384, 3]⟩
abbrev S6x64 : Shape := ⟨2, ![6, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S8x64x1024 : S_.BroadcastsInDim S8x64x1024 (![] : Fin 0 → Fin S8x64x1024.rank)
  reducesTo_S8x64x1024_S_d0_1_2 : S8x64x1024.ReducesTo [0, 1, 2] S_
  h_S_ : 0 < S_.numel
  bcast_S_S8x1024x3 : S_.BroadcastsInDim S8x1024x3 (![] : Fin 0 → Fin S8x1024x3.rank)
  reducesTo_S8x1024x3_S_d0_1_2 : S8x1024x3.ReducesTo [0, 1, 2] S_
  bcast_S_S16384x3 : S_.BroadcastsInDim S16384x3 (![] : Fin 0 → Fin S16384x3.rank)
  reducesTo_S16384x3_S_d0_1 : S16384x3.ReducesTo [0, 1] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg13 : FVec F S64x128 .f32) (main_arg14 : FVec F S128 .f32) (main_v67 : IVec S_ 1) : IVec S_ 1 :=
  let main_v68 : FVec F S64x128 .f32 := Host.absf main_arg13
  let main_cst_26 : FVec F S_ .f32 := constant S_ .f32 0x7F800000#32
  let main_v69 : FVec F S64x128 .f32 := broadcastInDim S64x128 ![] bcast_S_S64x128 main_cst_26
  let main_v70 : IVec S64x128 1 := cmpf .olt main_v68 main_v69
  let main_c_27 : IVec S_ 1 := constantI S_ 1 1#1
  let main_v71 : IVec S_ 1 := (fun x v => Host.reduce IntOp.andi x v reducesTo_S64x128_S_d0_1 h_S_) main_v70 main_c_27
  let main_v72 : IVec S_ 1 := andi main_v67 main_v71
  let main_v73 : FVec F S128 .f32 := Host.absf main_arg14
  let main_cst_28 : FVec F S_ .f32 := constant S_ .f32 0x7F800000#32
  let main_v74 : FVec F S128 .f32 := broadcastInDim S128 ![] bcast_S_S128 main_cst_28
  let main_v75 : IVec S128 1 := cmpf .olt main_v73 main_v74
  let main_c_29 : IVec S_ 1 := constantI S_ 1 1#1
  let main_v76 : IVec S_ 1 := (fun x v => Host.reduce IntOp.andi x v reducesTo_S128_S_d0 h_S_) main_v75 main_c_29
  let main_v77 : IVec S_ 1 := andi main_v72 main_v76
  main_v77

def fn_part3 {F : FTy → Type} [FloatOps F] (main_arg10 : FVec F S64 .f32) (main_arg11 : FVec F S64 .f32) (main_arg12 : FVec F S64 .f32) (main_arg13 : FVec F S64x128 .f32) (main_arg14 : FVec F S128 .f32) (main_v47 : IVec S_ 1) (main_v50 : IVec S64x64 1) : IVec S_ 1 :=
  let main_c_19 : IVec S_ 1 := constantI S_ 1 1#1
  let main_v51 : IVec S_ 1 := (fun x v => Host.reduce IntOp.andi x v reducesTo_S64x64_S_d0_1 h_S_) main_v50 main_c_19
  let main_v52 : IVec S_ 1 := andi main_v47 main_v51
  let main_v53 : FVec F S64 .f32 := Host.absf main_arg10
  let main_cst_20 : FVec F S_ .f32 := constant S_ .f32 0x7F800000#32
  let main_v54 : FVec F S64 .f32 := broadcastInDim S64 ![] bcast_S_S64 main_cst_20
  let main_v55 : IVec S64 1 := cmpf .olt main_v53 main_v54
  let main_c_21 : IVec S_ 1 := constantI S_ 1 1#1
  let main_v56 : IVec S_ 1 := (fun x v => Host.reduce IntOp.andi x v reducesTo_S64_S_d0 h_S_) main_v55 main_c_21
  let main_v57 : IVec S_ 1 := andi main_v52 main_v56
  let main_v58 : FVec F S64 .f32 := Host.absf main_arg11
  let main_cst_22 : FVec F S_ .f32 := constant S_ .f32 0x7F800000#32
  let main_v59 : FVec F S64 .f32 := broadcastInDim S64 ![] bcast_S_S64 main_cst_22
  let main_v60 : IVec S64 1 := cmpf .olt main_v58 main_v59
  let main_c_23 : IVec S_ 1 := constantI S_ 1 1#1
  let main_v61 : IVec S_ 1 := (fun x v => Host.reduce IntOp.andi x v reducesTo_S64_S_d0 h_S_) main_v60 main_c_23
  let main_v62 : IVec S_ 1 := andi main_v57 main_v61
  let main_v63 : FVec F S64 .f32 := Host.absf main_arg12
  let main_cst_24 : FVec F S_ .f32 := constant S_ .f32 0x7F800000#32
  let main_v64 : FVec F S64 .f32 := broadcastInDim S64 ![] bcast_S_S64 main_cst_24
  let main_v65 : IVec S64 1 := cmpf .olt main_v63 main_v64
  let main_c_25 : IVec S_ 1 := constantI S_ 1 1#1
  let main_v66 : IVec S_ 1 := (fun x v => Host.reduce IntOp.andi x v reducesTo_S64_S_d0 h_S_) main_v65 main_c_25
  let main_v67 : IVec S_ 1 := andi main_v62 main_v66
  fn_part4 (F := F) main_arg13 main_arg14 main_v67

def fn_part2 {F : FTy → Type} [FloatOps F] (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64x128 .f32) (main_arg14 : FVec F S128 .f32) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_v38 : FVec F S64 .f32 := Host.absf main_arg7
  let main_cst_14 : FVec F S_ .f32 := constant S_ .f32 0x7F800000#32
  let main_v39 : FVec F S64 .f32 := broadcastInDim S64 ![] bcast_S_S64 main_cst_14
  let main_v40 : IVec S64 1 := cmpf .olt main_v38 main_v39
  let main_c_15 : IVec S_ 1 := constantI S_ 1 1#1
  let main_v41 : IVec S_ 1 := (fun x v => Host.reduce IntOp.andi x v reducesTo_S64_S_d0 h_S_) main_v40 main_c_15
  let main_v42 : IVec S_ 1 := andi main_v37 main_v41
  let main_v43 : FVec F S64 .f32 := Host.absf main_arg8
  let main_cst_16 : FVec F S_ .f32 := constant S_ .f32 0x7F800000#32
  let main_v44 : FVec F S64 .f32 := broadcastInDim S64 ![] bcast_S_S64 main_cst_16
  let main_v45 : IVec S64 1 := cmpf .olt main_v43 main_v44
  let main_c_17 : IVec S_ 1 := constantI S_ 1 1#1
  let main_v46 : IVec S_ 1 := (fun x v => Host.reduce IntOp.andi x v reducesTo_S64_S_d0 h_S_) main_v45 main_c_17
  let main_v47 : IVec S_ 1 := andi main_v42 main_v46
  let main_v48 : FVec F S64x64 .f32 := Host.absf main_arg9
  let main_cst_18 : FVec F S_ .f32 := constant S_ .f32 0x7F800000#32
  let main_v49 : FVec F S64x64 .f32 := broadcastInDim S64x64 ![] bcast_S_S64x64 main_cst_18
  let main_v50 : IVec S64x64 1 := cmpf .olt main_v48 main_v49
  fn_part3 (F := F) main_arg10 main_arg11 main_arg12 main_arg13 main_arg14 main_v47 main_v50

def fn_part1 {F : FTy → Type} [FloatOps F] (main_arg3 : FVec F S16384x3 .f32) (main_arg4 : FVec F S16384x3 .f32) (main_arg5 : FVec F S6x64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64x128 .f32) (main_arg14 : FVec F S128 .f32) (main_v12 : IVec S_ 1) (main_v15 : IVec S8x1024x3 1) (main_c_5 : IVec S_ 1) : IVec S_ 1 :=
  let main_v16 : IVec S_ 1 := (fun x v => Host.reduce IntOp.andi x v reducesTo_S8x1024x3_S_d0_1_2 h_S_) main_v15 main_c_5
  let main_v17 : IVec S_ 1 := andi main_v12 main_v16
  let main_v18 : FVec F S16384x3 .f32 := Host.absf main_arg3
  let main_cst_6 : FVec F S_ .f32 := constant S_ .f32 0x7F800000#32
  let main_v19 : FVec F S16384x3 .f32 := broadcastInDim S16384x3 ![] bcast_S_S16384x3 main_cst_6
  let main_v20 : IVec S16384x3 1 := cmpf .olt main_v18 main_v19
  let main_c_7 : IVec S_ 1 := constantI S_ 1 1#1
  let main_v21 : IVec S_ 1 := (fun x v => Host.reduce IntOp.andi x v reducesTo_S16384x3_S_d0_1 h_S_) main_v20 main_c_7
  let main_v22 : IVec S_ 1 := andi main_v17 main_v21
  let main_v23 : FVec F S16384x3 .f32 := Host.absf main_arg4
  let main_cst_8 : FVec F S_ .f32 := constant S_ .f32 0x7F800000#32
  let main_v24 : FVec F S16384x3 .f32 := broadcastInDim S16384x3 ![] bcast_S_S16384x3 main_cst_8
  let main_v25 : IVec S16384x3 1 := cmpf .olt main_v23 main_v24
  let main_c_9 : IVec S_ 1 := constantI S_ 1 1#1
  let main_v26 : IVec S_ 1 := (fun x v => Host.reduce IntOp.andi x v reducesTo_S16384x3_S_d0_1 h_S_) main_v25 main_c_9
  let main_v27 : IVec S_ 1 := andi main_v22 main_v26
  let main_v28 : FVec F S6x64 .f32 := Host.absf main_arg5
  let main_cst_10 : FVec F S_ .f32 := constant S_ .f32 0x7F800000#32
  let main_v29 : FVec F S6x64 .f32 := broadcastInDim S6x64 ![] bcast_S_S6x64 main_cst_10
  let main_v30 : IVec S6x64 1 := cmpf .olt main_v28 main_v29
  let main_c_11 : IVec S_ 1 := constantI S_ 1 1#1
  let main_v31 : IVec S_ 1 := (fun x v => Host.reduce IntOp.andi x v reducesTo_S6x64_S_d0_1 h_S_) main_v30 main_c_11
  let main_v32 : IVec S_ 1 := andi main_v27 main_v31
  let main_v33 : FVec F S64 .f32 := Host.absf main_arg6
  fn_part2 (F := F) main_arg7 main_arg8 main_arg9 main_arg10 main_arg11 main_arg12 main_arg13 main_arg14 main_v32 main_v33

def fn {F : FTy → Type} [FloatOps F] (main_arg0 : IVec S8x64x1024 32) (main_arg1 : FVec F S8x64x1024 .f32) (main_arg2 : FVec F S8x1024x3 .f32) (main_arg3 : FVec F S16384x3 .f32) (main_arg4 : FVec F S16384x3 .f32) (main_arg5 : FVec F S6x64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64x128 .f32) (main_arg14 : FVec F S128 .f32) (main_arg15 : FVec F S128 .f32) (main_arg16 : FVec F S128 .f32) : IVec S_ 1 :=
  let main_c : IVec S_ 32 := constantI S_ 32 0#32
  let main_v0 : IVec S8x64x1024 32 := broadcastInDim S8x64x1024 ![] bcast_S_S8x64x1024 main_c
  let main_v1 : IVec S8x64x1024 1 := cmpi .sge main_arg0 main_v0
  let main_c_0 : IVec S_ 32 := constantI S_ 32 2048#32
  let main_v2 : IVec S8x64x1024 32 := broadcastInDim S8x64x1024 ![] bcast_S_S8x64x1024 main_c_0
  let main_v3 : IVec S8x64x1024 1 := cmpi .slt main_arg0 main_v2
  let main_v4 : IVec S8x64x1024 1 := andi main_v1 main_v3
  let main_c_1 : IVec S_ 1 := constantI S_ 1 1#1
  let main_v5 : IVec S_ 1 := (fun x v => Host.reduce IntOp.andi x v reducesTo_S8x64x1024_S_d0_1_2 h_S_) main_v4 main_c_1
  let main_cst : FVec F S_ .f32 := constant S_ .f32 0x00000000#32
  let main_v6 : FVec F S8x64x1024 .f32 := broadcastInDim S8x64x1024 ![] bcast_S_S8x64x1024 main_cst
  let main_v7 : IVec S8x64x1024 1 := cmpf .oeq main_arg1 main_v6
  let main_cst_2 : FVec F S_ .f32 := constant S_ .f32 0x3F800000#32
  let main_v8 : FVec F S8x64x1024 .f32 := broadcastInDim S8x64x1024 ![] bcast_S_S8x64x1024 main_cst_2
  let main_v9 : IVec S8x64x1024 1 := cmpf .oeq main_arg1 main_v8
  let main_v10 : IVec S8x64x1024 1 := ori main_v7 main_v9
  let main_c_3 : IVec S_ 1 := constantI S_ 1 1#1
  let main_v11 : IVec S_ 1 := (fun x v => Host.reduce IntOp.andi x v reducesTo_S8x64x1024_S_d0_1_2 h_S_) main_v10 main_c_3
  let main_v12 : IVec S_ 1 := andi main_v5 main_v11
  let main_v13 : FVec F S8x1024x3 .f32 := Host.absf main_arg2
  let main_cst_4 : FVec F S_ .f32 := constant S_ .f32 0x7F800000#32
  let main_v14 : FVec F S8x1024x3 .f32 := broadcastInDim S8x1024x3 ![] bcast_S_S8x1024x3 main_cst_4
  let main_v15 : IVec S8x1024x3 1 := cmpf .olt main_v13 main_v14
  let main_c_5 : IVec S_ 1 := constantI S_ 1 1#1
  fn_part1 (F := F) main_arg3 main_arg4 main_arg5 main_arg6 main_arg7 main_arg8 main_arg9 main_arg10 main_arg11 main_arg12 main_arg13 main_arg14 main_v12 main_v15 main_c_5
-- ==== Kernel.lean ====
abbrev S8x64x1024 : Shape := ⟨3, ![8, 64, 1024]⟩
abbrev S8x1024x3 : Shape := ⟨3, ![8, 1024, 3]⟩
abbrev S16384x3 : Shape := ⟨2, ![16384, 3]⟩
abbrev S6x64 : Shape := ⟨2, ![6, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S8x2048x3 : Shape := ⟨3, ![8, 2048, 3]⟩
abbrev S8x2048x6 : Shape := ⟨3, ![8, 2048, 6]⟩
abbrev S8x64x1024x1 : Shape := ⟨4, ![8, 64, 1024, 1]⟩
abbrev S1x64 : Shape := ⟨2, ![1, 64]⟩
abbrev S8x64x1024x64 : Shape := ⟨4, ![8, 64, 1024, 64]⟩
abbrev S1x1 : Shape := ⟨2, ![1, 1]⟩
abbrev S524288x1 : Shape := ⟨2, ![524288, 1]⟩
abbrev S524288x64 : Shape := ⟨2, ![524288, 64]⟩
abbrev S1x128 : Shape := ⟨2, ![1, 128]⟩
abbrev S524288x128 : Shape := ⟨2, ![524288, 128]⟩
abbrev S8x64x1024x128 : Shape := ⟨4, ![8, 64, 1024, 128]⟩
abbrev S8x1024x128 : Shape := ⟨3, ![8, 1024, 128]⟩
abbrev S8192x128 : Shape := ⟨2, ![8192, 128]⟩
abbrev S1x1x1024x1 : Shape := ⟨4, ![1, 1, 1024, 1]⟩
abbrev S1x2048x6 : Shape := ⟨3, ![1, 2048, 6]⟩
abbrev S1x1024x3 : Shape := ⟨3, ![1, 1024, 3]⟩
abbrev S1x1x1024x64 : Shape := ⟨4, ![1, 1, 1024, 64]⟩
abbrev S1024 : Shape := ⟨1, ![1024]⟩
abbrev S2048x6 : Shape := ⟨2, ![2048, 6]⟩
abbrev S1024x3 : Shape := ⟨2, ![1024, 3]⟩
abbrev S1024x1 : Shape := ⟨2, ![1024, 1]⟩
abbrev S1024x2048 : Shape := ⟨2, ![1024, 2048]⟩
abbrev S1024x6 : Shape := ⟨2, ![1024, 6]⟩
abbrev S1024x64 : Shape := ⟨2, ![1024, 64]⟩
abbrev S1x1024x1 : Shape := ⟨3, ![1, 1024, 1]⟩
abbrev S1 : Shape := ⟨1, ![1]⟩
abbrev S1x1x1 : Shape := ⟨3, ![1, 1, 1]⟩
abbrev S4096x64 : Shape := ⟨2, ![4096, 64]⟩
abbrev S4096x1 : Shape := ⟨2, ![4096, 1]⟩
abbrev S4096x128 : Shape := ⟨2, ![4096, 128]⟩
abbrev S1x64x256x128 : Shape := ⟨4, ![1, 64, 256, 128]⟩
abbrev S1x64x256 : Shape := ⟨3, ![1, 64, 256]⟩
abbrev S1x256x128 : Shape := ⟨3, ![1, 256, 128]⟩
abbrev S1x1x128 : Shape := ⟨3, ![1, 1, 128]⟩
abbrev S64x256x128 : Shape := ⟨3, ![64, 256, 128]⟩
abbrev S64x256 : Shape := ⟨2, ![64, 256]⟩
abbrev S64x256x1 : Shape := ⟨3, ![64, 256, 1]⟩
abbrev S256x128 : Shape := ⟨2, ![256, 128]⟩

abbrev nBuf : Space → Nat
  | .hbm => 46
  | .vmem => 56
  | .smem => 0
  | _ => 0

abbrev bufTy : (tb : Table) → Fin (tcTables nBuf tb) → BufTy
  | .hbm, ⟨0, _⟩ => ⟨S8x64x1024, .i32⟩
  | .hbm, ⟨1, _⟩ => ⟨S8x64x1024, .f32⟩
  | .hbm, ⟨2, _⟩ => ⟨S8x1024x3, .f32⟩
  | .hbm, ⟨3, _⟩ => ⟨S16384x3, .f32⟩
  | .hbm, ⟨4, _⟩ => ⟨S16384x3, .f32⟩
  | .hbm, ⟨5, _⟩ => ⟨S6x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S8x2048x3, .f32⟩
  | .hbm, ⟨18, _⟩ => ⟨S8x2048x3, .f32⟩
  | .hbm, ⟨19, _⟩ => ⟨S8x2048x6, .f32⟩
  | .hbm, ⟨20, _⟩ => ⟨S8x64x1024x1, .i32⟩
  | .hbm, ⟨21, _⟩ => ⟨S8x64x1024x1, .f32⟩
  | .hbm, ⟨22, _⟩ => ⟨S1x64, .f32⟩
  | .hbm, ⟨23, _⟩ => ⟨S8x64x1024x64, .f32⟩
  | .hbm, ⟨24, _⟩ => ⟨S1x64, .f32⟩
  | .hbm, ⟨25, _⟩ => ⟨S1x64, .f32⟩
  | .hbm, ⟨26, _⟩ => ⟨S1x1, .f32⟩
  | .hbm, ⟨27, _⟩ => ⟨S524288x1, .f32⟩
  | .hbm, ⟨28, _⟩ => ⟨S524288x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S524288x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x128, .f32⟩
  | .hbm, ⟨38, _⟩ => ⟨S524288x128, .f32⟩
  | .hbm, ⟨39, _⟩ => ⟨S1x128, .f32⟩
  | .hbm, ⟨40, _⟩ => ⟨S1x128, .f32⟩
  | .hbm, ⟨41, _⟩ => ⟨S8x64x1024x128, .f32⟩
  | .hbm, ⟨42, _⟩ => ⟨S1x128, .f32⟩
  | .hbm, ⟨43, _⟩ => ⟨S1x128, .f32⟩
  | .hbm, ⟨44, _⟩ => ⟨S8x1024x128, .f32⟩
  | .hbm, ⟨45, _⟩ => ⟨S8192x128, .f32⟩
  | .local _ .vmem, ⟨0, _⟩ => ⟨S1x1x1024x1, .i32⟩
  | .local _ .vmem, ⟨1, _⟩ => ⟨S1x1x1024x1, .i32⟩
  | .local _ .vmem, ⟨2, _⟩ => ⟨S1x1x1024x1, .f32⟩
  | .local _ .vmem, ⟨3, _⟩ => ⟨S1x1x1024x1, .f32⟩
  | .local _ .vmem, ⟨4, _⟩ => ⟨S1x2048x6, .f32⟩
  | .local _ .vmem, ⟨5, _⟩ => ⟨S1x2048x6, .f32⟩
  | .local _ .vmem, ⟨6, _⟩ => ⟨S1x1024x3, .f32⟩
  | .local _ .vmem, ⟨7, _⟩ => ⟨S1x1024x3, .f32⟩
  | .local _ .vmem, ⟨8, _⟩ => ⟨S6x64, .f32⟩
  | .local _ .vmem, ⟨9, _⟩ => ⟨S1x64, .f32⟩
  | .local _ .vmem, ⟨10, _⟩ => ⟨S1x1x1024x64, .f32⟩
  | .local _ .vmem, ⟨11, _⟩ => ⟨S1x1x1024x64, .f32⟩
  | .local _ .vmem, ⟨12, _⟩ => ⟨S1x64, .f32⟩
  | .local _ .vmem, ⟨13, _⟩ => ⟨S1x64, .f32⟩
  | .local _ .vmem, ⟨14, _⟩ => ⟨S1x1, .f32⟩
  | .local _ .vmem, ⟨15, _⟩ => ⟨S4096x64, .f32⟩
  | .local _ .vmem, ⟨16, _⟩ => ⟨S4096x64, .f32⟩
  | .local _ .vmem, ⟨17, _⟩ => ⟨S4096x1, .f32⟩
  | .local _ .vmem, ⟨18, _⟩ => ⟨S4096x1, .f32⟩
  | .local _ .vmem, ⟨19, _⟩ => ⟨S1x64, .f32⟩
  | .local _ .vmem, ⟨20, _⟩ => ⟨S1x64, .f32⟩
  | .local _ .vmem, ⟨21, _⟩ => ⟨S1x1, .f32⟩
  | .local _ .vmem, ⟨22, _⟩ => ⟨S1x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S4096x64, .f32⟩
  | .local _ .vmem, ⟨27, _⟩ => ⟨S4096x64, .f32⟩
  | .local _ .vmem, ⟨28, _⟩ => ⟨S1x64, .f32⟩
  | .local _ .vmem, ⟨29, _⟩ => ⟨S1x64, .f32⟩
  | .local _ .vmem, ⟨30, _⟩ => ⟨S4096x64, .f32⟩
  | .local _ .vmem, ⟨31, _⟩ => ⟨S4096x64, .f32⟩
  | .local _ .vmem, ⟨32, _⟩ => ⟨S4096x1, .f32⟩
  | .local _ .vmem, ⟨33, _⟩ => ⟨S4096x1, .f32⟩
  | .local _ .vmem, ⟨34, _⟩ => ⟨S1x64, .f32⟩
  | .local _ .vmem, ⟨35, _⟩ => ⟨S1x64, .f32⟩
  | .local _ .vmem, ⟨36, _⟩ => ⟨S1x1, .f32⟩
  | .local _ .vmem, ⟨37, _⟩ => ⟨S1x64, .f32⟩
  | .local _ .vmem, ⟨38, _⟩ => ⟨S1x64, .f32⟩
  | .local _ .vmem, ⟨39, _⟩ => ⟨S64x128, .f32⟩
  | .local _ .vmem, ⟨40, _⟩ => ⟨S1x128, .f32⟩
  | .local _ .vmem, ⟨41, _⟩ => ⟨S4096x128, .f32⟩
  | .local _ .vmem, ⟨42, _⟩ => ⟨S4096x128, .f32⟩
  | .local _ .vmem, ⟨43, _⟩ => ⟨S1x128, .f32⟩
  | .local _ .vmem, ⟨44, _⟩ => ⟨S1x128, .f32⟩
  | .local _ .vmem, ⟨45, _⟩ => ⟨S1x64x256x128, .f32⟩
  | .local _ .vmem, ⟨46, _⟩ => ⟨S1x64x256x128, .f32⟩
  | .local _ .vmem, ⟨47, _⟩ => ⟨S1x64x256, .f32⟩
  | .local _ .vmem, ⟨48, _⟩ => ⟨S1x64x256, .f32⟩
  | .local _ .vmem, ⟨49, _⟩ => ⟨S1x128, .f32⟩
  | .local _ .vmem, ⟨50, _⟩ => ⟨S1x128, .f32⟩
  | .local _ .vmem, ⟨51, _⟩ => ⟨S1x1, .f32⟩
  | .local _ .vmem, ⟨52, _⟩ => ⟨S1x128, .f32⟩
  | .local _ .vmem, ⟨53, _⟩ => ⟨S1x128, .f32⟩
  | .local _ .vmem, ⟨54, _⟩ => ⟨S1x256x128, .f32⟩
  | .local _ .vmem, ⟨55, _⟩ => ⟨S1x256x128, .f32⟩
  | _, _ => ⟨S8x64x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6_0 : Ref sig .tc := ⟨.hbm, 23, rfl⟩
abbrev main_call0_v6_1 : Ref sig .tc := ⟨.hbm, 24, rfl⟩
abbrev main_call0_v6_2 : Ref sig .tc := ⟨.hbm, 25, rfl⟩
abbrev main_call0_v6_3 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12_0 : Ref sig .tc := ⟨.hbm, 32, rfl⟩
abbrev main_call0_v12_1 : Ref sig .tc := ⟨.hbm, 33, rfl⟩
abbrev main_call0_v12_2 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16_0 : Ref sig .tc := ⟨.hbm, 38, rfl⟩
abbrev main_call0_v16_1 : Ref sig .tc := ⟨.hbm, 39, rfl⟩
abbrev main_call0_v16_2 : Ref sig .tc := ⟨.hbm, 40, rfl⟩
abbrev main_call0_v17 : Ref sig .tc := ⟨.hbm, 41, rfl⟩
abbrev main_call0_v18 : Ref sig .tc := ⟨.hbm, 42, rfl⟩
abbrev main_call0_v19 : Ref sig .tc := ⟨.hbm, 43, rfl⟩
abbrev main_call0_v20 : Ref sig .tc := ⟨.hbm, 44, rfl⟩
abbrev main_v0 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg11_0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg9_1 : Ref sig .tc := ⟨.vmem, 42, rfl⟩
abbrev cc2_stg10_0 : Ref sig .tc := ⟨.vmem, 43, rfl⟩
abbrev cc2_stg11_0 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg7_0 : Ref sig .tc := ⟨.vmem, 54, rfl⟩
abbrev cc3_stg7_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem11_0 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem9_1 : DmaSem sig := 42
abbrev cc2_sem10_0 : DmaSem sig := 43
abbrev cc2_sem11_0 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem3_0 : DmaSem sig := 50
abbrev cc3_sem4_0 : DmaSem sig := 51
abbrev cc3_sem5_0 : DmaSem sig := 52
abbrev cc3_sem6_0 : DmaSem sig := 53
abbrev cc3_sem7_0 : DmaSem sig := 54
abbrev cc3_sem7_1 : DmaSem sig := 55

abbrev nD : Nat := 1
abbrev τ : Topo := Topo.v7x

variable {F : FTy → Type} [FloatOps F]

abbrev grid0 : Pipeline.Grid := ⟨2, ![8, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4096x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev grid3 : Pipeline.Grid := ⟨2, ![8, 4], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x64x256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x64x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x256x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]
-- ==== ReferenceIdeal.lean ====
abbrev S8x64x1024 : Shape := ⟨3, ![8, 64, 1024]⟩
abbrev S8x1024x3 : Shape := ⟨3, ![8, 1024, 3]⟩
abbrev S16384x3 : Shape := ⟨2, ![16384, 3]⟩
abbrev S6x64 : Shape := ⟨2, ![6, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S8x2048x3 : Shape := ⟨3, ![8, 2048, 3]⟩
abbrev S8x1024x64 : Shape := ⟨3, ![8, 1024, 64]⟩
abbrev S_ : Shape := ⟨0, ![]⟩
abbrev S8x65536x1 : Shape := ⟨3, ![8, 65536, 1]⟩
abbrev S8x65536x3 : Shape := ⟨3, ![8, 65536, 3]⟩
abbrev S8x1024x64x3 : Shape := ⟨4, ![8, 1024, 64, 3]⟩
abbrev S8x1024x1x3 : Shape := ⟨4, ![8, 1024, 1, 3]⟩
abbrev S8x1024x64x6 : Shape := ⟨4, ![8, 1024, 64, 6]⟩
abbrev S8x1024x64x1 : Shape := ⟨4, ![8, 1024, 64, 1]⟩
abbrev S8x1024x64x64 : Shape := ⟨4, ![8, 1024, 64, 64]⟩
abbrev S1x1x1x64 : Shape := ⟨4, ![1, 1, 1, 64]⟩
abbrev S8x1024x64x128 : Shape := ⟨4, ![8, 1024, 64, 128]⟩
abbrev S1x1x1x128 : Shape := ⟨4, ![1, 1, 1, 128]⟩
abbrev S8x1024x128 : Shape := ⟨3, ![8, 1024, 128]⟩
abbrev S8192x128 : Shape := ⟨2, ![8192, 128]⟩

abbrev nBuf : Space → Nat
  | .hbm => 180
  | .vmem => 0
  | .smem => 0
  | _ => 0

abbrev hbmTy0_0 (i : Nat) : BufTy := match i % 128 with
  | 0 => ⟨S8x64x1024, .i32⟩
  | 1 => ⟨S8x64x1024, .f32⟩
  | 2 => ⟨S8x1024x3, .f32⟩
  | 3 => ⟨S16384x3, .f32⟩
  | 4 => ⟨S16384x3, .f32⟩
  | 5 => ⟨S6x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64x128, .f32⟩
  | 14 => ⟨S128, .f32⟩
  | 15 => ⟨S128, .f32⟩
  | 16 => ⟨S128, .f32⟩
  | 17 => ⟨S8x2048x3, .f32⟩
  | 18 => ⟨S8x2048x3, .f32⟩
  | 19 => ⟨S8x1024x64, .i32⟩
  | 20 => ⟨S8x1024x64, .f32⟩
  | 21 => ⟨S_, .f32⟩
  | 22 => ⟨S8x1024x64, .f32⟩
  | 23 => ⟨S8x1024x64, .i1⟩
  | 24 => ⟨S8x65536x1, .i32⟩
  | 25 => ⟨S_, .i32⟩
  | 26 => ⟨S8x65536x1, .i32⟩
  | 27 => ⟨S8x65536x1, .i1⟩
  | 28 => ⟨S_, .i32⟩
  | 29 => ⟨S8x65536x1, .i32⟩
  | 30 => ⟨S8x65536x1, .i32⟩
  | 31 => ⟨S8x65536x1, .i32⟩
  | 32 => ⟨S8x65536x3, .f32⟩
  | 33 => ⟨S8x1024x64x3, .f32⟩
  | 34 => ⟨S8x65536x1, .i32⟩
  | 35 => ⟨S_, .i32⟩
  | 36 => ⟨S8x65536x1, .i32⟩
  | 37 => ⟨S8x65536x1, .i1⟩
  | 38 => ⟨S_, .i32⟩
  | 39 => ⟨S8x65536x1, .i32⟩
  | 40 => ⟨S8x65536x1, .i32⟩
  | 41 => ⟨S8x65536x1, .i32⟩
  | 42 => ⟨S8x65536x3, .f32⟩
  | 43 => ⟨S8x1024x64x3, .f32⟩
  | 44 => ⟨S8x1024x1x3, .f32⟩
  | 45 => ⟨S8x1024x64x3, .f32⟩
  | 46 => ⟨S8x1024x64x3, .f32⟩
  | 47 => ⟨S8x1024x64x6, .f32⟩
  | 48 => ⟨S8x1024x64x1, .i1⟩
  | 49 => ⟨S8x1024x64x1, .f32⟩
  | 50 => ⟨S_, .f32⟩
  | 51 => ⟨S_, .f32⟩
  | 52 => ⟨S_, .f32⟩
  | 53 => ⟨S_, .f32⟩
  | 54 => ⟨S8x1024x64x64, .f32⟩
  | 55 => ⟨S1x1x1x64, .f32⟩
  | 56 => ⟨S8x1024x64x64, .f32⟩
  | 57 => ⟨S8x1024x64x64, .f32⟩
  | 58 => ⟨S_, .f32⟩
  | 59 => ⟨S8x1024x64x64, .f32⟩
  | 60 => ⟨S8x1024x64x64, .f32⟩
  | 61 => ⟨S8x1024x64x64, .f32⟩
  | 62 => ⟨S8x1024x64x64, .f32⟩
  | 63 => ⟨S_, .f32⟩
  | 64 => ⟨S64, .f32⟩
  | 65 => ⟨S64, .f32⟩
  | 66 => ⟨S64, .f32⟩
  | 67 => ⟨S1x1x1x64, .f32⟩
  | 68 => ⟨S8x1024x64x64, .f32⟩
  | 69 => ⟨S8x1024x64x64, .f32⟩
  | 70 => ⟨S8x1024x64x64, .f32⟩
  | 71 => ⟨S8x1024x64x64, .f32⟩
  | 72 => ⟨S8x1024x64x64, .f32⟩
  | 73 => ⟨S_, .f32⟩
  | 74 => ⟨S64, .f32⟩
  | 75 => ⟨S64, .f32⟩
  | 76 => ⟨S64, .f32⟩
  | 77 => ⟨S1x1x1x64, .f32⟩
  | 78 => ⟨S8x1024x64x64, .f32⟩
  | 79 => ⟨S8x1024x64x64, .f32⟩
  | 80 => ⟨S_, .f32⟩
  | 81 => ⟨S64, .f32⟩
  | 82 => ⟨S64, .f32⟩
  | 83 => ⟨S64, .f32⟩
  | 84 => ⟨S1x1x1x64, .f32⟩
  | 85 => ⟨S8x1024x64x64, .f32⟩
  | 86 => ⟨S8x1024x64x64, .f32⟩
  | 87 => ⟨S1x1x1x64, .f32⟩
  | 88 => ⟨S8x1024x64x64, .f32⟩
  | 89 => ⟨S8x1024x64x64, .f32⟩
  | 90 => ⟨S1x1x1x64, .f32⟩
  | 91 => ⟨S8x1024x64x64, .f32⟩
  | 92 => ⟨S8x1024x64x64, .f32⟩
  | 93 => ⟨S8x1024x64x64, .f32⟩
  | 94 => ⟨S1x1x1x64, .f32⟩
  | 95 => ⟨S8x1024x64x64, .f32⟩
  | 96 => ⟨S8x1024x64x64, .f32⟩
  | 97 => ⟨S_, .f32⟩
  | 98 => ⟨S8x1024x64x64, .f32⟩
  | 99 => ⟨S8x1024x64x64, .f32⟩
  | 100 => ⟨S8x1024x64x64, .f32⟩
  | 101 => ⟨S8x1024x64x64, .f32⟩
  | 102 => ⟨S_, .f32⟩
  | 103 => ⟨S64, .f32⟩
  | 104 => ⟨S64, .f32⟩
  | 105 => ⟨S64, .f32⟩
  | 106 => ⟨S1x1x1x64, .f32⟩
  | 107 => ⟨S8x1024x64x64, .f32⟩
  | 108 => ⟨S8x1024x64x64, .f32⟩
  | 109 => ⟨S8x1024x64x64, .f32⟩
  | 110 => ⟨S8x1024x64x64, .f32⟩
  | 111 => ⟨S8x1024x64x64, .f32⟩
  | 112 => ⟨S_, .f32⟩
  | 113 => ⟨S64, .f32⟩
  | 114 => ⟨S64, .f32⟩
  | 115 => ⟨S64, .f32⟩
  | 116 => ⟨S1x1x1x64, .f32⟩
  | 117 => ⟨S8x1024x64x64, .f32⟩
  | 118 => ⟨S8x1024x64x64, .f32⟩
  | 119 => ⟨S_, .f32⟩
  | 120 => ⟨S64, .f32⟩
  | 121 => ⟨S64, .f32⟩
  | 122 => ⟨S64, .f32⟩
  | 123 => ⟨S1x1x1x64, .f32⟩
  | 124 => ⟨S8x1024x64x64, .f32⟩
  | 125 => ⟨S8x1024x64x64, .f32⟩
  | 126 => ⟨S1x1x1x64, .f32⟩
  | 127 => ⟨S8x1024x64x64, .f32⟩
  | _ => ⟨S8x64x1024, .i32⟩

abbrev hbmTy0_1 (i : Nat) : BufTy := match i % 128 with
  | 0 => ⟨S8x1024x64x64, .f32⟩
  | 1 => ⟨S1x1x1x64, .f32⟩
  | 2 => ⟨S8x1024x64x64, .f32⟩
  | 3 => ⟨S8x1024x64x64, .f32⟩
  | 4 => ⟨S8x1024x64x128, .f32⟩
  | 5 => ⟨S1x1x1x128, .f32⟩
  | 6 => ⟨S8x1024x64x128, .f32⟩
  | 7 => ⟨S8x1024x64x128, .f32⟩
  | 8 => ⟨S_, .f32⟩
  | 9 => ⟨S8x1024x64x128, .f32⟩
  | 10 => ⟨S8x1024x64x128, .f32⟩
  | 11 => ⟨S8x1024x64x128, .f32⟩
  | 12 => ⟨S8x1024x64x128, .f32⟩
  | 13 => ⟨S_, .f32⟩
  | 14 => ⟨S128, .f32⟩
  | 15 => ⟨S128, .f32⟩
  | 16 => ⟨S128, .f32⟩
  | 17 => ⟨S1x1x1x128, .f32⟩
  | 18 => ⟨S8x1024x64x128, .f32⟩
  | 19 => ⟨S8x1024x64x128, .f32⟩
  | 20 => ⟨S8x1024x64x128, .f32⟩
  | 21 => ⟨S8x1024x64x128, .f32⟩
  | 22 => ⟨S8x1024x64x128, .f32⟩
  | 23 => ⟨S_, .f32⟩
  | 24 => ⟨S128, .f32⟩
  | 25 => ⟨S128, .f32⟩
  | 26 => ⟨S128, .f32⟩
  | 27 => ⟨S1x1x1x128, .f32⟩
  | 28 => ⟨S8x1024x64x128, .f32⟩
  | 29 => ⟨S8x1024x64x128, .f32⟩
  | 30 => ⟨S_, .f32⟩
  | 31 => ⟨S128, .f32⟩
  | 32 => ⟨S128, .f32⟩
  | 33 => ⟨S128, .f32⟩
  | 34 => ⟨S1x1x1x128, .f32⟩
  | 35 => ⟨S8x1024x64x128, .f32⟩
  | 36 => ⟨S8x1024x64x128, .f32⟩
  | 37 => ⟨S1x1x1x128, .f32⟩
  | 38 => ⟨S8x1024x64x128, .f32⟩
  | 39 => ⟨S8x1024x64x128, .f32⟩
  | 40 => ⟨S1x1x1x128, .f32⟩
  | 41 => ⟨S8x1024x64x128, .f32⟩
  | 42 => ⟨S8x1024x64x128, .f32⟩
  | 43 => ⟨S8x1024x64x1, .i1⟩
  | 44 => ⟨S_, .f32⟩
  | 45 => ⟨S_, .f32⟩
  | 46 => ⟨S8x1024x64x128, .i1⟩
  | 47 => ⟨S8x1024x64x128, .f32⟩
  | 48 => ⟨S8x1024x64x128, .f32⟩
  | 49 => ⟨S_, .f32⟩
  | 50 => ⟨S8x1024x128, .f32⟩
  | 51 => ⟨S8192x128, .f32⟩
  | _ => ⟨S8x64x1024, .i32⟩

abbrev hbmTy (i : Nat) : BufTy := match i / 128 with
  | 0 => hbmTy0_0 i
  | 1 => hbmTy0_1 i
  | _ => ⟨S8x64x1024, .i32⟩

abbrev bufTy : (tb : Table) → Fin (tcTables nBuf tb) → BufTy
  | .hbm, ⟨i, _⟩ => hbmTy i
  | _, _ => ⟨S8x64x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_0 : Ref sig .tc := ⟨.hbm, 50, rfl⟩
abbrev main_v18 : Ref sig .tc := ⟨.hbm, 51, rfl⟩
abbrev main_cst_1 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_2 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_3 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_4 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_5 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_6 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_7 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_8 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_9 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_10 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_11 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_12 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_13 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_14 : Ref sig .tc := ⟨.hbm, 172, rfl⟩
abbrev main_call2_v0 : Ref sig .tc := ⟨.hbm, 173, rfl⟩
abbrev main_call2_v1 : Ref sig .tc := ⟨.hbm, 174, rfl⟩
abbrev main_call2_v2 : Ref sig .tc := ⟨.hbm, 175, rfl⟩
abbrev main_v126 : Ref sig .tc := ⟨.hbm, 176, rfl⟩
abbrev main_cst_15 : Ref sig .tc := ⟨.hbm, 177, rfl⟩
abbrev main_v127 : Ref sig .tc := ⟨.hbm, 178, rfl⟩
abbrev main_v128 : Ref sig .tc := ⟨.hbm, 179, rfl⟩

abbrev nD : Nat := 1
abbrev τ : Topo := Topo.v7x

variable {F : FTy → Type} [FloatOps F]
-- ==== SelIdeal.lean ====
abbrev S16384x3 : Shape := ⟨2, ![16384, 3]⟩
abbrev S8x2048x3 : Shape := ⟨3, ![8, 2048, 3]⟩
abbrev S8x1024x1 : Shape := ⟨3, ![8, 1024, 1]⟩
abbrev S8x1024x3 : Shape := ⟨3, ![8, 1024, 3]⟩
abbrev S8x64x1024 : Shape := ⟨3, ![8, 64, 1024]⟩
abbrev S1x2048x3 : Shape := ⟨3, ![1, 2048, 3]⟩
abbrev S1x1024x1 : Shape := ⟨3, ![1, 1024, 1]⟩
abbrev S1x1024x3 : Shape := ⟨3, ![1, 1024, 3]⟩
abbrev S1x64x1024 : Shape := ⟨3, ![1, 64, 1024]⟩
abbrev S2048x3 : Shape := ⟨2, ![2048, 3]⟩
abbrev S1x2048 : Shape := ⟨2, ![1, 2048]⟩
abbrev S1x3 : Shape := ⟨2, ![1, 3]⟩
abbrev S2048 : Shape := ⟨1, ![2048]⟩
abbrev S1x1x3 : Shape := ⟨3, ![1, 1, 3]⟩
abbrev S1x1 : Shape := ⟨2, ![1, 1]⟩
abbrev S1x1x1 : Shape := ⟨3, ![1, 1, 1]⟩
abbrev S1x1x2048 : Shape := ⟨3, ![1, 1, 2048]⟩
abbrev S1 : Shape := ⟨1, ![1]⟩
abbrev S1024x3 : Shape := ⟨2, ![1024, 3]⟩
abbrev S1024x2048 : Shape := ⟨2, ![1024, 2048]⟩
abbrev S1024x1 : Shape := ⟨2, ![1024, 1]⟩
abbrev S1024 : Shape := ⟨1, ![1024]⟩
abbrev S2048x1 : Shape := ⟨2, ![2048, 1]⟩
abbrev S1x1024 : Shape := ⟨2, ![1, 1024]⟩
abbrev S1x1x1024 : Shape := ⟨3, ![1, 1, 1024]⟩
abbrev S8192x3 : Shape := ⟨2, ![8192, 3]⟩
abbrev S8 : Shape := ⟨1, ![8]⟩
abbrev S8x1024 : Shape := ⟨2, ![8, 1024]⟩
abbrev S8192 : Shape := ⟨1, ![8192]⟩
abbrev S_ : Shape := ⟨0, ![]⟩
abbrev S8x1 : Shape := ⟨2, ![8, 1]⟩

abbrev nBuf : Space → Nat
  | .hbm => 19
  | .vmem => 10
  | .smem => 0
  | _ => 0

abbrev bufTy : (tb : Table) → Fin (tcTables nBuf tb) → BufTy
  | .hbm, ⟨0, _⟩ => ⟨S16384x3, .f32⟩
  | .hbm, ⟨1, _⟩ => ⟨S8x2048x3, .f32⟩
  | .hbm, ⟨2, _⟩ => ⟨S8x1024x1, .i32⟩
  | .hbm, ⟨3, _⟩ => ⟨S8x1024x3, .f32⟩
  | .hbm, ⟨4, _⟩ => ⟨S8x64x1024, .i32⟩
  | .hbm, ⟨5, _⟩ => ⟨S8x64x1024, .f32⟩
  | .hbm, ⟨6, _⟩ => ⟨S8192x3, .f32⟩
  | .hbm, ⟨7, _⟩ => ⟨S8, .i32⟩
  | .hbm, ⟨8, _⟩ => ⟨S8x1024, .i32⟩
  | .hbm, ⟨9, _⟩ => ⟨S8192, .i32⟩
  | .hbm, ⟨10, _⟩ => ⟨S8x1024, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8x1, .i32⟩
  | .hbm, ⟨16, _⟩ => ⟨S8x1024, .i32⟩
  | .hbm, ⟨17, _⟩ => ⟨S8x1024, .i32⟩
  | .hbm, ⟨18, _⟩ => ⟨S8192, .i32⟩
  | .local _ .vmem, ⟨0, _⟩ => ⟨S1x2048x3, .f32⟩
  | .local _ .vmem, ⟨1, _⟩ => ⟨S1x2048x3, .f32⟩
  | .local _ .vmem, ⟨2, _⟩ => ⟨S1x1024x1, .i32⟩
  | .local _ .vmem, ⟨3, _⟩ => ⟨S1x1024x1, .i32⟩
  | .local _ .vmem, ⟨4, _⟩ => ⟨S1x1024x3, .f32⟩
  | .local _ .vmem, ⟨5, _⟩ => ⟨S1x1024x3, .f32⟩
  | .local _ .vmem, ⟨6, _⟩ => ⟨S1x64x1024, .i32⟩
  | .local _ .vmem, ⟨7, _⟩ => ⟨S1x64x1024, .i32⟩
  | .local _ .vmem, ⟨8, _⟩ => ⟨S1x64x1024, .f32⟩
  | .local _ .vmem, ⟨9, _⟩ => ⟨S1x64x1024, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c1_i32 : BitVec 32 := 1#32
  let c1023_i32 : BitVec 32 := 1023#32
  let v16 : BitVec 32 := Scalar.addi c1_i32 c1023_i32
  let c1_i32_8 : BitVec 32 := 1#32
  ⟨c1_i32, v16, c1_i32_8⟩
def k0_off1 (v72 : BitVec 32) : Fin 3 → Nat :=
  let c0_21 : Index := 0#32
  let v73 : Index := Scalar.indexCast v72
  let c0_22 : Index := 0#32
  ![0, v73.toNat, 0]

def k0_chk1 (v72 : BitVec 32) : Prop :=
  (∀ a, (k0_off1 v72) a + S1x1x3.size a ≤ S1x2048x3.size a)
theorem k0_off1_inb : ∀ (v72 : BitVec 32) (k0_hw1 : k0_chk1 v72), ∀ a, (k0_off1 v72) a + S1x1x3.size a ≤ S1x2048x3.size a := fun v72 k0_hw1 => k0_hw1

def k0_off2 (k0_t1 : Fin k0_t1_loop.trips) : Fin 3 → Nat :=
  let c0_24 : Index := 0#32
  let c1_i32 : BitVec 32 := 1#32
  let c1_i32_8 : BitVec 32 := 1#32
  let arg6 : BitVec 32 := Scf.iv c1_i32 c1_i32_8 k0_t1
  let v81 : Index := Scalar.indexCast arg6
  let c0_25 : Index := 0#32
  ![0, v81.toNat, 0]
def k0_off3 (k0_t1 : Fin k0_t1_loop.trips) : Fin 3 → Nat :=
  let c0_26 : Index := 0#32
  let c1_i32 : BitVec 32 := 1#32
  let c1_i32_8 : BitVec 32 := 1#32
  let arg6 : BitVec 32 := Scf.iv c1_i32 c1_i32_8 k0_t1
  let v86 : Index := Scalar.indexCast arg6
  let c0_27 : Index := 0#32
  ![0, v86.toNat, 0]
@[reducible] def k0_t2_loop : Scf.Loop 32 :=
  let c0_i32_16 : BitVec 32 := 0#32
  let c64_i32 : BitVec 32 := 64#32
  let v59 : BitVec 32 := Scalar.addi c0_i32_16 c64_i32
  let c1_i32_17 : BitVec 32 := 1#32
  ⟨c0_i32_16, v59, c1_i32_17⟩
def k0_off4 (k0_t2 : Fin k0_t2_loop.trips) : Fin 3 → Nat :=
  let c0_21 : Index := 0#32
  let c0_i32_16 : BitVec 32 := 0#32
  let c1_i32_17 : BitVec 32 := 1#32
  let arg6 : BitVec 32 := Scf.iv c0_i32_16 c1_i32_17 k0_t2
  let v69 : Index := Scalar.indexCast arg6
  let c0_22 : Index := 0#32
  ![0, v69.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FpsIdeal.lean ====
abbrev S16384x3 : Shape := ⟨2, ![16384, 3]⟩
abbrev S8x2048x3 : Shape := ⟨3, ![8, 2048, 3]⟩
abbrev S_ : Shape := ⟨0, ![]⟩
abbrev S8x1024 : Shape := ⟨2, ![8, 1024]⟩
abbrev S8x1x3 : Shape := ⟨3, ![8, 1, 3]⟩
abbrev S8x2048 : Shape := ⟨2, ![8, 2048]⟩
abbrev S8 : Shape := ⟨1, ![8]⟩
abbrev S8x1 : Shape := ⟨2, ![8, 1]⟩
abbrev S8x1x1 : Shape := ⟨3, ![8, 1, 1]⟩
abbrev S8x1024x1 : Shape := ⟨3, ![8, 1024, 1]⟩
abbrev S8x1024x3 : Shape := ⟨3, ![8, 1024, 3]⟩
abbrev S8192x3 : Shape := ⟨2, ![8192, 3]⟩
abbrev S8192 : Shape := ⟨1, ![8192]⟩

abbrev nBuf : Space → Nat
  | .hbm => 73
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S8x2048x3, .f32⟩
  | .hbm, ⟨2, _⟩ => ⟨S_, .i32⟩
  | .hbm, ⟨3, _⟩ => ⟨S8x1024, .i32⟩
  | .hbm, ⟨4, _⟩ => ⟨S8x1x3, .f32⟩
  | .hbm, ⟨5, _⟩ => ⟨S8x2048x3, .f32⟩
  | .hbm, ⟨6, _⟩ => ⟨S8x2048x3, .f32⟩
  | .hbm, ⟨7, _⟩ => ⟨S8x2048x3, .f32⟩
  | .hbm, ⟨8, _⟩ => ⟨S_, .f32⟩
  | .hbm, ⟨9, _⟩ => ⟨S8x2048, .f32⟩
  | .hbm, ⟨10, _⟩ => ⟨S_, .i32⟩
  | .hbm, ⟨11, _⟩ => ⟨S_, .i32⟩
  | .hbm, ⟨12, _⟩ => ⟨S8x2048x3, .f32⟩
  | .hbm, ⟨13, _⟩ => ⟨S_, .i32⟩
  | .hbm, ⟨14, _⟩ => ⟨S_, .i32⟩
  | .hbm, ⟨15, _⟩ => ⟨S8x1024, .i32⟩
  | .hbm, ⟨16, _⟩ => ⟨S8x2048, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S8x2048, .i32⟩
  | .hbm, ⟨22, _⟩ => ⟨S_, .f32⟩
  | .hbm, ⟨23, _⟩ => ⟨S_, .i32⟩
  | .hbm, ⟨24, _⟩ => ⟨S8, .f32⟩
  | .hbm, ⟨25, _⟩ => ⟨S8, .i32⟩
  | .hbm, ⟨26, _⟩ => ⟨S8x1, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S8x1024, .i32⟩
  | .hbm, ⟨35, _⟩ => ⟨S8x1x1, .i32⟩
  | .hbm, ⟨36, _⟩ => ⟨S_, .i32⟩
  | .hbm, ⟨37, _⟩ => ⟨S8x1x1, .i32⟩
  | .hbm, ⟨38, _⟩ => ⟨S8x1x1, .i1⟩
  | .hbm, ⟨39, _⟩ => ⟨S_, .i32⟩
  | .hbm, ⟨40, _⟩ => ⟨S8x1x1, .i32⟩
  | .hbm, ⟨41, _⟩ => ⟨S8x1x1, .i32⟩
  | .hbm, ⟨42, _⟩ => ⟨S8x1x1, .i32⟩
  | .hbm, ⟨43, _⟩ => ⟨S8x1x3, .f32⟩
  | .hbm, ⟨44, _⟩ => ⟨S8x2048x3, .f32⟩
  | .hbm, ⟨45, _⟩ => ⟨S8x2048x3, .f32⟩
  | .hbm, ⟨46, _⟩ => ⟨S8x2048x3, .f32⟩
  | .hbm, ⟨47, _⟩ => ⟨S_, .f32⟩
  | .hbm, ⟨48, _⟩ => ⟨S8x2048, .f32⟩
  | .hbm, ⟨49, _⟩ => ⟨S8x2048, .f32⟩
  | .hbm, ⟨50, _⟩ => ⟨S_, .i32⟩
  | .hbm, ⟨51, _⟩ => ⟨S_, .i32⟩
  | .hbm, ⟨52, _⟩ => ⟨S8x1024x1, .i32⟩
  | .hbm, ⟨53, _⟩ => ⟨S_, .i32⟩
  | .hbm, ⟨54, _⟩ => ⟨S8x1024x1, .i32⟩
  | .hbm, ⟨55, _⟩ => ⟨S8x1024x1, .i1⟩
  | .hbm, ⟨56, _⟩ => ⟨S_, .i32⟩
  | .hbm, ⟨57, _⟩ => ⟨S8x1024x1, .i32⟩
  | .hbm, ⟨58, _⟩ => ⟨S8x1024x1, .i32⟩
  | .hbm, ⟨59, _⟩ => ⟨S8x1024x1, .i32⟩
  | .hbm, ⟨60, _⟩ => ⟨S8x1024x3, .f32⟩
  | .hbm, ⟨61, _⟩ => ⟨S8192x3, .f32⟩
  | .hbm, ⟨62, _⟩ => ⟨S8, .i32⟩
  | .hbm, ⟨63, _⟩ => ⟨S8x1024, .i32⟩
  | .hbm, ⟨64, _⟩ => ⟨S8192, .i32⟩
  | .hbm, ⟨65, _⟩ => ⟨S8, .i32⟩
  | .hbm, ⟨66, _⟩ => ⟨S_, .i32⟩
  | .hbm, ⟨67, _⟩ => ⟨S8, .i32⟩
  | .hbm, ⟨68, _⟩ => ⟨S8, .i32⟩
  | .hbm, ⟨69, _⟩ => ⟨S8x1, .i32⟩
  | .hbm, ⟨70, _⟩ => ⟨S8x1024, .i32⟩
  | .hbm, ⟨71, _⟩ => ⟨S8x1024, .i32⟩
  | .hbm, ⟨72, _⟩ => ⟨S8192, .i32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_c_0 : Ref sig .tc := ⟨.hbm, 10, rfl⟩
abbrev main_c_1 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_while0c_c_7 : Ref sig .tc := ⟨.hbm, 17, rfl⟩
abbrev main_while0c_v21 : Ref sig .tc := ⟨.hbm, 18, rfl⟩
abbrev main_while0b_c_7 : Ref sig .tc := ⟨.hbm, 19, rfl⟩
abbrev main_while0b_v21 : Ref sig .tc := ⟨.hbm, 20, rfl⟩
abbrev main_while0b_call0_v0 : Ref sig .tc := ⟨.hbm, 21, rfl⟩
abbrev main_while0b_call0_cst : Ref sig .tc := ⟨.hbm, 22, rfl⟩
abbrev main_while0b_call0_c : Ref sig .tc := ⟨.hbm, 23, rfl⟩
abbrev main_while0b_call0_v1_0 : Ref sig .tc := ⟨.hbm, 24, rfl⟩
abbrev main_while0b_v22 : Ref sig .tc := ⟨.hbm, 25, rfl⟩
abbrev main_while0b_v23 : Ref sig .tc := ⟨.hbm, 26, rfl⟩
abbrev main_while0b_c_8 : Ref sig .tc := ⟨.hbm, 27, rfl⟩
abbrev main_while0b_v24 : Ref sig .tc := ⟨.hbm, 28, rfl⟩
abbrev main_while0b_v25 : Ref sig .tc := ⟨.hbm, 29, rfl⟩
abbrev main_while0b_c_9 : Ref sig .tc := ⟨.hbm, 30, rfl⟩
abbrev main_while0b_v26 : Ref sig .tc := ⟨.hbm, 31, rfl⟩
abbrev main_while0b_v27 : Ref sig .tc := ⟨.hbm, 32, rfl⟩
abbrev main_while0b_c_10 : Ref sig .tc := ⟨.hbm, 33, rfl⟩
abbrev main_while0b_v28 : Ref sig .tc := ⟨.hbm, 34, rfl⟩
abbrev main_while0b_v29 : Ref sig .tc := ⟨.hbm, 35, rfl⟩
abbrev main_while0b_call1_c : Ref sig .tc := ⟨.hbm, 36, rfl⟩
abbrev main_while0b_call1_v0 : Ref sig .tc := ⟨.hbm, 37, rfl⟩
abbrev main_while0b_call1_v1 : Ref sig .tc := ⟨.hbm, 38, rfl⟩
abbrev main_while0b_call1_c_0 : Ref sig .tc := ⟨.hbm, 39, rfl⟩
abbrev main_while0b_call1_v2 : Ref sig .tc := ⟨.hbm, 40, rfl⟩
abbrev main_while0b_call1_v3 : Ref sig .tc := ⟨.hbm, 41, rfl⟩
abbrev main_while0b_call1_v4 : Ref sig .tc := ⟨.hbm, 42, rfl⟩
abbrev main_while0b_v30 : Ref sig .tc := ⟨.hbm, 43, rfl⟩
abbrev main_while0b_v31 : Ref sig .tc := ⟨.hbm, 44, rfl⟩
abbrev main_while0b_v32 : Ref sig .tc := ⟨.hbm, 45, rfl⟩
abbrev main_while0b_v33 : Ref sig .tc := ⟨.hbm, 46, rfl⟩
abbrev main_while0b_cst_11 : Ref sig .tc := ⟨.hbm, 47, rfl⟩
abbrev main_while0b_v34 : Ref sig .tc := ⟨.hbm, 48, rfl⟩
abbrev main_while0b_v35 : Ref sig .tc := ⟨.hbm, 49, rfl⟩
abbrev main_while0b_c_12 : Ref sig .tc := ⟨.hbm, 50, rfl⟩
abbrev main_while0b_v36 : Ref sig .tc := ⟨.hbm, 51, rfl⟩
abbrev main_v8 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_c_2 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩

abbrev nD : Nat := 1
abbrev τ : Topo := Topo.v7x

variable {F : FTy → Type} [FloatOps F]

abbrev main_while0_count : Scf.Loop 32 := ⟨0#32, 1023#32, 1#32⟩
-- ==== Proof.Math.lean ====
/- One layer's batch normalisation over the valid edges, on real values: the accumulated form (sums of z and z²) and the
   centred form (mean, then the mean squared distance from it) are the same number, and that number is real. -/
module

public import Idealize.ShloMosaic.PureOps.Ideal.Laws

@[expose] public section

noncomputable section

namespace Cert.Mlp

open Idealize.ShloMosaic

/-- The value is a real number. -/
def IsR (x : EReal) : Prop := ∃ r : ℝ, x = (r : EReal)

theorem coe_max (a b : ℝ) : ((max a b : ℝ) : EReal) = max (a : EReal) (b : EReal) :=
  EReal.coe_strictMono.monotone.map_max

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.add {a b : EReal} (ha : IsR a) (hb : IsR b) : IsR (a + b) := by
  obtain ⟨x, rfl⟩ := ha; obtain ⟨y, rfl⟩ := hb; exact ⟨x + y, (EReal.coe_add x y).symm⟩
theorem IsR.sub {a b : EReal} (ha : IsR a) (hb : IsR b) : IsR (a - b) := by
  obtain ⟨x, rfl⟩ := ha; obtain ⟨y, rfl⟩ := hb; exact ⟨x - y, (EReal.coe_sub x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.sup {a b : EReal} (ha : IsR a) (hb : IsR b) : IsR (max a b) := by
  obtain ⟨x, rfl⟩ := ha; obtain ⟨y, rfl⟩ := hb; exact ⟨_, (coe_max x y).symm⟩
theorem IsR.zero : IsR 0 := ⟨0, rfl⟩
theorem IsR.one : IsR 1 := ⟨1, rfl⟩
theorem IsR.sum {ι : Type*} (s : Finset ι) (f : ι → EReal) (h : ∀ i, IsR (f i)) : IsR (∑ i ∈ s, f i) := by
  choose g hg using h
  exact ⟨_, (Finset.sum_congr rfl fun i _ => hg i).trans (coe_sum s g).symm⟩

/-- A float whose absolute value lies below infinity is real. -/
theorem IsR.of_lt_top {x : EReal} (h : max x (-x) < ⊤) : IsR x := by
  induction x using EReal.rec with
  | bot => simp at h
  | top => simp at h
  | coe r => exact ⟨r, rfl⟩

/-- The small number under the square root. -/
abbrev eps : EReal := Ideal.ofBits .f32 925353388#32

theorem eps_pos : ∃ r : ℝ, 0 < r ∧ eps = (r : EReal) := by
  refine ⟨((2 ^ 23 + 2606508 : Nat) : ℝ) * (2 : ℝ) ^ ((110 : Int) - 127 - 23), by positivity, ?_⟩
  unfold eps
  simp [Ideal.ofBits, Ideal.ieee]

/-- The accumulated form: scale by the reciprocal root of the clamped difference of the mean square and the squared mean. -/
def normK (h s ss cnt g bt : EReal) : EReal :=
  (h - Ideal.div s (max cnt 1))
    * (g * Ideal.rsqrt (max (Ideal.div ss (max cnt 1) - Ideal.div s (max cnt 1) * Ideal.div s (max cnt 1)) 0 + eps)) + bt

/-- The centred form. -/
def normR (h mean var g bt : EReal) : EReal := Ideal.div (h - mean) (Ideal.sqrt (var + eps)) * g + bt

/-- The mean of the values with weight one. -/
def meanR {ι : Type*} [Fintype ι] (z w : ι → EReal) : EReal := Ideal.div (∑ i, z i * w i) (max (∑ i, w i) 1)

/-- Their mean squared distance from it. -/
def varR {ι : Type*} [Fintype ι] (z w : ι → EReal) : EReal :=
  Ideal.div (∑ i, (z i - meanR z w) * (z i - meanR z w) * w i) (max (∑ i, w i) 1)

theorem real_var {ι : Type*} [Fintype ι] (z w : ι → ℝ) (hw : ∀ i, w i = 0 ∨ w i = 1) (N mu : ℝ) (hN : N = max (∑ i, w i) 1)
    (hmu : mu = (∑ i, z i * w i) * (1 / N)) :
    (∑ i, (z i - mu) * (z i - mu) * w i) * (1 / N) = (∑ i, z i * (z i * w i)) * (1 / N) - mu * mu := by
  have hNpos : 0 < N := by rw [hN]; exact lt_of_lt_of_le one_pos (le_max_right _ _)
  have hsum : ∑ i, (z i - mu) * (z i - mu) * w i = ∑ i, z i * (z i * w i) - 2 * mu * ∑ i, z i * w i + mu * mu * ∑ i, w i := by
    rw [Finset.mul_sum, Finset.mul_sum, ← Finset.sum_sub_distrib, ← Finset.sum_add_distrib]
    exact Finset.sum_congr rfl fun i _ => by ring
  have hz : ∑ i, z i * w i = mu * N := by rw [hmu]; field_simp
  have hcnt : mu * mu * ∑ i, w i = mu * mu * N := by
    by_cases h0 : ∀ i, w i = 0
    · have : ∑ i, z i * w i = 0 := Finset.sum_eq_zero fun i _ => by rw [h0 i, mul_zero]
      rw [this] at hmu
      rw [hmu]; ring
    · have hge : (1 : ℝ) ≤ ∑ i, w i := by
        simp only [not_forall] at h0
        obtain ⟨i, hi⟩ := h0
        have h1 : w i = 1 := (hw i).resolve_left hi
        rw [← h1]
        exact Finset.single_le_sum (fun j _ => by rcases hw j with h | h <;> rw [h] <;> norm_num) (Finset.mem_univ i)
      rw [hN, max_eq_left hge]
  rw [hsum, hcnt, hz]
  field_simp
  ring

/-- The two forms agree, whatever the weights g and bt; where these are real, so is the value. -/
theorem norm_eq {ι : Type*} [Fintype ι] (z w : ι → EReal) (hz : ∀ i, IsR (z i)) (hw : ∀ i, w i = 0 ∨ w i = 1)
    (g bt : EReal) (e : ι) :
    normK (z e) (∑ i, z i * w i) (∑ i, z i * (z i * w i)) (∑ i, w i) g bt = normR (z e) (meanR z w) (varR z w) g bt
      ∧ (IsR g → IsR bt → IsR (normR (z e) (meanR z w) (varR z w) g bt)) := by
  choose zr hzr using hz
  have hw' : ∀ i, ∃ r : ℝ, w i = (r : EReal) ∧ (r = 0 ∨ r = 1) := fun i => by
    rcases hw i with h | h
    · exact ⟨0, h, Or.inl rfl⟩
    · exact ⟨1, h, Or.inr rfl⟩
  choose wr hwr hw01 using hw'
  obtain ⟨er, herpos, her⟩ := eps_pos
  obtain rfl : z = fun i => (zr i : EReal) := funext hzr
  obtain rfl : w = fun i => (wr i : EReal) := funext hwr
  have hs : ∑ i, (zr i : EReal) * (wr i : EReal) = ((∑ i, zr i * wr i : ℝ) : EReal) := by
    rw [coe_sum]; exact Finset.sum_congr rfl fun i _ => (EReal.coe_mul _ _).symm
  have hss : ∑ i, (zr i : EReal) * ((zr i : EReal) * (wr i : EReal)) = ((∑ i, zr i * (zr i * wr i) : ℝ) : EReal) := by
    rw [coe_sum]; exact Finset.sum_congr rfl fun i _ => by rw [EReal.coe_mul, EReal.coe_mul]
  have hcnt : max (∑ i, (wr i : EReal)) 1 = ((max (∑ i, wr i) 1 : ℝ) : EReal) := by
    rw [coe_max, coe_sum]; rfl
  have hNpos : 0 < max (∑ i, wr i) (1 : ℝ) := lt_of_lt_of_le one_pos (le_max_right _ _)
  generalize hN : max (∑ i, wr i) (1 : ℝ) = N at hNpos hcnt
  have hmean : meanR (fun i => (zr i : EReal)) (fun i => (wr i : EReal)) = (((∑ i, zr i * wr i) * (1 / N) : ℝ) : EReal) := by
    unfold meanR
    rw [hcnt, hs, Ideal.div_coe hNpos.ne', ← EReal.coe_mul]
  generalize hmu : (∑ i, zr i * wr i) * (1 / N) = mu at hmean
  have hrv := real_var zr wr hw01 N mu hN.symm hmu.symm
  have hvar : varR (fun i => (zr i : EReal)) (fun i => (wr i : EReal))
      = (((∑ i, (zr i - mu) * (zr i - mu) * wr i) * (1 / N) : ℝ) : EReal) := by
    unfold varR
    rw [hcnt, hmean, Ideal.div_coe hNpos.ne', EReal.coe_mul, coe_sum]
    refine congrArg (· * _) (Finset.sum_congr rfl fun i _ => ?_)
    rw [EReal.coe_mul, EReal.coe_mul, EReal.coe_sub]
  have hvpos : 0 ≤ (∑ i, (zr i - mu) * (zr i - mu) * wr i) * (1 / N) := by
    refine mul_nonneg (Finset.sum_nonneg fun i _ => mul_nonneg (mul_self_nonneg _) ?_) (by positivity)
    rcases hw01 i with h | h <;> rw [h] <;> norm_num
  generalize hv : (∑ i, (zr i - mu) * (zr i - mu) * wr i) * (1 / N) = v at hvar hvpos hrv
  have hve : 0 < v + er := by linarith
  have hsq : 0 < Real.sqrt (v + er) := Real.sqrt_pos.mpr hve
  have hR : normR (zr e : EReal) (mu : EReal) (v : EReal) g bt
      = (((zr e - mu) * (1 / Real.sqrt (v + er)) : ℝ) : EReal) * g + bt := by
    unfold normR
    rw [her, ← EReal.coe_add, Ideal.sqrt_coe, if_neg (not_lt.mpr hve.le), ← EReal.coe_sub, Ideal.div_coe hsq.ne',
      ← EReal.coe_mul]
  rw [hmean, hvar, hR]
  refine ⟨?_, fun hg hbt => (IsR.mul ⟨_, rfl⟩ hg).add hbt⟩
  unfold normK
  rw [hs, hss, hcnt, Ideal.div_coe hNpos.ne', Ideal.div_coe hNpos.ne', ← EReal.coe_mul, ← EReal.coe_mul, hmu, ← EReal.coe_mul,
    ← EReal.coe_sub, ← EReal.coe_sub, ← hrv, ← EReal.coe_zero, ← coe_max, max_eq_left hvpos, her, ← EReal.coe_add, Ideal.rsqrt_coe,
    if_neg (not_lt.mpr hve.le), if_neg hve.ne', mul_comm g, ← mul_assoc, ← EReal.coe_mul, one_div]

/-- A linear layer and the positive part, of real values, is real. -/
theorem dense_real {κ : Type*} [Fintype κ] (h W : κ → EReal) (b : EReal) (hh : ∀ x, IsR (h x)) (hW : ∀ x, IsR (W x)) (hb : IsR b) :
    IsR (max (∑ x, h x * W x + b) 0) :=
  ((IsR.sum _ _ fun x => (hh x).mul (hW x)).add hb).sup IsR.zero

/-- A sum against the row of an identity matrix is the entry at its position. -/
theorem onehot_sum {n : Nat} (g : Fin n → EReal) (c : Fin n → EReal) (q : Fin n) (hc : ∀ p, c p = if p = q then 1 else 0) :
    ∑ p, c p * g p = g q := by
  rw [Finset.sum_eq_single q]
  · rw [hc, if_pos rfl, one_mul]
  · intro p _ hp; rw [hc, if_neg hp, zero_mul]
  · intro h; exact absurd (Finset.mem_univ q) h

end Cert.Mlp

end
-- ==== Proof.HostOps.lean ====
/- What the host's operations between the kernel's regions leave in their result buffers. -/
module

public import proofs.«01_k».proof.Proof.Gen.KernelIdeal.Frame
public import proofs.«01_k».proof.Proof.Math

@[expose] public section

set_option maxRecDepth 16384

noncomputable section

namespace Cert.KernelIdeal.Whole

open Cert.KernelIdeal Cert.KernelIdeal.Gen Idealize.ShloMosaic Idealize.ShloMosaic.TcCoe Idealize.SL

variable (V : Valuation τ sig (Elt Ideal))

theorem after0_main_call0_v0 : StableHlo.after (hostOps0 (F := Ideal)) V (Proc.devRef .tc main_call0_v0)
    = shapeCast S8x2048x3 (V (Proc.devRef .tc main_arg3) : S16384x3.Idx → Elt Ideal .f32) shapeCasts_S16384x3_S8x2048x3 := by
  after_results <;> rfl

theorem after0_main_call0_v1 : StableHlo.after (hostOps0 (F := Ideal)) V (Proc.devRef .tc main_call0_v1)
    = shapeCast S8x2048x3 (V (Proc.devRef .tc main_arg4) : S16384x3.Idx → Elt Ideal .f32) shapeCasts_S16384x3_S8x2048x3 := by
  after_results <;> rfl

theorem after0_main_call0_v3 : StableHlo.after (hostOps0 (F := Ideal)) V (Proc.devRef .tc main_call0_v3)
    = shapeCast S8x64x1024x1 (V (Proc.devRef .tc main_arg0) : S8x64x1024.Idx → Elt Ideal .i32) shapeCasts_S8x64x1024_S8x64x1024x1 := by
  after_results <;> rfl

theorem after0_main_call0_v4 : StableHlo.after (hostOps0 (F := Ideal)) V (Proc.devRef .tc main_call0_v4)
    = shapeCast S8x64x1024x1 (V (Proc.devRef .tc main_arg1) : S8x64x1024.Idx → Elt Ideal .f32) shapeCasts_S8x64x1024_S8x64x1024x1 := by
  after_results <;> rfl

theorem after0_main_call0_v5 : StableHlo.after (hostOps0 (F := Ideal)) V (Proc.devRef .tc main_call0_v5)
    = shapeCast S1x64 (V (Proc.devRef .tc main_arg6) : S64.Idx → Elt Ideal .f32) shapeCasts_S64_S1x64 := by
  after_results <;> rfl

theorem after1_main_call0_v7 : StableHlo.after (hostOps1 (F := Ideal)) V (Proc.devRef .tc main_call0_v7)
    = shapeCast S524288x1 (V (Proc.devRef .tc main_arg1) : S8x64x1024.Idx → Elt Ideal .f32) shapeCasts_S8x64x1024_S524288x1 := by
  after_results <;> rfl

theorem after1_main_call0_v8 : StableHlo.after (hostOps1 (F := Ideal)) V (Proc.devRef .tc main_call0_v8)
    = shapeCast S524288x64 (V (Proc.devRef .tc main_call0_v6_0) : S8x64x1024x64.Idx → Elt Ideal .f32) shapeCasts_S8x64x1024x64_S524288x64 := by
  after_results <;> rfl

theorem after1_main_call0_v9 : StableHlo.after (hostOps1 (F := Ideal)) V (Proc.devRef .tc main_call0_v9)
    = shapeCast S1x64 (V (Proc.devRef .tc main_arg7) : S64.Idx → Elt Ideal .f32) shapeCasts_S64_S1x64 := by
  after_results <;> rfl

theorem after1_main_call0_v10 : StableHlo.after (hostOps1 (F := Ideal)) V (Proc.devRef .tc main_call0_v10)
    = shapeCast S1x64 (V (Proc.devRef .tc main_arg8) : S64.Idx → Elt Ideal .f32) shapeCasts_S64_S1x64 := by
  after_results <;> rfl

theorem after1_main_call0_v11 : StableHlo.after (hostOps1 (F := Ideal)) V (Proc.devRef .tc main_call0_v11)
    = shapeCast S1x64 (V (Proc.devRef .tc main_arg10) : S64.Idx → Elt Ideal .f32) shapeCasts_S64_S1x64 := by
  after_results <;> rfl

theorem after2_main_call0_v13 : StableHlo.after (hostOps2 (F := Ideal)) V (Proc.devRef .tc main_call0_v13)
    = shapeCast S1x64 (V (Proc.devRef .tc main_arg11) : S64.Idx → Elt Ideal .f32) shapeCasts_S64_S1x64 := by
  after_results <;> rfl

theorem after2_main_call0_v14 : StableHlo.after (hostOps2 (F := Ideal)) V (Proc.devRef .tc main_call0_v14)
    = shapeCast S1x64 (V (Proc.devRef .tc main_arg12) : S64.Idx → Elt Ideal .f32) shapeCasts_S64_S1x64 := by
  after_results <;> rfl

theorem after2_main_call0_v15 : StableHlo.after (hostOps2 (F := Ideal)) V (Proc.devRef .tc main_call0_v15)
    = shapeCast S1x128 (V (Proc.devRef .tc main_arg14) : S128.Idx → Elt Ideal .f32) shapeCasts_S128_S1x128 := by
  after_results <;> rfl

theorem after3_main_call0_v17 : StableHlo.after (hostOps3 (F := Ideal)) V (Proc.devRef .tc main_call0_v17)
    = shapeCast S8x64x1024x128 (V (Proc.devRef .tc main_call0_v16_0) : S524288x128.Idx → Elt Ideal .f32) shapeCasts_S524288x128_S8x64x1024x128 := by
  after_results <;> rfl

theorem after3_main_call0_v18 : StableHlo.after (hostOps3 (F := Ideal)) V (Proc.devRef .tc main_call0_v18)
    = shapeCast S1x128 (V (Proc.devRef .tc main_arg15) : S128.Idx → Elt Ideal .f32) shapeCasts_S128_S1x128 := by
  after_results <;> rfl

theorem after3_main_call0_v19 : StableHlo.after (hostOps3 (F := Ideal)) V (Proc.devRef .tc main_call0_v19)
    = shapeCast S1x128 (V (Proc.devRef .tc main_arg16) : S128.Idx → Elt Ideal .f32) shapeCasts_S128_S1x128 := by
  after_results <;> rfl

theorem after4_main_v0 : StableHlo.after (hostOps4 (F := Ideal)) V (Proc.devRef .tc main_v0)
    = shapeCast S8192x128 (V (Proc.devRef .tc main_call0_v20) : S8x1024x128.Idx → Elt Ideal .f32) shapeCasts_S8x1024x128_S8192x128 := by
  after_results <;> rfl

theorem after0_main_call0_v2 : StableHlo.after (hostOps0 (F := Ideal)) V (Proc.devRef .tc main_call0_v2)
    = concatenate S8x2048x6 2 [⟨S8x2048x3, (shapeCast S8x2048x3 (V (Proc.devRef .tc main_arg3) : S16384x3.Idx → Elt Ideal .f32) shapeCasts_S16384x3_S8x2048x3)⟩,
        ⟨S8x2048x3, (shapeCast S8x2048x3 (V (Proc.devRef .tc main_arg4) : S16384x3.Idx → Elt Ideal .f32) shapeCasts_S16384x3_S8x2048x3)⟩]
        concatenates_S8x2048x3_S8x2048x3_S8x2048x6_d2 := by
  after_results <;> rfl

end Cert.KernelIdeal.Whole

end
-- ==== Proof.Net.lean ====
/- The network over all edges, in the kernel's arrangement and in the reference's, and their equality over real inputs. -/
module

public import proofs.«01_k».proof.Proof.Math

@[expose] public section

set_option maxRecDepth 16384

noncomputable section

namespace Cert.Mlp

open Idealize.ShloMosaic

/-- An edge of the network: the cloud, the centre and the place in the centre's list. -/
abbrev Edge := Fin 8 × Fin 1024 × Fin 64

variable {ι κ : Type*} {N M : Nat}

/-- Normalization in the kernel's arrangement: from the sum and the sum of squares over the weighted edges. -/
def nK [Fintype ι] (z : ι → Fin N → EReal) (w : ι → EReal) (g bt : Fin N → EReal) (e : ι) (l : Fin N) : EReal :=
  normK (z e l) (∑ i, z i l * w i) (∑ i, z i l * (z i l * w i)) (∑ i, w i) (g l) (bt l)

/-- Normalization in the reference's arrangement: by the mean and the mean squared distance. -/
def nR [Fintype ι] (z : ι → Fin N → EReal) (w : ι → EReal) (g bt : Fin N → EReal) (e : ι) (l : Fin N) : EReal :=
  normR (z e l) (meanR (fun i => z i l) w) (varR (fun i => z i l) w) (g l) (bt l)

/-- A dense layer followed by the maximum with zero. -/
def dn (n : ι → Fin N → EReal) (W : Fin N → Fin M → EReal) (b : Fin M → EReal) (e : ι) (l : Fin M) : EReal :=
  max (∑ x, n e x * W x l + b l) 0

/-- Over real values the two arrangements agree, whatever the weights g and bt. -/
theorem nK_eq [Fintype ι] (z : ι → Fin N → EReal) (w : ι → EReal) (g bt : Fin N → EReal)
    (hz : ∀ e l, IsR (z e l)) (hw : ∀ i, w i = 0 ∨ w i = 1) : nK z w g bt = nR z w g bt :=
  funext fun e => funext fun l => (norm_eq (fun i => z i l) w (fun i => hz i l) hw (g l) (bt l) e).1

/-- Over real values and with real weights the normalized values are real. -/
theorem nR_real [Fintype ι] (z : ι → Fin N → EReal) (w : ι → EReal) (g bt : Fin N → EReal)
    (hz : ∀ e l, IsR (z e l)) (hw : ∀ i, w i = 0 ∨ w i = 1) (hg : ∀ l, IsR (g l)) (hb : ∀ l, IsR (bt l)) (e : ι) (l : Fin N) :
    IsR (nR z w g bt e l) :=
  (norm_eq (fun i => z i l) w (fun i => hz i l) hw (g l) (bt l) e).2 (hg l) (hb l)

/-- A dense layer of real values is real. -/
theorem dn_real (n : ι → Fin N → EReal) (W : Fin N → Fin M → EReal) (b : Fin M → EReal) (hn : ∀ e l, IsR (n e l))
    (hW : ∀ x l, IsR (W x l)) (hb : ∀ l, IsR (b l)) (e : ι) (l : Fin M) : IsR (dn n W b e l) :=
  dense_real (fun x => n e x) (fun x => W x l) (b l) (hn e) (fun x => hW x l) (hb l)

/-- The normalized third layer over the first layer's values, each normalization by `f`. -/
def net (f : {N : Nat} → (ι → Fin N → EReal) → (ι → EReal) → (Fin N → EReal) → (Fin N → EReal) → ι → Fin N → EReal)
    (z : ι → Fin 64 → EReal) (w : ι → EReal) (g0 t0 : Fin 64 → EReal) (W1 : Fin 64 → Fin 64 → EReal) (b1 g1 t1 : Fin 64 → EReal)
    (W2 : Fin 64 → Fin 128 → EReal) (b2 g2 t2 : Fin 128 → EReal) : ι → Fin 128 → EReal :=
  f (dn (f (dn (f z w g0 t0) W1 b1) w g1 t1) W2 b2) w g2 t2

/-- Over real inputs and weights that are 0 or 1 the two networks agree. -/
theorem net_eq [Fintype ι] (z : ι → Fin 64 → EReal) (w : ι → EReal) (g0 t0 : Fin 64 → EReal) (W1 : Fin 64 → Fin 64 → EReal)
    (b1 g1 t1 : Fin 64 → EReal) (W2 : Fin 64 → Fin 128 → EReal) (b2 g2 t2 : Fin 128 → EReal)
    (hz : ∀ e l, IsR (z e l)) (hw : ∀ i, w i = 0 ∨ w i = 1) (hg0 : ∀ l, IsR (g0 l)) (ht0 : ∀ l, IsR (t0 l))
    (hW1 : ∀ x l, IsR (W1 x l)) (hb1 : ∀ l, IsR (b1 l)) (hg1 : ∀ l, IsR (g1 l)) (ht1 : ∀ l, IsR (t1 l))
    (hW2 : ∀ x l, IsR (W2 x l)) (hb2 : ∀ l, IsR (b2 l)) :
    net (fun {N} => nK (N := N)) z w g0 t0 W1 b1 g1 t1 W2 b2 g2 t2
      = net (fun {N} => nR (N := N)) z w g0 t0 W1 b1 g1 t1 W2 b2 g2 t2 := by
  unfold net
  have e1 := nK_eq z w g0 t0 hz hw
  have d1 := dn_real (nR z w g0 t0) W1 b1 (nR_real z w g0 t0 hz hw hg0 ht0) hW1 hb1
  have e2 := nK_eq _ w g1 t1 d1 hw
  have d2 := dn_real (nR (dn (nR z w g0 t0) W1 b1) w g1 t1) W2 b2 (nR_real _ w g1 t1 d1 hw hg1 ht1) hW2 hb2
  have e3 := nK_eq _ w g2 t2 d2 hw
  dsimp only
  rw [e1, e2, e3]

/-- The place of an edge in the flat order: cloud, then place in the list, then centre. -/
def flat (e : Edge) : Fin 524288 := ⟨(e.1.val * 64 + e.2.2.val) * 1024 + e.2.1.val, by
  have h1 := e.1.isLt; have h2 := e.2.2.isLt; have h3 := e.2.1.isLt; omega⟩

/-- A sum over the tiles of an array is the sum over the array. -/
theorem sum_tiles (a b : Nat) (F : Fin (a * b) → EReal) :
    ∑ e, F e = ∑ p : Fin a, ∑ r : Fin b, F ⟨p.val * b + r.val, by
      have := p.isLt; have := r.isLt; nlinarith [Nat.mul_le_mul_right b (Nat.succ_le_of_lt p.isLt)]⟩ := by
  rw [← finProdFinEquiv.sum_comp, Fintype.sum_prod_type]
  exact Finset.sum_congr rfl fun p _ => Finset.sum_congr rfl fun r _ => congrArg F (Fin.ext (by
    show r.val + b * p.val = p.val * b + r.val
    rw [Nat.mul_comm, Nat.add_comm]))

/-- A sum over the edges, iterated. -/
theorem sum_edge (F : Edge → EReal) : ∑ e, F e = ∑ a : Fin 8, ∑ b : Fin 1024, ∑ c : Fin 64, F (a, b, c) := by
  rw [Fintype.sum_prod_type]
  exact Finset.sum_congr rfl fun a _ => Fintype.sum_prod_type _

/-- A sum over the grid of the first layer is the sum over the edges. -/
theorem sum_grid (F : Edge → EReal) :
    ∑ p : Fin 512, ∑ r : Fin 1024, F (⟨p.val / 64, by have := p.isLt; omega⟩, r, ⟨p.val % 64, by omega⟩) = ∑ e, F e := by
  rw [sum_edge]
  refine (sum_tiles 8 64 fun p : Fin 512 => ∑ r : Fin 1024, F (⟨p.val / 64, by have := p.isLt; omega⟩, r, ⟨p.val % 64, by omega⟩)).trans ?_
  refine Finset.sum_congr rfl fun a _ => ?_
  rw [Finset.sum_comm]
  refine Finset.sum_congr rfl fun r _ => Finset.sum_congr rfl fun c _ => congrArg F ?_
  have h := c.isLt
  refine Prod.ext (Fin.ext ?_) (Prod.ext rfl (Fin.ext ?_))
  · show (a.val * 64 + c.val) / 64 = a.val; omega
  · show (a.val * 64 + c.val) % 64 = c.val; omega

/-- The same for a summand given by its value at each edge. -/
theorem sum_grid_of (f : Fin 512 → Fin 1024 → EReal) (F : Edge → EReal)
    (h : ∀ (p : Fin 512) (r : Fin 1024), f p r = F (⟨p.val / 64, by have := p.isLt; omega⟩, r, ⟨p.val % 64, by omega⟩)) :
    ∑ p, ∑ r, f p r = ∑ e, F e :=
  (Finset.sum_congr rfl fun p _ => Finset.sum_congr rfl fun r _ => h p r).trans (sum_grid F)

/-- A sum over the flat array's tiles is the sum over the edges. -/
theorem sum_flat (F : Fin 524288 → EReal) :
    ∑ p : Fin 128, ∑ r : Fin 4096, F ⟨p.val * 4096 + r.val, by have := p.isLt; have := r.isLt; omega⟩ = ∑ e, F (flat e) := by
  refine (sum_tiles 128 4096 F).symm.trans ((sum_tiles 512 1024 F).trans ?_)
  rw [← sum_grid fun e => F (flat e)]
  refine Finset.sum_congr rfl fun p _ => Finset.sum_congr rfl fun r _ => congrArg F (Fin.ext ?_)
  show p.val * 1024 + r.val = (p.val / 64 * 64 + p.val % 64) * 1024 + r.val
  rw [Nat.div_add_mod']

end Cert.Mlp

end
-- ==== Proof.Resh.lean ====
/- The host's reshapes read at an index, and the reading of two rank-three arrays joined along the last axis. -/
module

public import proofs.«01_k».proof.Proof.HostOps
public import proofs.«01_k».proof.Proof.Net
public import Idealize.ShloMosaic.Lib.Pipeline.ValueKit

@[expose] public section

set_option maxRecDepth 16384

noncomputable section

namespace Cert.KernelIdeal.Whole

open Cert.KernelIdeal Cert.KernelIdeal.Gen Idealize.ShloMosaic Idealize.ShloMosaic.TcCoe Cert.Mlp

variable {α : Type}

theorem rs_e1 (x : S8x64x1024.Idx → α) (h : S8x64x1024.ShapeCasts S524288x1) (e : Edge) :
    shapeCast S524288x1 x h (ix2 (flat e) 0) = x (ix3 e.1 e.2.2 e.2.1) :=
  shapeCast_apply x h _ _ (by
    rewrite [Shape.rowMajor_val_three, Shape.rowMajor_val_two]
    show (e.1.val * 64 + e.2.2.val) * 1024 + e.2.1.val = ((e.1.val * 64 + e.2.2.val) * 1024 + e.2.1.val) * 1 + 0
    omega)

theorem rs_e64 (x : S8x64x1024x64.Idx → α) (h : S8x64x1024x64.ShapeCasts S524288x64) (e : Edge) (l : Fin 64) :
    shapeCast S524288x64 x h (ix2 (flat e) l) = x (ix4 e.1 e.2.2 e.2.1 l) :=
  shapeCast_apply x h _ _ (by
    rewrite [Shape.rowMajor_val_four, Shape.rowMajor_val_two]
    rfl)

theorem rs_e128 (x : S524288x128.Idx → α) (h : S524288x128.ShapeCasts S8x64x1024x128) (b : Fin 8) (m : Fin 1024) (k : Fin 64) (l : Fin 128) :
    shapeCast S8x64x1024x128 x h (ix4 b k m l) = x (ix2 (flat (b, m, k)) l) :=
  shapeCast_apply x h _ _ (by
    rewrite [Shape.rowMajor_val_four, Shape.rowMajor_val_two]
    rfl)

theorem rs_r64 (x : S64.Idx → α) (h : S64.ShapeCasts S1x64) (l : Fin 64) : shapeCast S1x64 x h (ix2 0 l) = x (ix1 l) :=
  shapeCast_apply x h _ _ (by
    rewrite [Shape.rowMajor_val_one, Shape.rowMajor_val_two]
    show l.val = 0 * 64 + l.val
    omega)

theorem rs_r128 (x : S128.Idx → α) (h : S128.ShapeCasts S1x128) (l : Fin 128) : shapeCast S1x128 x h (ix2 0 l) = x (ix1 l) :=
  shapeCast_apply x h _ _ (by
    rewrite [Shape.rowMajor_val_one, Shape.rowMajor_val_two]
    show l.val = 0 * 128 + l.val
    omega)

theorem rs_n (x : S8x64x1024.Idx → α) (h : S8x64x1024.ShapeCasts S8x64x1024x1) (b : Fin 8) (k : Fin 64) (m : Fin 1024) :
    shapeCast S8x64x1024x1 x h (ix4 b k m 0) = x (ix3 b k m) :=
  shapeCast_apply x h _ _ (by
    rewrite [Shape.rowMajor_val_three, Shape.rowMajor_val_four]
    show (b.val * 64 + k.val) * 1024 + m.val = ((b.val * 64 + k.val) * 1024 + m.val) * 1 + 0
    omega)

theorem rs_pts (x : S16384x3.Idx → α) (h : S16384x3.ShapeCasts S8x2048x3) (b : Fin 8) (p : Fin 2048) (y : Fin 3) :
    shapeCast S8x2048x3 x h (ix3 b p y) = x (ix2 ⟨b.val * 2048 + p.val, by have := b.isLt; have := p.isLt; omega⟩ y) :=
  shapeCast_apply x h _ _ (by
    rewrite [Shape.rowMajor_val_three, Shape.rowMajor_val_two]
    rfl)

theorem rs_out (x : S8x1024x128.Idx → α) (h : S8x1024x128.ShapeCasts S8192x128) (r : Fin 8192) (l : Fin 128) :
    shapeCast S8192x128 x h (ix2 r l) = x (ix3 ⟨r.val / 1024, by have := r.isLt; omega⟩ ⟨r.val % 1024, by omega⟩ l) :=
  shapeCast_apply x h _ _ (by
    rewrite [Shape.rowMajor_val_three, Shape.rowMajor_val_two]
    show (r.val / 1024 * 1024 + r.val % 1024) * 128 + l.val = r.val * 128 + l.val
    omega)

end Cert.KernelIdeal.Whole

end
-- ==== Proof.Out0.lean ====
module

public import proofs.«01_k».proof.Proof.Gen.KernelIdeal.Frame.Region0
public import Idealize.ShloMosaic.Lib.Pipeline.Value
public import Idealize.ShloMosaic.PureOps.Ideal

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

theorem out0_A_6_eq (c : Dev nD) (i : grid0.Coords) (a2 : Memref sig .tc .vmem S1x1x1024x1 .i32) (h2 : a2.IsWhole) (a3 : Memref sig .tc .vmem S1x1x1024x1 .f32) (h3 : a3.IsWhole) (a4 : Memref sig .tc .vmem S1x2048x6 .f32) (h4 : a4.IsWhole) (a5 : Memref sig .tc .vmem S1x1024x3 .f32) (h5 : a5.IsWhole) (a6 : Memref sig .tc .vmem S6x64 .f32) (h6 : a6.IsWhole) (a7 : Memref sig .tc .vmem S1x64 .f32) (h7 : a7.IsWhole) (a8 : Memref sig .tc .vmem S1x1x1024x64 .f32) (h8 : a8.IsWhole) (a9 : Memref sig .tc .vmem S1x64 .f32) (h9 : a9.IsWhole) (a10 : Memref sig .tc .vmem S1x64 .f32) (h10 : a10.IsWhole) (a11 : Memref sig .tc .vmem S1x1 .f32) (h11 : a11.IsWhole) (hc : cond0_0 i)
    (x0 : Vec Ideal S1x1x1024x1 .i32) (x1 : Vec Ideal S1x1x1024x1 .f32) (x2 : Vec Ideal S1x2048x6 .f32) (x3 : Vec Ideal S1x1024x3 .f32) (x4 : Vec Ideal S6x64 .f32) (x5 : Vec Ideal S1x64 .f32)  :
    out0_A_6 (F := Ideal) c i a2 h2 a3 h3 a4 h4 a5 h5 a6 h6 a7 h7 a8 h8 a9 h9 a10 h10 a11 h11 hc x0 x1 x2 x3 x4 x5  = k0_pay5 (k0_pay9 x0 x2 x3 x4 x5) := by
  unfold out0_A_6
  rw [View.read_writes_eq_canon _ _ _ (cover0_A_6 (F := Ideal) c i a2 h2 a3 h3 a4 h4 a5 h5 a6 h6 a7 h7 a8 h8 a9 h9 a10 h10 a11 h11 hc x0 x1 x2 x3 x4 x5 )]
  unfold kernelRun0_A; dsimp only; sl_unfold_words
  rw [View.canon_unit_zero zero4]
  simp only [View.readAt_eq_ld, h2.read_unread, h3.read_unread, h4.read_unread, h5.read_unread, h6.read_unread, h7.read_unread, h8.read_unread, h9.read_unread, h10.read_unread, h11.read_unread, View.ld_unit_zero (S := S1x1x1024x1) zero4, View.ld_unit_zero (S := S1x2048x6) zero3, View.ld_unit_zero (S := S1x1024x3) zero3, View.ld_unit_zero (S := S6x64) zero2, View.ld_unit_zero (S := S1x64) zero2, View.ld_unit_zero (S := S1x1x1024x64) zero4, View.ld_unit_zero (S := S1x1) zero2]

theorem out0_A_7_eq (c : Dev nD) (i : grid0.Coords) (a2 : Memref sig .tc .vmem S1x1x1024x1 .i32) (h2 : a2.IsWhole) (a3 : Memref sig .tc .vmem S1x1x1024x1 .f32) (h3 : a3.IsWhole) (a4 : Memref sig .tc .vmem S1x2048x6 .f32) (h4 : a4.IsWhole) (a5 : Memref sig .tc .vmem S1x1024x3 .f32) (h5 : a5.IsWhole) (a6 : Memref sig .tc .vmem S6x64 .f32) (h6 : a6.IsWhole) (a7 : Memref sig .tc .vmem S1x64 .f32) (h7 : a7.IsWhole) (a8 : Memref sig .tc .vmem S1x1x1024x64 .f32) (h8 : a8.IsWhole) (a9 : Memref sig .tc .vmem S1x64 .f32) (h9 : a9.IsWhole) (a10 : Memref sig .tc .vmem S1x64 .f32) (h10 : a10.IsWhole) (a11 : Memref sig .tc .vmem S1x1 .f32) (h11 : a11.IsWhole) (hc : cond0_0 i)
    (x0 : Vec Ideal S1x1x1024x1 .i32) (x1 : Vec Ideal S1x1x1024x1 .f32) (x2 : Vec Ideal S1x2048x6 .f32) (x3 : Vec Ideal S1x1024x3 .f32) (x4 : Vec Ideal S6x64 .f32) (x5 : Vec Ideal S1x64 .f32)  :
    out0_A_7 (F := Ideal) c i a2 h2 a3 h3 a4 h4 a5 h5 a6 h6 a7 h7 a8 h8 a9 h9 a10 h10 a11 h11 hc x0 x1 x2 x3 x4 x5  = k0_pay2 (k0_pay9 x0 x2 x3 x4 x5) (k0_pay11 x1) ((k0_pay6 (F := Ideal))) := by
  unfold out0_A_7
  rw [View.read_writes_eq_canon _ _ _ (cover0_A_7 (F := Ideal) c i a2 h2 a3 h3 a4 h4 a5 h5 a6 h6 a7 h7 a8 h8 a9 h9 a10 h10 a11 h11 hc x0 x1 x2 x3 x4 x5 )]
  unfold kernelRun0_A; dsimp only; sl_unfold_words
  rw [View.canon_cons_unit_zero (S := S1x64) zero2]; simp only [View.readCov_unit_zero (S := S1x64) _ zero2]
  simp only [View.readAt_eq_ld, h2.read_unread, h3.read_unread, h4.read_unread, h5.read_unread, h6.read_unread, h7.read_unread, h8.read_unread, h9.read_unread, h10.read_unread, h11.read_unread, View.ld_unit_zero (S := S1x1x1024x1) zero4, View.ld_unit_zero (S := S1x2048x6) zero3, View.ld_unit_zero (S := S1x1024x3) zero3, View.ld_unit_zero (S := S6x64) zero2, View.ld_unit_zero (S := S1x64) zero2, View.ld_unit_zero (S := S1x1x1024x64) zero4, View.ld_unit_zero (S := S1x1) zero2]

theorem out0_A_8_eq (c : Dev nD) (i : grid0.Coords) (a2 : Memref sig .tc .vmem S1x1x1024x1 .i32) (h2 : a2.IsWhole) (a3 : Memref sig .tc .vmem S1x1x1024x1 .f32) (h3 : a3.IsWhole) (a4 : Memref sig .tc .vmem S1x2048x6 .f32) (h4 : a4.IsWhole) (a5 : Memref sig .tc .vmem S1x1024x3 .f32) (h5 : a5.IsWhole) (a6 : Memref sig .tc .vmem S6x64 .f32) (h6 : a6.IsWhole) (a7 : Memref sig .tc .vmem S1x64 .f32) (h7 : a7.IsWhole) (a8 : Memref sig .tc .vmem S1x1x1024x64 .f32) (h8 : a8.IsWhole) (a9 : Memref sig .tc .vmem S1x64 .f32) (h9 : a9.IsWhole) (a10 : Memref sig .tc .vmem S1x64 .f32) (h10 : a10.IsWhole) (a11 : Memref sig .tc .vmem S1x1 .f32) (h11 : a11.IsWhole) (hc : cond0_0 i)
    (x0 : Vec Ideal S1x1x1024x1 .i32) (x1 : Vec Ideal S1x1x1024x1 .f32) (x2 : Vec Ideal S1x2048x6 .f32) (x3 : Vec Ideal S1x1024x3 .f32) (x4 : Vec Ideal S6x64 .f32) (x5 : Vec Ideal S1x64 .f32)  :
    out0_A_8 (F := Ideal) c i a2 h2 a3 h3 a4 h4 a5 h5 a6 h6 a7 h7 a8 h8 a9 h9 a10 h10 a11 h11 hc x0 x1 x2 x3 x4 x5  = k0_pay3 (k0_pay9 x0 x2 x3 x4 x5) (k0_pay11 x1) ((k0_pay7 (F := Ideal))) := by
  unfold out0_A_8
  rw [View.read_writes_eq_canon _ _ _ (cover0_A_8 (F := Ideal) c i a2 h2 a3 h3 a4 h4 a5 h5 a6 h6 a7 h7 a8 h8 a9 h9 a10 h10 a11 h11 hc x0 x1 x2 x3 x4 x5 )]
  unfold kernelRun0_A; dsimp only; sl_unfold_words
  rw [View.canon_cons_unit_zero (S := S1x64) zero2]; simp only [View.readCov_unit_zero (S := S1x64) _ zero2]
  simp only [View.readAt_eq_ld, h2.read_unread, h3.read_unread, h4.read_unread, h5.read_unread, h6.read_unread, h7.read_unread, h8.read_unread, h9.read_unread, h10.read_unread, h11.read_unread, View.ld_unit_zero (S := S1x1x1024x1) zero4, View.ld_unit_zero (S := S1x2048x6) zero3, View.ld_unit_zero (S := S1x1024x3) zero3, View.ld_unit_zero (S := S6x64) zero2, View.ld_unit_zero (S := S1x64) zero2, View.ld_unit_zero (S := S1x1x1024x64) zero4, View.ld_unit_zero (S := S1x1) zero2]

theorem out0_A_9_eq (c : Dev nD) (i : grid0.Coords) (a2 : Memref sig .tc .vmem S1x1x1024x1 .i32) (h2 : a2.IsWhole) (a3 : Memref sig .tc .vmem S1x1x1024x1 .f32) (h3 : a3.IsWhole) (a4 : Memref sig .tc .vmem S1x2048x6 .f32) (h4 : a4.IsWhole) (a5 : Memref sig .tc .vmem S1x1024x3 .f32) (h5 : a5.IsWhole) (a6 : Memref sig .tc .vmem S6x64 .f32) (h6 : a6.IsWhole) (a7 : Memref sig .tc .vmem S1x64 .f32) (h7 : a7.IsWhole) (a8 : Memref sig .tc .vmem S1x1x1024x64 .f32) (h8 : a8.IsWhole) (a9 : Memref sig .tc .vmem S1x64 .f32) (h9 : a9.IsWhole) (a10 : Memref sig .tc .vmem S1x64 .f32) (h10 : a10.IsWhole) (a11 : Memref sig .tc .vmem S1x1 .f32) (h11 : a11.IsWhole) (hc : cond0_0 i)
    (x0 : Vec Ideal S1x1x1024x1 .i32) (x1 : Vec Ideal S1x1x1024x1 .f32) (x2 : Vec Ideal S1x2048x6 .f32) (x3 : Vec Ideal S1x1024x3 .f32) (x4 : Vec Ideal S6x64 .f32) (x5 : Vec Ideal S1x64 .f32)  :
    out0_A_9 (F := Ideal) c i a2 h2 a3 h3 a4 h4 a5 h5 a6 h6 a7 h7 a8 h8 a9 h9 a10 h10 a11 h11 hc x0 x1 x2 x3 x4 x5  = k0_pay4 (k0_pay10 x1) ((k0_pay8 (F := Ideal))) := by
  unfold out0_A_9
  rw [View.read_writes_eq_canon _ _ _ (cover0_A_9 (F := Ideal) c i a2 h2 a3 h3 a4 h4 a5 h5 a6 h6 a7 h7 a8 h8 a9 h9 a10 h10 a11 h11 hc x0 x1 x2 x3 x4 x5 )]
  unfold kernelRun0_A; dsimp only; sl_unfold_words
  rw [View.canon_cons_unit_zero (S := S1x1) zero2]; simp only [View.readCov_unit_zero (S := S1x1) _ zero2]
  simp only [View.readAt_eq_ld, h2.read_unread, h3.read_unread, h4.read_unread, h5.read_unread, h6.read_unread, h7.read_unread, h8.read_unread, h9.read_unread, h10.read_unread, h11.read_unread, View.ld_unit_zero (S := S1x1x1024x1) zero4, View.ld_unit_zero (S := S1x2048x6) zero3, View.ld_unit_zero (S := S1x1024x3) zero3, View.ld_unit_zero (S := S6x64) zero2, View.ld_unit_zero (S := S1x64) zero2, View.ld_unit_zero (S := S1x1x1024x64) zero4, View.ld_unit_zero (S := S1x1) zero2]

theorem out0_B_6_eq (c : Dev nD) (i : grid0.Coords) (a2 : Memref sig .tc .vmem S1x1x1024x1 .i32) (h2 : a2.IsWhole) (a3 : Memref sig .tc .vmem S1x1x1024x1 .f32) (h3 : a3.IsWhole) (a4 : Memref sig .tc .vmem S1x2048x6 .f32) (h4 : a4.IsWhole) (a5 : Memref sig .tc .vmem S1x1024x3 .f32) (h5 : a5.IsWhole) (a6 : Memref sig .tc .vmem S6x64 .f32) (h6 : a6.IsWhole) (a7 : Memref sig .tc .vmem S1x64 .f32) (h7 : a7.IsWhole) (a8 : Memref sig .tc .vmem S1x1x1024x64 .f32) (h8 : a8.IsWhole) (a9 : Memref sig .tc .vmem S1x64 .f32) (h9 : a9.IsWhole) (a10 : Memref sig .tc .vmem S1x64 .f32) (h10 : a10.IsWhole) (a11 : Memref sig .tc .vmem S1x1 .f32) (h11 : a11.IsWhole) (hc : ¬cond0_0 i)
    (x0 : Vec Ideal S1x1x1024x1 .i32) (x1 : Vec Ideal S1x1x1024x1 .f32) (x2 : Vec Ideal S1x2048x6 .f32) (x3 : Vec Ideal S1x1024x3 .f32) (x4 : Vec Ideal S6x64 .f32) (x5 : Vec Ideal S1x64 .f32) (y9 : Vec Ideal S1x64 .f32) (y10 : Vec Ideal S1x64 .f32) (y11 : Vec Ideal S1x1 .f32) :
    out0_B_6 (F := Ideal) c i a2 h2 a3 h3 a4 h4 a5 h5 a6 h6 a7 h7 a8 h8 a9 h9 a10 h10 a11 h11 hc x0 x1 x2 x3 x4 x5 y9 y10 y11 = k0_pay5 (k0_pay9 x0 x2 x3 x4 x5) := by
  unfold out0_B_6
  rw [View.read_writes_eq_canon _ _ _ (cover0_B_6 (F := Ideal) c i a2 h2 a3 h3 a4 h4 a5 h5 a6 h6 a7 h7 a8 h8 a9 h9 a10 h10 a11 h11 hc x0 x1 x2 x3 x4 x5 y9 y10 y11)]
  unfold kernelRun0_B; dsimp only; sl_unfold_words
  rw [View.canon_unit_zero zero4]
  simp only [View.readAt_eq_ld, h2.read_unread, h3.read_unread, h4.read_unread, h5.read_unread, h6.read_unread, h7.read_unread, h8.read_unread, h9.read_unread, h10.read_unread, h11.read_unread, View.ld_unit_zero (S := S1x1x1024x1) zero4, View.ld_unit_zero (S := S1x2048x6) zero3, View.ld_unit_zero (S := S1x1024x3) zero3, View.ld_unit_zero (S := S6x64) zero2, View.ld_unit_zero (S := S1x64) zero2, View.ld_unit_zero (S := S1x1x1024x64) zero4, View.ld_unit_zero (S := S1x1) zero2]

theorem out0_B_7_eq (c : Dev nD) (i : grid0.Coords) (a2 : Memref sig .tc .vmem S1x1x1024x1 .i32) (h2 : a2.IsWhole) (a3 : Memref sig .tc .vmem S1x1x1024x1 .f32) (h3 : a3.IsWhole) (a4 : Memref sig .tc .vmem S1x2048x6 .f32) (h4 : a4.IsWhole) (a5 : Memref sig .tc .vmem S1x1024x3 .f32) (h5 : a5.IsWhole) (a6 : Memref sig .tc .vmem S6x64 .f32) (h6 : a6.IsWhole) (a7 : Memref sig .tc .vmem S1x64 .f32) (h7 : a7.IsWhole) (a8 : Memref sig .tc .vmem S1x1x1024x64 .f32) (h8 : a8.IsWhole) (a9 : Memref sig .tc .vmem S1x64 .f32) (h9 : a9.IsWhole) (a10 : Memref sig .tc .vmem S1x64 .f32) (h10 : a10.IsWhole) (a11 : Memref sig .tc .vmem S1x1 .f32) (h11 : a11.IsWhole) (hc : ¬cond0_0 i)
    (x0 : Vec Ideal S1x1x1024x1 .i32) (x1 : Vec Ideal S1x1x1024x1 .f32) (x2 : Vec Ideal S1x2048x6 .f32) (x3 : Vec Ideal S1x1024x3 .f32) (x4 : Vec Ideal S6x64 .f32) (x5 : Vec Ideal S1x64 .f32) (y9 : Vec Ideal S1x64 .f32) (y10 : Vec Ideal S1x64 .f32) (y11 : Vec Ideal S1x1 .f32) :
    out0_B_7 (F := Ideal) c i a2 h2 a3 h3 a4 h4 a5 h5 a6 h6 a7 h7 a8 h8 a9 h9 a10 h10 a11 h11 hc x0 x1 x2 x3 x4 x5 y9 y10 y11 = k0_pay2 (k0_pay9 x0 x2 x3 x4 x5) (k0_pay11 x1) y9 := by
  unfold out0_B_7
  rw [View.read_writes_eq_canon _ _ _ (cover0_B_7 (F := Ideal) c i a2 h2 a3 h3 a4 h4 a5 h5 a6 h6 a7 h7 a8 h8 a9 h9 a10 h10 a11 h11 hc x0 x1 x2 x3 x4 x5 y9 y10 y11)]
  unfold kernelRun0_B; dsimp only; sl_unfold_words
  rw [View.canon_unit_zero zero2]
  simp only [View.readAt_eq_ld, h2.read_unread, h3.read_unread, h4.read_unread, h5.read_unread, h6.read_unread, h7.read_unread, h8.read_unread, h9.read_unread, h10.read_unread, h11.read_unread, View.ld_unit_zero (S := S1x1x1024x1) zero4, View.ld_unit_zero (S := S1x2048x6) zero3, View.ld_unit_zero (S := S1x1024x3) zero3, View.ld_unit_zero (S := S6x64) zero2, View.ld_unit_zero (S := S1x64) zero2, View.ld_unit_zero (S := S1x1x1024x64) zero4, View.ld_unit_zero (S := S1x1) zero2]

theorem out0_B_8_eq (c : Dev nD) (i : grid0.Coords) (a2 : Memref sig .tc .vmem S1x1x1024x1 .i32) (h2 : a2.IsWhole) (a3 : Memref sig .tc .vmem S1x1x1024x1 .f32) (h3 : a3.IsWhole) (a4 : Memref sig .tc .vmem S1x2048x6 .f32) (h4 : a4.IsWhole) (a5 : Memref sig .tc .vmem S1x1024x3 .f32) (h5 : a5.IsWhole) (a6 : Memref sig .tc .vmem S6x64 .f32) (h6 : a6.IsWhole) (a7 : Memref sig .tc .vmem S1x64 .f32) (h7 : a7.IsWhole) (a8 : Memref sig .tc .vmem S1x1x1024x64 .f32) (h8 : a8.IsWhole) (a9 : Memref sig .tc .vmem S1x64 .f32) (h9 : a9.IsWhole) (a10 : Memref sig .tc .vmem S1x64 .f32) (h10 : a10.IsWhole) (a11 : Memref sig .tc .vmem S1x1 .f32) (h11 : a11.IsWhole) (hc : ¬cond0_0 i)
    (x0 : Vec Ideal S1x1x1024x1 .i32) (x1 : Vec Ideal S1x1x1024x1 .f32) (x2 : Vec Ideal S1x2048x6 .f32) (x3 : Vec Ideal S1x1024x3 .f32) (x4 : Vec Ideal S6x64 .f32) (x5 : Vec Ideal S1x64 .f32) (y9 : Vec Ideal S1x64 .f32) (y10 : Vec Ideal S1x64 .f32) (y11 : Vec Ideal S1x1 .f32) :
    out0_B_8 (F := Ideal) c i a2 h2 a3 h3 a4 h4 a5 h5 a6 h6 a7 h7 a8 h8 a9 h9 a10 h10 a11 h11 hc x0 x1 x2 x3 x4 x5 y9 y10 y11 = k0_pay3 (k0_pay9 x0 x2 x3 x4 x5) (k0_pay11 x1) y10 := by
  unfold out0_B_8
  rw [View.read_writes_eq_canon _ _ _ (cover0_B_8 (F := Ideal) c i a2 h2 a3 h3 a4 h4 a5 h5 a6 h6 a7 h7 a8 h8 a9 h9 a10 h10 a11 h11 hc x0 x1 x2 x3 x4 x5 y9 y10 y11)]
  unfold kernelRun0_B; dsimp only; sl_unfold_words
  rw [View.canon_unit_zero zero2]
  simp only [View.readAt_eq_ld, h2.read_unread, h3.read_unread, h4.read_unread, h5.read_unread, h6.read_unread, h7.read_unread, h8.read_unread, h9.read_unread, h10.read_unread, h11.read_unread, View.ld_unit_zero (S := S1x1x1024x1) zero4, View.ld_unit_zero (S := S1x2048x6) zero3, View.ld_unit_zero (S := S1x1024x3) zero3, View.ld_unit_zero (S := S6x64) zero2, View.ld_unit_zero (S := S1x64) zero2, View.ld_unit_zero (S := S1x1x1024x64) zero4, View.ld_unit_zero (S := S1x1) zero2]

theorem out0_B_9_eq (c : Dev nD) (i : grid0.Coords) (a2 : Memref sig .tc .vmem S1x1x1024x1 .i32) (h2 : a2.IsWhole) (a3 : Memref sig .tc .vmem S1x1x1024x1 .f32) (h3 : a3.IsWhole) (a4 : Memref sig .tc .vmem S1x2048x6 .f32) (h4 : a4.IsWhole) (a5 : Memref sig .tc .vmem S1x1024x3 .f32) (h5 : a5.IsWhole) (a6 : Memref sig .tc .vmem S6x64 .f32) (h6 : a6.IsWhole) (a7 : Memref sig .tc .vmem S1x64 .f32) (h7 : a7.IsWhole) (a8 : Memref sig .tc .vmem S1x1x1024x64 .f32) (h8 : a8.IsWhole) (a9 : Memref sig .tc .vmem S1x64 .f32) (h9 : a9.IsWhole) (a10 : Memref sig .tc .vmem S1x64 .f32) (h10 : a10.IsWhole) (a11 : Memref sig .tc .vmem S1x1 .f32) (h11 : a11.IsWhole) (hc : ¬cond0_0 i)
    (x0 : Vec Ideal S1x1x1024x1 .i32) (x1 : Vec Ideal S1x1x1024x1 .f32) (x2 : Vec Ideal S1x2048x6 .f32) (x3 : Vec Ideal S1x1024x3 .f32) (x4 : Vec Ideal S6x64 .f32) (x5 : Vec Ideal S1x64 .f32) (y9 : Vec Ideal S1x64 .f32) (y10 : Vec Ideal S1x64 .f32) (y11 : Vec Ideal S1x1 .f32) :
    out0_B_9 (F := Ideal) c i a2 h2 a3 h3 a4 h4 a5 h5 a6 h6 a7 h7 a8 h8 a9 h9 a10 h10 a11 h11 hc x0 x1 x2 x3 x4 x5 y9 y10 y11 = k0_pay4 (k0_pay10 x1) y11 := by
  unfold out0_B_9
  rw [View.read_writes_eq_canon _ _ _ (cover0_B_9 (F := Ideal) c i a2 h2 a3 h3 a4 h4 a5 h5 a6 h6 a7 h7 a8 h8 a9 h9 a10 h10 a11 h11 hc x0 x1 x2 x3 x4 x5 y9 y10 y11)]
  unfold kernelRun0_B; dsimp only; sl_unfold_words
  rw [View.canon_unit_zero zero2]
  simp only [View.readAt_eq_ld, h2.read_unread, h3.read_unread, h4.read_unread, h5.read_unread, h6.read_unread, h7.read_unread, h8.read_unread, h9.read_unread, h10.read_unread, h11.read_unread, View.ld_unit_zero (S := S1x1x1024x1) zero4, View.ld_unit_zero (S := S1x2048x6) zero3, View.ld_unit_zero (S := S1x1024x3) zero3, View.ld_unit_zero (S := S6x64) zero2, View.ld_unit_zero (S := S1x64) zero2, View.ld_unit_zero (S := S1x1x1024x64) zero4, View.ld_unit_zero (S := S1x1) zero2]

end Cert.KernelIdeal.Whole

end
-- ==== Proof.Pay.lean ====
/- What the bodies' stored values are at an index, as extended-real formulas. -/
module

public import proofs.«01_k».proof.Proof.Gen.KernelIdeal.Skeleton
public import proofs.«01_k».proof.Proof.Gen.KernelIdeal
public import proofs.«01_k».proof.Proof.Math
public import Idealize.ShloMosaic.Lib.Pointwise
public import Idealize.ShloMosaic.PureOps.Ideal.Laws

@[expose] public section

set_option maxRecDepth 16384

noncomputable section

namespace Cert.KernelIdeal.Whole

open Cert.KernelIdeal Cert.KernelIdeal.Gen
open Idealize.ShloMosaic Cert.Mlp

/-- One entry of the row of the identity matrix at the word `v`. -/
def hot (v : BitVec 32) (p : Fin 2048) : EReal := FloatOps.sitofp (F := Ideal) (φ := .f32) (BitVec.setWidth 32 (IntOp.cmpi .eq v (BitVec.ofNat 32 p.val)))

/-- The first layer's input: a row of features, then the row's position less its centre's. -/
def inK (hotRow : Fin 2048 → EReal) (feat : Fin 2048 → Fin 6 → EReal) (cen : Fin 3 → EReal) : Fin 6 → EReal := fun x =>
  if h : x.val < 3 then ∑ p, hotRow p * feat p x else ∑ p, hotRow p * feat p x - cen ⟨x.val - 3, by omega⟩

theorem pay0_z (v5 : IVec S1x1x1024x1 32) (v7 : FVec Ideal S1x2048x6 .f32) (v9 : FVec Ideal S1x1024x3 .f32) (v21 : FVec Ideal S6x64 .f32)
    (v23 : FVec Ideal S1x64 .f32) (r : Fin 1024) (l : Fin 64) :
    k0_pay9 (F := Ideal) v5 v7 v9 v21 v23 (ix2 r l)
      = max (∑ x, inK (hot (v5 (ix4 0 0 r 0))) (fun p y => v7 (ix3 0 p y)) (fun j => v9 (ix3 0 r j)) x * v21 (ix2 x l) + v23 (ix2 0 l)) 0 := by
  rw [Fin.sum_univ_two_halves 3 3 rfl (fun x : Fin 6 => inK (hot (v5 (ix4 0 0 r 0))) (fun p y => v7 (ix3 0 p y)) (fun j => v9 (ix3 0 r j)) x * v21 (ix2 x l))]
  pointwise [k0_pay9]
  have e1 : ∀ x : Fin 3, inK (hot (v5 (ix4 0 0 r 0))) (fun p y => v7 (ix3 0 p y)) (fun j => v9 (ix3 0 r j)) ⟨x.val, by omega⟩
      = ∑ p, hot (v5 (ix4 0 0 r 0)) p * v7 (ix3 0 p ⟨x.val, by omega⟩) := fun x => dif_pos x.isLt
  have e2 : ∀ x : Fin 3, inK (hot (v5 (ix4 0 0 r 0))) (fun p y => v7 (ix3 0 p y)) (fun j => v9 (ix3 0 r j)) ⟨3 + x.val, by omega⟩
      = ∑ p, hot (v5 (ix4 0 0 r 0)) p * v7 (ix3 0 p ⟨3 + x.val, by omega⟩) - v9 (ix3 0 r x) := fun x => by
    unfold inK
    rw [dif_neg (show ¬ (3 + x.val < 3) by omega)]
    have : (⟨3 + x.val - 3, by omega⟩ : Fin 3) = x := Fin.ext (Nat.add_sub_cancel_left (n := 3) (m := x.val))
    rw [this]
  simp only [e1, e2]
  rfl
theorem pay0_s (v28 v31 : FVec Ideal S1024x64 .f32) (v : FVec Ideal S1x64 .f32) (a : Fin 1) (l : Fin 64) :
    k0_pay2 (F := Ideal) v28 v31 v (ix2 a l) = v (ix2 a l) + ∑ x, v28 (ix2 x l) * v31 (ix2 x l) := by
  pointwise [k0_pay2, k0_pay1]
theorem pay0_ss (v28 v31 : FVec Ideal S1024x64 .f32) (v : FVec Ideal S1x64 .f32) (a : Fin 1) (l : Fin 64) :
    k0_pay3 (F := Ideal) v28 v31 v (ix2 a l) = v (ix2 a l) + ∑ x, v28 (ix2 x l) * (v28 (ix2 x l) * v31 (ix2 x l)) := by
  pointwise [k0_pay3, k0_pay1]
theorem pay0_c (v28 : FVec Ideal S1x1x1024x1 .f32) (v : FVec Ideal S1x1 .f32) (a b : Fin 1) :
    k0_pay4 (F := Ideal) (k0_pay10 v28) v (ix2 a b) = v (ix2 a b) + ∑ x, v28 (ix4 0 0 x 0) := by
  pointwise [k0_pay4, k0_pay10]
  simp
theorem pay0_m (v29 : FVec Ideal S1x1x1024x1 .f32) (r : Fin 1024) (l : Fin 64) :
    k0_pay11 (F := Ideal) v29 (ix2 r l) = v29 (ix4 0 0 r 0) := by
  pointwise [k0_pay11, k0_pay10]
theorem pay0_o (v28 : FVec Ideal S1024x64 .f32) (a b : Fin 1) (r : Fin 1024) (l : Fin 64) :
    k0_pay5 (F := Ideal) v28 (ix4 a b r l) = v28 (ix2 r l) := by
  pointwise [k0_pay5]
theorem pay0_6 (i) : k0_pay6 (F := Ideal) i = 0 := by
  pointwise [k0_pay6]
theorem pay0_7 (i) : k0_pay7 (F := Ideal) i = 0 := by
  pointwise [k0_pay7]
theorem pay0_8 (i) : k0_pay8 (F := Ideal) i = 0 := by
  pointwise [k0_pay8]
theorem pay1_z (v3 : FVec Ideal S1x1 .f32) (v6 v10 v22 v30 : FVec Ideal S1x64 .f32) (v18 : FVec Ideal S4096x64 .f32) (v34 : FVec Ideal S64x64 .f32)
    (v36 : FVec Ideal S1x64 .f32) (r : Fin 4096) (l : Fin 64) :
    k1_pay1 (F := Ideal) (k1_pay7 v3 v6 v10 v18 v22 v30 v34) v36 (ix2 r l)
      = max (∑ x, normK (v18 (ix2 r x)) (v6 (ix2 0 x)) (v10 (ix2 0 x)) (v3 (ix2 0 0)) (v22 (ix2 0 x)) (v30 (ix2 0 x)) * v34 (ix2 x l) + v36 (ix2 0 l)) 0 := by
  pointwise [k1_pay7, k1_pay1]
  rfl
theorem pay1_s (v35 : FVec Ideal S4096x64 .f32) (v36 v46 : FVec Ideal S1x64 .f32) (v42 : FVec Ideal S4096x1 .f32) (a : Fin 1) (l : Fin 64) :
    k1_pay3 (F := Ideal) v35 v36 v42 v46 (ix2 a l) = v46 (ix2 a l) + ∑ x, k1_pay1 (F := Ideal) v35 v36 (ix2 x l) * v42 (ix2 x 0) := by
  pointwise [k1_pay3, k1_pay2, k1_pay1]
theorem pay1_ss (v35 : FVec Ideal S4096x64 .f32) (v36 v46 : FVec Ideal S1x64 .f32) (v42 : FVec Ideal S4096x1 .f32) (a : Fin 1) (l : Fin 64) :
    k1_pay4 (F := Ideal) v35 v36 v42 v46 (ix2 a l)
      = v46 (ix2 a l) + ∑ x, k1_pay1 (F := Ideal) v35 v36 (ix2 x l) * (k1_pay1 (F := Ideal) v35 v36 (ix2 x l) * v42 (ix2 x 0)) := by
  pointwise [k1_pay4, k1_pay2, k1_pay1]
theorem pay1_5 (i) : k1_pay5 (F := Ideal) i = 0 := by
  pointwise [k1_pay5]
theorem pay1_6 (i) : k1_pay6 (F := Ideal) i = 0 := by
  pointwise [k1_pay6]
theorem pay2_z (v3 : FVec Ideal S1x1 .f32) (v6 v10 v22 v30 : FVec Ideal S1x64 .f32) (v18 : FVec Ideal S4096x64 .f32) (v34 : FVec Ideal S64x128 .f32)
    (v36 : FVec Ideal S1x128 .f32) (r : Fin 4096) (l : Fin 128) :
    k2_pay1 (F := Ideal) (k2_pay7 v3 v6 v10 v18 v22 v30 v34) v36 (ix2 r l)
      = max (∑ x, normK (v18 (ix2 r x)) (v6 (ix2 0 x)) (v10 (ix2 0 x)) (v3 (ix2 0 0)) (v22 (ix2 0 x)) (v30 (ix2 0 x)) * v34 (ix2 x l) + v36 (ix2 0 l)) 0 := by
  pointwise [k2_pay7, k2_pay1]
  rfl
theorem pay2_s (v35 : FVec Ideal S4096x128 .f32) (v36 v46 : FVec Ideal S1x128 .f32) (v42 : FVec Ideal S4096x1 .f32) (a : Fin 1) (l : Fin 128) :
    k2_pay3 (F := Ideal) v35 v36 v42 v46 (ix2 a l) = v46 (ix2 a l) + ∑ x, k2_pay1 (F := Ideal) v35 v36 (ix2 x l) * v42 (ix2 x 0) := by
  pointwise [k2_pay3, k2_pay2, k2_pay1]
theorem pay2_ss (v35 : FVec Ideal S4096x128 .f32) (v36 v46 : FVec Ideal S1x128 .f32) (v42 : FVec Ideal S4096x1 .f32) (a : Fin 1) (l : Fin 128) :
    k2_pay4 (F := Ideal) v35 v36 v42 v46 (ix2 a l)
      = v46 (ix2 a l) + ∑ x, k2_pay1 (F := Ideal) v35 v36 (ix2 x l) * (k2_pay1 (F := Ideal) v35 v36 (ix2 x l) * v42 (ix2 x 0)) := by
  pointwise [k2_pay4, k2_pay2, k2_pay1]
theorem pay2_5 (i) : k2_pay5 (F := Ideal) i = 0 := by
  pointwise [k2_pay5]
theorem pay2_6 (i) : k2_pay6 (F := Ideal) i = 0 := by
  pointwise [k2_pay6]
theorem pay3_n (v0 : FVec Ideal S1x1 .f32) (v3 v7 v15 v29 : FVec Ideal S1x128 .f32) (v22 : FVec Ideal S1x64x256x128 .f32) (k : Fin 64) (r : Fin 256) (l : Fin 128) :
    k3_pay2 (F := Ideal) v0 v3 v7 v15 v22 v29 (ix3 k r l)
      = normK (v22 (ix4 0 k r l)) (v3 (ix2 0 l)) (v7 (ix2 0 l)) (v0 (ix2 0 0)) (v15 (ix2 0 l)) (v29 (ix2 0 l)) := by
  pointwise [k3_pay2]
  rfl
theorem pay3_v (v34 : FVec Ideal S1x64x256 .f32) (k : Fin 64) (r : Fin 256) (a : Fin 1) :
    k3_pay3 (F := Ideal) v34 (ix3 k r a) = v34 (ix3 0 k r) := by
  pointwise [k3_pay3]
theorem pay3_o (v33 : FVec Ideal S64x256x128 .f32) (v36 : FVec Ideal S64x256x1 .f32) (a : Fin 1) (r : Fin 256) (l : Fin 128) :
    k3_pay1 (F := Ideal) v33 v36 (Scalar.ofBits .f32 0x00000000#32) (ix3 a r l)
      = Finset.fold max (Ideal.ofBits .f32 0xFF800000#32)
        (fun x : Fin 64 => if 0 < v36 (ix3 x r 0) then v33 (ix3 x r l) else Ideal.ofBits .f32 0xFF800000#32) Finset.univ := by
  pointwise [k3_pay1]
end Cert.KernelIdeal.Whole

end
-- ==== Proof.Val0.lean ====
/- The first layer's call: its output array is the layer at every edge, and its three accumulated outputs are the sums
   over all edges of the weighted value, of the weighted square, and of the weight. -/
module

public import proofs.«01_k».proof.Proof.Out0
public import proofs.«01_k».proof.Proof.Pay
public import Idealize.ShloMosaic.Lib.Pipeline.ValueKit

@[expose] public section

set_option maxRecDepth 16384

noncomputable section

namespace Cert.KernelIdeal.Whole

open Cert.KernelIdeal Cert.KernelIdeal.Gen
open Idealize.ShloMosaic Idealize.ShloMosaic.TcCoe Idealize.SL.Sem Cert.Mlp
open Idealize.ShloMosaic.Pipeline (Dat)

/-- The first layer at edge `(b, k, m)`, channel `l`. -/
def lay0 (nbr : IVec S8x64x1024x1 32) (G : FVec Ideal S8x2048x6 .f32) (cen : FVec Ideal S8x1024x3 .f32) (W : FVec Ideal S6x64 .f32)
    (bias : FVec Ideal S1x64 .f32) (b : Fin 8) (k : Fin 64) (m : Fin 1024) (l : Fin 64) : EReal :=
  max (∑ x, inK (hot (nbr (ix4 b k m 0))) (fun p y => G (ix3 b p y)) (fun j => cen (ix3 b m j)) x * W (ix2 x l) + bias (ix2 0 l)) 0

theorem idx0 : ∀ t : Fin cfg0.N, win0_0.index t = ![t.val / 64, t.val % 64, 0, 0] ∧ win0_1.index t = ![t.val / 64, t.val % 64, 0, 0]
    ∧ win0_2.index t = ![t.val / 64, 0, 0] ∧ win0_3.index t = ![t.val / 64, 0, 0] ∧ win0_4.index t = ![0, 0] ∧ win0_5.index t = ![0, 0]
    ∧ win0_6.index t = ![t.val / 64, t.val % 64, 0, 0] :=
  (by decide +kernel : ∀ t : Fin grid0.N, _)

theorem pt0 (t : Fin cfg0.N) : t.val < 512 := t.isLt

/-- The batch and the neighbour place of a point. -/
def bOf (t : Fin cfg0.N) : Fin 8 := ⟨t.val / 64, by have := pt0 t; omega⟩
def kOf (t : Fin cfg0.N) : Fin 64 := ⟨t.val % 64, by omega⟩

variable (V : (c : Dev nD) → (b : Ref sig .tc) → Buf (Elt Ideal) ((c : Thread nD τ).loc b)) (c : Dev nD)

abbrev lay0V (b : Fin 8) (k : Fin 64) (m : Fin 1024) (l : Fin 64) : EReal :=
  lay0 (V c main_call0_v3) (V c main_call0_v2) (V c main_arg2) (V c main_arg5) (V c main_call0_v5) b k m l
abbrev val0V (b : Fin 8) (k : Fin 64) (m : Fin 1024) : EReal :=
  (show FVec Ideal S8x64x1024x1 .f32 from V c main_call0_v4) (ix4 b k m 0)

/-- One point's block of the layer. -/
abbrev z0 (t : Fin cfg0.N) : FVec Ideal S1024x64 .f32 :=
  k0_pay9 (F := Ideal) (iblk0 V c 0 t) (iblk0 V c 2 t) (iblk0 V c 3 t) (iblk0 V c 4 t) (iblk0 V c 5 t)

theorem blk0_0 (t : Fin cfg0.N) (r : Fin 1024) :
    (show IVec S1x1x1024x1 32 from iblk0 V c 0 t) (ix4 0 0 r 0) = (show IVec S8x64x1024x1 32 from V c main_call0_v3) (ix4 (bOf t) (kOf t) r 0) := by
  blk_ext [iblk0, idx0 t, bOf, kOf]
theorem blk0_1 (t : Fin cfg0.N) (r : Fin 1024) :
    (show FVec Ideal S1x1x1024x1 .f32 from iblk0 V c 1 t) (ix4 0 0 r 0) = val0V V c (bOf t) (kOf t) r := by
  blk_ext [iblk0, idx0 t, bOf, kOf]
theorem blk0_2 (t : Fin cfg0.N) (p : Fin 2048) (x : Fin 6) :
    (show FVec Ideal S1x2048x6 .f32 from iblk0 V c 2 t) (ix3 0 p x) = (show FVec Ideal S8x2048x6 .f32 from V c main_call0_v2) (ix3 (bOf t) p x) := by
  blk_ext [iblk0, idx0 t, bOf, kOf]
theorem blk0_3 (t : Fin cfg0.N) (p : Fin 1024) (x : Fin 3) :
    (show FVec Ideal S1x1024x3 .f32 from iblk0 V c 3 t) (ix3 0 p x) = (show FVec Ideal S8x1024x3 .f32 from V c main_arg2) (ix3 (bOf t) p x) := by
  blk_ext [iblk0, idx0 t, bOf, kOf]
theorem blk0_4 (t : Fin cfg0.N) (x : Fin 6) (l : Fin 64) :
    (show FVec Ideal S6x64 .f32 from iblk0 V c 4 t) (ix2 x l) = (show FVec Ideal S6x64 .f32 from V c main_arg5) (ix2 x l) := by
  blk_ext [iblk0, idx0 t, bOf, kOf]
theorem blk0_5 (t : Fin cfg0.N) (l : Fin 64) :
    (show FVec Ideal S1x64 .f32 from iblk0 V c 5 t) (ix2 0 l) = (show FVec Ideal S1x64 .f32 from V c main_call0_v5) (ix2 0 l) := by
  blk_ext [iblk0, idx0 t, bOf, kOf]

theorem z0_at (t : Fin cfg0.N) (r : Fin 1024) (l : Fin 64) : z0 V c t (ix2 r l) = lay0V V c (bOf t) (kOf t) r l := by
  refine (pay0_z _ _ _ _ _ r l).trans ?_
  unfold lay0V lay0
  refine congrArg (max · 0) (congrArg₂ (· + ·) (Finset.sum_congr rfl fun x _ => congrArg₂ (· * ·) ?_ (blk0_4 V c t x l)) (blk0_5 V c t l))
  exact congrFun (congr (congr (congrArg inK (congrArg hot (blk0_0 V c t r))) (funext fun p => funext fun y => blk0_2 V c t p y))
    (funext fun j => blk0_3 V c t r j)) x

theorem outs0_1 (t : Fin cfg0.N) : (outsAt0 V c t.val t.isLt).1 = k0_pay5 (z0 V c t) := by
  by_cases h : t.val % 512 = 0
  · rw [outsAt0_A V c t h]; dsimp only; rw [out0_A_6_eq]
  · rw [outsAt0_B V c t h]; dsimp only; rw [out0_B_6_eq]

theorem ix_ind2 {n0 n1 : Nat} {P : (⟨2, ![n0, n1]⟩ : Shape).Idx → Prop} (h : ∀ a b, P (ix2 a b)) (i) : P i := by
  rw [eq_ix2 i]; exact h _ _
theorem ix_ind3 {n0 n1 n2 : Nat} {P : (⟨3, ![n0, n1, n2]⟩ : Shape).Idx → Prop} (h : ∀ a b c, P (ix3 a b c)) (i) : P i := by
  rw [eq_ix3 i]; exact h _ _ _
theorem ix_ind4 {n0 n1 n2 n3 : Nat} {P : (⟨4, ![n0, n1, n2, n3]⟩ : Shape).Idx → Prop} (h : ∀ a b c d, P (ix4 a b c d)) (i) : P i := by
  rw [eq_ix4 i]; exact h _ _ _ _

theorem point0_6 (t : Fin cfg0.N) (y : S1x1x1024x64.Idx) : k0_pay5 (z0 V c t) y
    = lay0V V c ((win0_6.blk t).view.emb y 0) ((win0_6.blk t).view.emb y 1) ((win0_6.blk t).view.emb y 2) ((win0_6.blk t).view.emb y 3) := by
  revert y
  refine ix_ind4 fun a b r l => ?_
  have h0 : (win0_6.blk t).view.emb (ix4 a b r l) 0 = bOf t := by
    apply Fin.ext; blk_simp [idx0 t, bOf]
  have h1 : (win0_6.blk t).view.emb (ix4 a b r l) 1 = kOf t := by
    apply Fin.ext; blk_simp [idx0 t, kOf]
  have h2 : (win0_6.blk t).view.emb (ix4 a b r l) 2 = r := by
    apply Fin.ext; blk_simp [idx0 t]
  have h3 : (win0_6.blk t).view.emb (ix4 a b r l) 3 = l := by
    apply Fin.ext; blk_simp [idx0 t]
  rw [h0, h1, h2, h3]
  exact (pay0_o _ a b r l).trans (z0_at V c t r l)

theorem final0_6 : (dat0 V c).arrAt 6 cfg0.N
    = (fun i => lay0V V c (i 0) (i 1) (i 2) (i 3) : FVec Ideal S8x64x1024x64 .f32) := by
  refine (dat0 V c).arrAt_eq_of_covers 6 _ (by decide +kernel) fun t _ y => ?_
  blk_simp
  rw [after0_6, outs0_1]
  exact point0_6 V c t y

theorem outs0_7 (t : Fin cfg0.N) (ht : t.val + 1 = cfg0.N) (j : S1x64.Idx) :
    (outsAt0 V c t.val t.isLt).2.1 j = ∑ p : Fin 512, ∑ r : Fin 1024, lay0V V c (bOf p) (kOf p) r (j 1) * val0V V c (bOf p) (kOf p) r := by
  have key := Pipeline.eq_sum_fin_of_reset_step_apply_last (N := cfg0.N) (fun n h => (outsAt0 V c n h).2.1) 512 (fun _ => (0 : EReal))
    (fun p j => ∑ r : Fin 1024, lay0V V c (bOf p) (kOf p) r (j 1) * val0V V c (bOf p) (kOf p) r) ?_ ?_ (le_refl 512) t ht j
  · exact key.trans (zero_add _)
  · intro t h
    refine ix_ind2 fun a l => ?_
    rw [outsAt0_A V c t h]; dsimp only; rw [out0_A_7_eq, pay0_s, pay0_6]
    exact congrArg _ (Finset.sum_congr rfl fun r _ => congrArg₂ (· * ·) (z0_at V c t r l) ((pay0_m _ r l).trans (blk0_1 V c t r)))
  · intro t h
    refine ix_ind2 fun a l => ?_
    rw [outsAt0_B V c t h]; dsimp only; rw [out0_B_7_eq, pay0_s]
    exact congrArg _ (Finset.sum_congr rfl fun r _ => congrArg₂ (· * ·) (z0_at V c t r l) ((pay0_m _ r l).trans (blk0_1 V c t r)))

theorem final0_7 : (dat0 V c).arrAt 7 cfg0.N
    = (fun j => ∑ p : Fin 512, ∑ r : Fin 1024, lay0V V c (bOf p) (kOf p) r (j 1) * val0V V c (bOf p) (kOf p) r : FVec Ideal S1x64 .f32) := by
  refine (dat0 V c).arrAt_eq_of_after_last 7 ⟨511, by decide⟩ (by decide +kernel) _ fun j => ?_
  rw [after0_7]
  exact outs0_7 V c _ rfl j

theorem outs0_8 (t : Fin cfg0.N) (ht : t.val + 1 = cfg0.N) (j : S1x64.Idx) :
    (outsAt0 V c t.val t.isLt).2.2.1 j = ∑ p : Fin 512, ∑ r : Fin 1024, lay0V V c (bOf p) (kOf p) r (j 1) * (lay0V V c (bOf p) (kOf p) r (j 1) * val0V V c (bOf p) (kOf p) r) := by
  have key := Pipeline.eq_sum_fin_of_reset_step_apply_last (N := cfg0.N) (fun n h => (outsAt0 V c n h).2.2.1) 512 (fun _ => (0 : EReal))
    (fun p j => ∑ r : Fin 1024, lay0V V c (bOf p) (kOf p) r (j 1) * (lay0V V c (bOf p) (kOf p) r (j 1) * val0V V c (bOf p) (kOf p) r)) ?_ ?_ (le_refl 512) t ht j
  · exact key.trans (zero_add _)
  · intro t h
    refine ix_ind2 fun a l => ?_
    rw [outsAt0_A V c t h]; dsimp only; rw [out0_A_8_eq, pay0_ss, pay0_7]
    exact congrArg _ (Finset.sum_congr rfl fun r _ => congrArg₂ (· * ·) (z0_at V c t r l) (congrArg₂ (· * ·) (z0_at V c t r l) ((pay0_m _ r l).trans (blk0_1 V c t r))))
  · intro t h
    refine ix_ind2 fun a l => ?_
    rw [outsAt0_B V c t h]; dsimp only; rw [out0_B_8_eq, pay0_ss]
    exact congrArg _ (Finset.sum_congr rfl fun r _ => congrArg₂ (· * ·) (z0_at V c t r l) (congrArg₂ (· * ·) (z0_at V c t r l) ((pay0_m _ r l).trans (blk0_1 V c t r))))

theorem final0_8 : (dat0 V c).arrAt 8 cfg0.N
    = (fun j => ∑ p : Fin 512, ∑ r : Fin 1024, lay0V V c (bOf p) (kOf p) r (j 1) * (lay0V V c (bOf p) (kOf p) r (j 1) * val0V V c (bOf p) (kOf p) r) : FVec Ideal S1x64 .f32) := by
  refine (dat0 V c).arrAt_eq_of_after_last 8 ⟨511, by decide⟩ (by decide +kernel) _ fun j => ?_
  rw [after0_8]
  exact outs0_8 V c _ rfl j

theorem outs0_9 (t : Fin cfg0.N) (ht : t.val + 1 = cfg0.N) (j : S1x1.Idx) :
    (outsAt0 V c t.val t.isLt).2.2.2 j = ∑ p : Fin 512, ∑ r : Fin 1024, val0V V c (bOf p) (kOf p) r := by
  have key := Pipeline.eq_sum_fin_of_reset_step_apply_last (N := cfg0.N) (fun n h => (outsAt0 V c n h).2.2.2) 512 (fun _ => (0 : EReal))
    (fun p j => ∑ r : Fin 1024, val0V V c (bOf p) (kOf p) r) ?_ ?_ (le_refl 512) t ht j
  · exact key.trans (zero_add _)
  · intro t h
    refine ix_ind2 fun a l => ?_
    rw [outsAt0_A V c t h]; dsimp only; rw [out0_A_9_eq, pay0_c, pay0_8]
    exact congrArg _ (Finset.sum_congr rfl fun r _ => blk0_1 V c t r)
  · intro t h
    refine ix_ind2 fun a l => ?_
    rw [outsAt0_B V c t h]; dsimp only; rw [out0_B_9_eq, pay0_c]
    exact congrArg _ (Finset.sum_congr rfl fun r _ => blk0_1 V c t r)

theorem final0_9 : (dat0 V c).arrAt 9 cfg0.N
    = (fun j => ∑ p : Fin 512, ∑ r : Fin 1024, val0V V c (bOf p) (kOf p) r : FVec Ideal S1x1 .f32) := by
  refine (dat0 V c).arrAt_eq_of_after_last 9 ⟨511, by decide⟩ (by decide +kernel) _ fun j => ?_
  rw [after0_9]
  exact outs0_9 V c _ rfl j

end Cert.KernelIdeal.Whole

end
-- ==== Proof.Out1.lean ====
module

public import proofs.«01_k».proof.Proof.Gen.KernelIdeal.Frame.Region1
public import Idealize.ShloMosaic.Lib.Pipeline.Value
public import Idealize.ShloMosaic.PureOps.Ideal

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.Sem

theorem r1zero2 : (![0, 0] : Fin 2 → Nat) = fun _ => 0 := funext fun a => by fin_cases a <;> rfl
theorem r1zero3 : (![0, 0, 0] : Fin 3 → Nat) = fun _ => 0 := funext fun a => by fin_cases a <;> rfl
theorem r1zero4 : (![0, 0, 0, 0] : Fin 4 → Nat) = fun _ => 0 := funext fun a => by fin_cases a <;> rfl

theorem out1_A_9_eq (c : Dev nD) (i : grid1.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x64 .f32) (h8 : a8.IsWhole) (a9 : Memref sig .tc .vmem S1x64 .f32) (h9 : a9.IsWhole) (a10 : Memref sig .tc .vmem S4096x64 .f32) (h10 : a10.IsWhole) (a11 : Memref sig .tc .vmem S1x64 .f32) (h11 : a11.IsWhole) (a12 : Memref sig .tc .vmem S1x64 .f32) (h12 : a12.IsWhole) (hc : cond1_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x64 .f32) (x8 : Vec Ideal S1x64 .f32)  :
    out1_A_9 (F := Ideal) c i a1 h1 a2 h2 a3 h3 a4 h4 a5 h5 a6 h6 a7 h7 a8 h8 a9 h9 a10 h10 a11 h11 a12 h12 hc x0 x1 x2 x3 x4 x5 x6 x7 x8  = k1_pay1 (k1_pay7 x4 x2 x3 x0 x5 x6 x7) x8 := by
  unfold out1_A_9
  rw [View.read_writes_eq_canon _ _ _ (cover1_A_9 (F := Ideal) c i a1 h1 a2 h2 a3 h3 a4 h4 a5 h5 a6 h6 a7 h7 a8 h8 a9 h9 a10 h10 a11 h11 a12 h12 hc x0 x1 x2 x3 x4 x5 x6 x7 x8 )]
  unfold kernelRun1_A; dsimp only; sl_unfold_words
  rw [View.canon_unit_zero r1zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r1zero2, View.ld_unit_zero (S := S4096x1) r1zero2, View.ld_unit_zero (S := S1x64) r1zero2, View.ld_unit_zero (S := S1x1) r1zero2, View.ld_unit_zero (S := S64x64) r1zero2]

theorem out1_A_10_eq (c : Dev nD) (i : grid1.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x64 .f32) (h8 : a8.IsWhole) (a9 : Memref sig .tc .vmem S1x64 .f32) (h9 : a9.IsWhole) (a10 : Memref sig .tc .vmem S4096x64 .f32) (h10 : a10.IsWhole) (a11 : Memref sig .tc .vmem S1x64 .f32) (h11 : a11.IsWhole) (a12 : Memref sig .tc .vmem S1x64 .f32) (h12 : a12.IsWhole) (hc : cond1_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x64 .f32) (x8 : Vec Ideal S1x64 .f32)  :
    out1_A_10 (F := Ideal) c i a1 h1 a2 h2 a3 h3 a4 h4 a5 h5 a6 h6 a7 h7 a8 h8 a9 h9 a10 h10 a11 h11 a12 h12 hc x0 x1 x2 x3 x4 x5 x6 x7 x8  = k1_pay3 (k1_pay7 x4 x2 x3 x0 x5 x6 x7) x8 x1 (k1_pay5 (F := Ideal)) := by
  unfold out1_A_10
  rw [View.read_writes_eq_canon _ _ _ (cover1_A_10 (F := Ideal) c i a1 h1 a2 h2 a3 h3 a4 h4 a5 h5 a6 h6 a7 h7 a8 h8 a9 h9 a10 h10 a11 h11 a12 h12 hc x0 x1 x2 x3 x4 x5 x6 x7 x8 )]
  unfold kernelRun1_A; dsimp only; sl_unfold_words
  rw [View.canon_cons_unit_zero (S := S1x64) r1zero2]; simp only [View.readCov_unit_zero (S := S1x64) _ r1zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r1zero2, View.ld_unit_zero (S := S4096x1) r1zero2, View.ld_unit_zero (S := S1x64) r1zero2, View.ld_unit_zero (S := S1x1) r1zero2, View.ld_unit_zero (S := S64x64) r1zero2]

theorem out1_A_11_eq (c : Dev nD) (i : grid1.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x64 .f32) (h8 : a8.IsWhole) (a9 : Memref sig .tc .vmem S1x64 .f32) (h9 : a9.IsWhole) (a10 : Memref sig .tc .vmem S4096x64 .f32) (h10 : a10.IsWhole) (a11 : Memref sig .tc .vmem S1x64 .f32) (h11 : a11.IsWhole) (a12 : Memref sig .tc .vmem S1x64 .f32) (h12 : a12.IsWhole) (hc : cond1_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x64 .f32) (x8 : Vec Ideal S1x64 .f32)  :
    out1_A_11 (F := Ideal) c i a1 h1 a2 h2 a3 h3 a4 h4 a5 h5 a6 h6 a7 h7 a8 h8 a9 h9 a10 h10 a11 h11 a12 h12 hc x0 x1 x2 x3 x4 x5 x6 x7 x8  = k1_pay4 (k1_pay7 x4 x2 x3 x0 x5 x6 x7) x8 x1 (k1_pay6 (F := Ideal)) := by
  unfold out1_A_11
  rw [View.read_writes_eq_canon _ _ _ (cover1_A_11 (F := Ideal) c i a1 h1 a2 h2 a3 h3 a4 h4 a5 h5 a6 h6 a7 h7 a8 h8 a9 h9 a10 h10 a11 h11 a12 h12 hc x0 x1 x2 x3 x4 x5 x6 x7 x8 )]
  unfold kernelRun1_A; dsimp only; sl_unfold_words
  rw [View.canon_cons_unit_zero (S := S1x64) r1zero2]; simp only [View.readCov_unit_zero (S := S1x64) _ r1zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r1zero2, View.ld_unit_zero (S := S4096x1) r1zero2, View.ld_unit_zero (S := S1x64) r1zero2, View.ld_unit_zero (S := S1x1) r1zero2, View.ld_unit_zero (S := S64x64) r1zero2]

theorem out1_B_9_eq (c : Dev nD) (i : grid1.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x64 .f32) (h8 : a8.IsWhole) (a9 : Memref sig .tc .vmem S1x64 .f32) (h9 : a9.IsWhole) (a10 : Memref sig .tc .vmem S4096x64 .f32) (h10 : a10.IsWhole) (a11 : Memref sig .tc .vmem S1x64 .f32) (h11 : a11.IsWhole) (a12 : Memref sig .tc .vmem S1x64 .f32) (h12 : a12.IsWhole) (hc : ¬cond1_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x64 .f32) (x8 : Vec Ideal S1x64 .f32) (y11 : Vec Ideal S1x64 .f32) (y12 : Vec Ideal S1x64 .f32) :
    out1_B_9 (F := Ideal) c i a1 h1 a2 h2 a3 h3 a4 h4 a5 h5 a6 h6 a7 h7 a8 h8 a9 h9 a10 h10 a11 h11 a12 h12 hc x0 x1 x2 x3 x4 x5 x6 x7 x8 y11 y12 = k1_pay1 (k1_pay7 x4 x2 x3 x0 x5 x6 x7) x8 := by
  unfold out1_B_9
  rw [View.read_writes_eq_canon _ _ _ (cover1_B_9 (F := Ideal) c i a1 h1 a2 h2 a3 h3 a4 h4 a5 h5 a6 h6 a7 h7 a8 h8 a9 h9 a10 h10 a11 h11 a12 h12 hc x0 x1 x2 x3 x4 x5 x6 x7 x8 y11 y12)]
  unfold kernelRun1_B; dsimp only; sl_unfold_words
  rw [View.canon_unit_zero r1zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r1zero2, View.ld_unit_zero (S := S4096x1) r1zero2, View.ld_unit_zero (S := S1x64) r1zero2, View.ld_unit_zero (S := S1x1) r1zero2, View.ld_unit_zero (S := S64x64) r1zero2]

theorem out1_B_10_eq (c : Dev nD) (i : grid1.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x64 .f32) (h8 : a8.IsWhole) (a9 : Memref sig .tc .vmem S1x64 .f32) (h9 : a9.IsWhole) (a10 : Memref sig .tc .vmem S4096x64 .f32) (h10 : a10.IsWhole) (a11 : Memref sig .tc .vmem S1x64 .f32) (h11 : a11.IsWhole) (a12 : Memref sig .tc .vmem S1x64 .f32) (h12 : a12.IsWhole) (hc : ¬cond1_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x64 .f32) (x8 : Vec Ideal S1x64 .f32) (y11 : Vec Ideal S1x64 .f32) (y12 : Vec Ideal S1x64 .f32) :
    out1_B_10 (F := Ideal) c i a1 h1 a2 h2 a3 h3 a4 h4 a5 h5 a6 h6 a7 h7 a8 h8 a9 h9 a10 h10 a11 h11 a12 h12 hc x0 x1 x2 x3 x4 x5 x6 x7 x8 y11 y12 = k1_pay3 (k1_pay7 x4 x2 x3 x0 x5 x6 x7) x8 x1 y11 := by
  unfold out1_B_10
  rw [View.read_writes_eq_canon _ _ _ (cover1_B_10 (F := Ideal) c i a1 h1 a2 h2 a3 h3 a4 h4 a5 h5 a6 h6 a7 h7 a8 h8 a9 h9 a10 h10 a11 h11 a12 h12 hc x0 x1 x2 x3 x4 x5 x6 x7 x8 y11 y12)]
  unfold kernelRun1_B; dsimp only; sl_unfold_words
  rw [View.canon_unit_zero r1zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r1zero2, View.ld_unit_zero (S := S4096x1) r1zero2, View.ld_unit_zero (S := S1x64) r1zero2, View.ld_unit_zero (S := S1x1) r1zero2, View.ld_unit_zero (S := S64x64) r1zero2]

theorem out1_B_11_eq (c : Dev nD) (i : grid1.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x64 .f32) (h8 : a8.IsWhole) (a9 : Memref sig .tc .vmem S1x64 .f32) (h9 : a9.IsWhole) (a10 : Memref sig .tc .vmem S4096x64 .f32) (h10 : a10.IsWhole) (a11 : Memref sig .tc .vmem S1x64 .f32) (h11 : a11.IsWhole) (a12 : Memref sig .tc .vmem S1x64 .f32) (h12 : a12.IsWhole) (hc : ¬cond1_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x64 .f32) (x8 : Vec Ideal S1x64 .f32) (y11 : Vec Ideal S1x64 .f32) (y12 : Vec Ideal S1x64 .f32) :
    out1_B_11 (F := Ideal) c i a1 h1 a2 h2 a3 h3 a4 h4 a5 h5 a6 h6 a7 h7 a8 h8 a9 h9 a10 h10 a11 h11 a12 h12 hc x0 x1 x2 x3 x4 x5 x6 x7 x8 y11 y12 = k1_pay4 (k1_pay7 x4 x2 x3 x0 x5 x6 x7) x8 x1 y12 := by
  unfold out1_B_11
  rw [View.read_writes_eq_canon _ _ _ (cover1_B_11 (F := Ideal) c i a1 h1 a2 h2 a3 h3 a4 h4 a5 h5 a6 h6 a7 h7 a8 h8 a9 h9 a10 h10 a11 h11 a12 h12 hc x0 x1 x2 x3 x4 x5 x6 x7 x8 y11 y12)]
  unfold kernelRun1_B; dsimp only; sl_unfold_words
  rw [View.canon_unit_zero r1zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r1zero2, View.ld_unit_zero (S := S4096x1) r1zero2, View.ld_unit_zero (S := S1x64) r1zero2, View.ld_unit_zero (S := S1x1) r1zero2, View.ld_unit_zero (S := S64x64) r1zero2]

end Cert.KernelIdeal.Whole

end
-- ==== Proof.Val1.lean ====
/- The second layer's call: its output array is the layer at every edge, and its two accumulated outputs are the sums over all
   edges of the weighted value and of the weighted square. -/
module

public import proofs.«01_k».proof.Proof.Out1
public import proofs.«01_k».proof.Proof.Val0
public import Idealize.ShloMosaic.Lib.Pipeline.ValueKit

@[expose] public section

set_option maxRecDepth 16384

noncomputable section

namespace Cert.KernelIdeal.Whole

open Cert.KernelIdeal Cert.KernelIdeal.Gen
open Idealize.ShloMosaic Idealize.ShloMosaic.TcCoe Idealize.SL.Sem Cert.Mlp
open Idealize.ShloMosaic.Pipeline (Dat)

/-- A layer over the layer below: normalize every channel of the edge, then the matrix, the bias and the clamp. -/
def layK {N : Nat} (h : FVec Ideal S524288x64 .f32) (s ss : FVec Ideal S1x64 .f32) (cnt : FVec Ideal S1x1 .f32) (g bt : FVec Ideal S1x64 .f32)
    (W : FVec Ideal ⟨2, ![64, N]⟩ .f32) (bias : FVec Ideal ⟨2, ![1, N]⟩ .f32) (e : Fin 524288) (l : Fin N) : EReal :=
  max (∑ x, normK (h (ix2 e x)) (s (ix2 0 x)) (ss (ix2 0 x)) (cnt (ix2 0 0)) (g (ix2 0 x)) (bt (ix2 0 x)) * W (ix2 x l) + bias (ix2 0 l)) 0

/-- The edge at row `r` of point `t`. -/
def eOf (t : Fin 128) (r : Fin 4096) : Fin 524288 := ⟨t.val * 4096 + r.val, by omega⟩

theorem idx1 : ∀ t : Fin cfg1.N, win1_0.index t = ![t.val, 0] ∧ win1_1.index t = ![t.val, 0]
    ∧ win1_2.index t = ![0, 0] ∧ win1_3.index t = ![0, 0] ∧ win1_4.index t = ![0, 0] ∧ win1_5.index t = ![0, 0] ∧ win1_6.index t = ![0, 0] ∧ win1_7.index t = ![0, 0] ∧ win1_8.index t = ![0, 0]
    ∧ win1_9.index t = ![t.val, 0] :=
  (by decide +kernel : ∀ t : Fin grid1.N, _)

variable (V : (c : Dev nD) → (b : Ref sig .tc) → Buf (Elt Ideal) ((c : Thread nD τ).loc b)) (c : Dev nD)

abbrev lay1V (e : Fin 524288) (l : Fin 64) : EReal :=
  layK (N := 64) (V c main_call0_v8) (V c main_call0_v6_1) (V c main_call0_v6_2) (V c main_call0_v6_3) (V c main_call0_v9) (V c main_call0_v10) (V c main_arg9) (V c main_call0_v11) e l
abbrev val1V (e : Fin 524288) : EReal := (show FVec Ideal S524288x1 .f32 from V c main_call0_v7) (ix2 e 0)

/-- One point's block before the bias, and the layer. -/
abbrev p1 (t : Fin cfg1.N) : FVec Ideal S4096x64 .f32 :=
  k1_pay7 (F := Ideal) (iblk1 V c 4 t) (iblk1 V c 2 t) (iblk1 V c 3 t) (iblk1 V c 0 t) (iblk1 V c 5 t) (iblk1 V c 6 t) (iblk1 V c 7 t)
abbrev z1 (t : Fin cfg1.N) : FVec Ideal S4096x64 .f32 := k1_pay1 (F := Ideal) (p1 V c t) (iblk1 V c 8 t)

theorem blk1_0 (t : Fin cfg1.N) (r : Fin 4096) (x : Fin 64) :
    (show FVec Ideal S4096x64 .f32 from iblk1 V c 0 t) (ix2 r x) = (show FVec Ideal S524288x64 .f32 from V c main_call0_v8) (ix2 (eOf t r) x) := by
  blk_ext [iblk1, idx1 t, eOf]
theorem blk1_1 (t : Fin cfg1.N) (r : Fin 4096) (x : Fin 1) :
    (show FVec Ideal S4096x1 .f32 from iblk1 V c 1 t) (ix2 r x) = (show FVec Ideal S524288x1 .f32 from V c main_call0_v7) (ix2 (eOf t r) x) := by
  blk_ext [iblk1, idx1 t, eOf]
theorem blk1_2 (t : Fin cfg1.N) (a : Fin 1) (x : Fin 64) :
    (show FVec Ideal S1x64 .f32 from iblk1 V c 2 t) (ix2 a x) = (show FVec Ideal S1x64 .f32 from V c main_call0_v6_1) (ix2 a x) := by
  blk_ext [iblk1, idx1 t]
theorem blk1_3 (t : Fin cfg1.N) (a : Fin 1) (x : Fin 64) :
    (show FVec Ideal S1x64 .f32 from iblk1 V c 3 t) (ix2 a x) = (show FVec Ideal S1x64 .f32 from V c main_call0_v6_2) (ix2 a x) := by
  blk_ext [iblk1, idx1 t]
theorem blk1_4 (t : Fin cfg1.N) (a : Fin 1) (x : Fin 1) :
    (show FVec Ideal S1x1 .f32 from iblk1 V c 4 t) (ix2 a x) = (show FVec Ideal S1x1 .f32 from V c main_call0_v6_3) (ix2 a x) := by
  blk_ext [iblk1, idx1 t]
theorem blk1_5 (t : Fin cfg1.N) (a : Fin 1) (x : Fin 64) :
    (show FVec Ideal S1x64 .f32 from iblk1 V c 5 t) (ix2 a x) = (show FVec Ideal S1x64 .f32 from V c main_call0_v9) (ix2 a x) := by
  blk_ext [iblk1, idx1 t]
theorem blk1_6 (t : Fin cfg1.N) (a : Fin 1) (x : Fin 64) :
    (show FVec Ideal S1x64 .f32 from iblk1 V c 6 t) (ix2 a x) = (show FVec Ideal S1x64 .f32 from V c main_call0_v10) (ix2 a x) := by
  blk_ext [iblk1, idx1 t]
theorem blk1_7 (t : Fin cfg1.N) (a : Fin 64) (x : Fin 64) :
    (show FVec Ideal S64x64 .f32 from iblk1 V c 7 t) (ix2 a x) = (show FVec Ideal S64x64 .f32 from V c main_arg9) (ix2 a x) := by
  blk_ext [iblk1, idx1 t]
theorem blk1_8 (t : Fin cfg1.N) (a : Fin 1) (x : Fin 64) :
    (show FVec Ideal S1x64 .f32 from iblk1 V c 8 t) (ix2 a x) = (show FVec Ideal S1x64 .f32 from V c main_call0_v11) (ix2 a x) := by
  blk_ext [iblk1, idx1 t]

theorem z1_at (t : Fin cfg1.N) (r : Fin 4096) (l : Fin 64) : z1 V c t (ix2 r l) = lay1V V c (eOf t r) l := by
  refine (pay1_z _ _ _ _ _ _ _ _ r l).trans ?_
  unfold lay1V layK
  refine congrArg (max · 0) (congrArg₂ (· + ·) (Finset.sum_congr rfl fun x _ => congrArg₂ (· * ·) ?_ (blk1_7 V c t x l)) (blk1_8 V c t 0 l))
  exact congr (congr (congr (congr (congr (congrArg normK (blk1_0 V c t r x)) (blk1_2 V c t 0 x)) (blk1_3 V c t 0 x)) (blk1_4 V c t 0 0))
    (blk1_5 V c t 0 x)) (blk1_6 V c t 0 x)

theorem outs1_1 (t : Fin cfg1.N) : (outsAt1 V c t.val t.isLt).1 = z1 V c t := by
  by_cases h : t.val % 128 = 0
  · rw [outsAt1_A V c t h]; dsimp only; rw [out1_A_9_eq]
  · rw [outsAt1_B V c t h]; dsimp only; rw [out1_B_9_eq]

theorem point1_9 (t : Fin cfg1.N) (y : S4096x64.Idx) : z1 V c t y
    = lay1V V c ((win1_9.blk t).view.emb y 0) ((win1_9.blk t).view.emb y 1) := by
  revert y
  refine ix_ind2 fun r l => ?_
  have h0 : (win1_9.blk t).view.emb (ix2 r l) 0 = eOf t r := by
    apply Fin.ext; blk_simp [idx1 t, eOf]
  have h1 : (win1_9.blk t).view.emb (ix2 r l) 1 = l := by
    apply Fin.ext; blk_simp [idx1 t]
  rw [h0, h1]
  exact z1_at V c t r l

theorem final1_9 : (dat1 V c).arrAt 9 cfg1.N
    = (fun i => lay1V V c (i 0) (i 1) : FVec Ideal S524288x64 .f32) := by
  refine (dat1 V c).arrAt_eq_of_covers 9 _ (by decide +kernel) fun t _ y => ?_
  blk_simp
  rw [after1_9, outs1_1]
  exact point1_9 V c t y

theorem outs1_10 (t : Fin cfg1.N) (ht : t.val + 1 = cfg1.N) (j : S1x64.Idx) :
    (outsAt1 V c t.val t.isLt).2.1 j = ∑ p : Fin 128, ∑ r : Fin 4096, lay1V V c (eOf p r) (j 1) * val1V V c (eOf p r) := by
  have key := Pipeline.eq_sum_fin_of_reset_step_apply_last (N := cfg1.N) (fun n h => (outsAt1 V c n h).2.1) 128 (fun _ => (0 : EReal))
    (fun p j => ∑ r : Fin 4096, lay1V V c (eOf p r) (j 1) * val1V V c (eOf p r)) ?_ ?_ (le_refl 128) t ht j
  · exact key.trans (zero_add _)
  · intro t h
    refine ix_ind2 fun a l => ?_
    rw [outsAt1_A V c t h]; dsimp only; rw [out1_A_10_eq, pay1_s, pay1_5]
    exact congrArg _ (Finset.sum_congr rfl fun r _ => congrArg₂ (· * ·) (z1_at V c t r l) (blk1_1 V c t r 0))
  · intro t h
    refine ix_ind2 fun a l => ?_
    rw [outsAt1_B V c t h]; dsimp only; rw [out1_B_10_eq, pay1_s]
    exact congrArg _ (Finset.sum_congr rfl fun r _ => congrArg₂ (· * ·) (z1_at V c t r l) (blk1_1 V c t r 0))

theorem final1_10 : (dat1 V c).arrAt 10 cfg1.N
    = (fun j => ∑ p : Fin 128, ∑ r : Fin 4096, lay1V V c (eOf p r) (j 1) * val1V V c (eOf p r) : FVec Ideal S1x64 .f32) := by
  refine (dat1 V c).arrAt_eq_of_after_last 10 ⟨127, by decide⟩ (by decide +kernel) _ fun j => ?_
  rw [after1_10]
  exact outs1_10 V c _ rfl j

theorem outs1_11 (t : Fin cfg1.N) (ht : t.val + 1 = cfg1.N) (j : S1x64.Idx) :
    (outsAt1 V c t.val t.isLt).2.2 j = ∑ p : Fin 128, ∑ r : Fin 4096, lay1V V c (eOf p r) (j 1) * (lay1V V c (eOf p r) (j 1) * val1V V c (eOf p r)) := by
  have key := Pipeline.eq_sum_fin_of_reset_step_apply_last (N := cfg1.N) (fun n h => (outsAt1 V c n h).2.2) 128 (fun _ => (0 : EReal))
    (fun p j => ∑ r : Fin 4096, lay1V V c (eOf p r) (j 1) * (lay1V V c (eOf p r) (j 1) * val1V V c (eOf p r))) ?_ ?_ (le_refl 128) t ht j
  · exact key.trans (zero_add _)
  · intro t h
    refine ix_ind2 fun a l => ?_
    rw [outsAt1_A V c t h]; dsimp only; rw [out1_A_11_eq, pay1_ss, pay1_6]
    exact congrArg _ (Finset.sum_congr rfl fun r _ => congrArg₂ (· * ·) (z1_at V c t r l) (congrArg₂ (· * ·) (z1_at V c t r l) (blk1_1 V c t r 0)))
  · intro t h
    refine ix_ind2 fun a l => ?_
    rw [outsAt1_B V c t h]; dsimp only; rw [out1_B_11_eq, pay1_ss]
    exact congrArg _ (Finset.sum_congr rfl fun r _ => congrArg₂ (· * ·) (z1_at V c t r l) (congrArg₂ (· * ·) (z1_at V c t r l) (blk1_1 V c t r 0)))

theorem final1_11 : (dat1 V c).arrAt 11 cfg1.N
    = (fun j => ∑ p : Fin 128, ∑ r : Fin 4096, lay1V V c (eOf p r) (j 1) * (lay1V V c (eOf p r) (j 1) * val1V V c (eOf p r)) : FVec Ideal S1x64 .f32) := by
  refine (dat1 V c).arrAt_eq_of_after_last 11 ⟨127, by decide⟩ (by decide +kernel) _ fun j => ?_
  rw [after1_11]
  exact outs1_11 V c _ rfl j

end Cert.KernelIdeal.Whole

end
-- ==== Proof.Out2.lean ====
module

public import proofs.«01_k».proof.Proof.Gen.KernelIdeal.Frame.Region2
public import Idealize.ShloMosaic.Lib.Pipeline.Value
public import Idealize.ShloMosaic.PureOps.Ideal

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.Sem

theorem r2zero2 : (![0, 0] : Fin 2 → Nat) = fun _ => 0 := funext fun a => by fin_cases a <;> rfl
theorem r2zero3 : (![0, 0, 0] : Fin 3 → Nat) = fun _ => 0 := funext fun a => by fin_cases a <;> rfl
theorem r2zero4 : (![0, 0, 0, 0] : Fin 4 → Nat) = fun _ => 0 := funext fun a => by fin_cases a <;> rfl

theorem out2_A_9_eq (c : Dev nD) (i : grid2.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x128 .f32) (h8 : a8.IsWhole) (a9 : Memref sig .tc .vmem S1x128 .f32) (h9 : a9.IsWhole) (a10 : Memref sig .tc .vmem S4096x128 .f32) (h10 : a10.IsWhole) (a11 : Memref sig .tc .vmem S1x128 .f32) (h11 : a11.IsWhole) (a12 : Memref sig .tc .vmem S1x128 .f32) (h12 : a12.IsWhole) (hc : cond2_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x128 .f32) (x8 : Vec Ideal S1x128 .f32)  :
    out2_A_9 (F := Ideal) c i a1 h1 a2 h2 a3 h3 a4 h4 a5 h5 a6 h6 a7 h7 a8 h8 a9 h9 a10 h10 a11 h11 a12 h12 hc x0 x1 x2 x3 x4 x5 x6 x7 x8  = k2_pay1 (k2_pay7 x4 x2 x3 x0 x5 x6 x7) x8 := by
  unfold out2_A_9
  rw [View.read_writes_eq_canon _ _ _ (cover2_A_9 (F := Ideal) c i a1 h1 a2 h2 a3 h3 a4 h4 a5 h5 a6 h6 a7 h7 a8 h8 a9 h9 a10 h10 a11 h11 a12 h12 hc x0 x1 x2 x3 x4 x5 x6 x7 x8 )]
  unfold kernelRun2_A; dsimp only; sl_unfold_words
  rw [View.canon_unit_zero r2zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r2zero2, View.ld_unit_zero (S := S4096x1) r2zero2, View.ld_unit_zero (S := S1x64) r2zero2, View.ld_unit_zero (S := S1x1) r2zero2, View.ld_unit_zero (S := S64x128) r2zero2, View.ld_unit_zero (S := S1x128) r2zero2, View.ld_unit_zero (S := S4096x128) r2zero2]

theorem out2_A_10_eq (c : Dev nD) (i : grid2.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x128 .f32) (h8 : a8.IsWhole) (a9 : Memref sig .tc .vmem S1x128 .f32) (h9 : a9.IsWhole) (a10 : Memref sig .tc .vmem S4096x128 .f32) (h10 : a10.IsWhole) (a11 : Memref sig .tc .vmem S1x128 .f32) (h11 : a11.IsWhole) (a12 : Memref sig .tc .vmem S1x128 .f32) (h12 : a12.IsWhole) (hc : cond2_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x128 .f32) (x8 : Vec Ideal S1x128 .f32)  :
    out2_A_10 (F := Ideal) c i a1 h1 a2 h2 a3 h3 a4 h4 a5 h5 a6 h6 a7 h7 a8 h8 a9 h9 a10 h10 a11 h11 a12 h12 hc x0 x1 x2 x3 x4 x5 x6 x7 x8  = k2_pay3 (k2_pay7 x4 x2 x3 x0 x5 x6 x7) x8 x1 (k2_pay5 (F := Ideal)) := by
  unfold out2_A_10
  rw [View.read_writes_eq_canon _ _ _ (cover2_A_10 (F := Ideal) c i a1 h1 a2 h2 a3 h3 a4 h4 a5 h5 a6 h6 a7 h7 a8 h8 a9 h9 a10 h10 a11 h11 a12 h12 hc x0 x1 x2 x3 x4 x5 x6 x7 x8 )]
  unfold kernelRun2_A; dsimp only; sl_unfold_words
  rw [View.canon_cons_unit_zero (S := S1x128) r2zero2]; simp only [View.readCov_unit_zero (S := S1x128) _ r2zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r2zero2, View.ld_unit_zero (S := S4096x1) r2zero2, View.ld_unit_zero (S := S1x64) r2zero2, View.ld_unit_zero (S := S1x1) r2zero2, View.ld_unit_zero (S := S64x128) r2zero2, View.ld_unit_zero (S := S1x128) r2zero2, View.ld_unit_zero (S := S4096x128) r2zero2]

theorem out2_A_11_eq (c : Dev nD) (i : grid2.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x128 .f32) (h8 : a8.IsWhole) (a9 : Memref sig .tc .vmem S1x128 .f32) (h9 : a9.IsWhole) (a10 : Memref sig .tc .vmem S4096x128 .f32) (h10 : a10.IsWhole) (a11 : Memref sig .tc .vmem S1x128 .f32) (h11 : a11.IsWhole) (a12 : Memref sig .tc .vmem S1x128 .f32) (h12 : a12.IsWhole) (hc : cond2_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x128 .f32) (x8 : Vec Ideal S1x128 .f32)  :
    out2_A_11 (F := Ideal) c i a1 h1 a2 h2 a3 h3 a4 h4 a5 h5 a6 h6 a7 h7 a8 h8 a9 h9 a10 h10 a11 h11 a12 h12 hc x0 x1 x2 x3 x4 x5 x6 x7 x8  = k2_pay4 (k2_pay7 x4 x2 x3 x0 x5 x6 x7) x8 x1 (k2_pay6 (F := Ideal)) := by
  unfold out2_A_11
  rw [View.read_writes_eq_canon _ _ _ (cover2_A_11 (F := Ideal) c i a1 h1 a2 h2 a3 h3 a4 h4 a5 h5 a6 h6 a7 h7 a8 h8 a9 h9 a10 h10 a11 h11 a12 h12 hc x0 x1 x2 x3 x4 x5 x6 x7 x8 )]
  unfold kernelRun2_A; dsimp only; sl_unfold_words
  rw [View.canon_cons_unit_zero (S := S1x128) r2zero2]; simp only [View.readCov_unit_zero (S := S1x128) _ r2zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r2zero2, View.ld_unit_zero (S := S4096x1) r2zero2, View.ld_unit_zero (S := S1x64) r2zero2, View.ld_unit_zero (S := S1x1) r2zero2, View.ld_unit_zero (S := S64x128) r2zero2, View.ld_unit_zero (S := S1x128) r2zero2, View.ld_unit_zero (S := S4096x128) r2zero2]

theorem out2_B_9_eq (c : Dev nD) (i : grid2.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x128 .f32) (h8 : a8.IsWhole) (a9 : Memref sig .tc .vmem S1x128 .f32) (h9 : a9.IsWhole) (a10 : Memref sig .tc .vmem S4096x128 .f32) (h10 : a10.IsWhole) (a11 : Memref sig .tc .vmem S1x128 .f32) (h11 : a11.IsWhole) (a12 : Memref sig .tc .vmem S1x128 .f32) (h12 : a12.IsWhole) (hc : ¬cond2_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x128 .f32) (x8 : Vec Ideal S1x128 .f32) (y11 : Vec Ideal S1x128 .f32) (y12 : Vec Ideal S1x128 .f32) :
    out2_B_9 (F := Ideal) c i a1 h1 a2 h2 a3 h3 a4 h4 a5 h5 a6 h6 a7 h7 a8 h8 a9 h9 a10 h10 a11 h11 a12 h12 hc x0 x1 x2 x3 x4 x5 x6 x7 x8 y11 y12 = k2_pay1 (k2_pay7 x4 x2 x3 x0 x5 x6 x7) x8 := by
  unfold out2_B_9
  rw [View.read_writes_eq_canon _ _ _ (cover2_B_9 (F := Ideal) c i a1 h1 a2 h2 a3 h3 a4 h4 a5 h5 a6 h6 a7 h7 a8 h8 a9 h9 a10 h10 a11 h11 a12 h12 hc x0 x1 x2 x3 x4 x5 x6 x7 x8 y11 y12)]
  unfold kernelRun2_B; dsimp only; sl_unfold_words
  rw [View.canon_unit_zero r2zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r2zero2, View.ld_unit_zero (S := S4096x1) r2zero2, View.ld_unit_zero (S := S1x64) r2zero2, View.ld_unit_zero (S := S1x1) r2zero2, View.ld_unit_zero (S := S64x128) r2zero2, View.ld_unit_zero (S := S1x128) r2zero2, View.ld_unit_zero (S := S4096x128) r2zero2]

theorem out2_B_10_eq (c : Dev nD) (i : grid2.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x128 .f32) (h8 : a8.IsWhole) (a9 : Memref sig .tc .vmem S1x128 .f32) (h9 : a9.IsWhole) (a10 : Memref sig .tc .vmem S4096x128 .f32) (h10 : a10.IsWhole) (a11 : Memref sig .tc .vmem S1x128 .f32) (h11 : a11.IsWhole) (a12 : Memref sig .tc .vmem S1x128 .f32) (h12 : a12.IsWhole) (hc : ¬cond2_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x128 .f32) (x8 : Vec Ideal S1x128 .f32) (y11 : Vec Ideal S1x128 .f32) (y12 : Vec Ideal S1x128 .f32) :
    out2_B_10 (F := Ideal) c i a1 h1 a2 h2 a3 h3 a4 h4 a5 h5 a6 h6 a7 h7 a8 h8 a9 h9 a10 h10 a11 h11 a12 h12 hc x0 x1 x2 x3 x4 x5 x6 x7 x8 y11 y12 = k2_pay3 (k2_pay7 x4 x2 x3 x0 x5 x6 x7) x8 x1 y11 := by
  unfold out2_B_10
  rw [View.read_writes_eq_canon _ _ _ (cover2_B_10 (F := Ideal) c i a1 h1 a2 h2 a3 h3 a4 h4 a5 h5 a6 h6 a7 h7 a8 h8 a9 h9 a10 h10 a11 h11 a12 h12 hc x0 x1 x2 x3 x4 x5 x6 x7 x8 y11 y12)]
  unfold kernelRun2_B; dsimp only; sl_unfold_words
  rw [View.canon_unit_zero r2zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r2zero2, View.ld_unit_zero (S := S4096x1) r2zero2, View.ld_unit_zero (S := S1x64) r2zero2, View.ld_unit_zero (S := S1x1) r2zero2, View.ld_unit_zero (S := S64x128) r2zero2, View.ld_unit_zero (S := S1x128) r2zero2, View.ld_unit_zero (S := S4096x128) r2zero2]

theorem out2_B_11_eq (c : Dev nD) (i : grid2.Coords) (a1 : Memref sig .tc .vmem S4096x64 .f32) (h1 : a1.IsWhole) (a2 : Memref sig .tc .vmem S4096x1 .f32) (h2 : a2.IsWhole) (a3 : Memref sig .tc .vmem S1x64 .f32) (h3 : a3.IsWhole) (a4 : Memref sig .tc .vmem S1x64 .f32) (h4 : a4.IsWhole) (a5 : Memref sig .tc .vmem S1x1 .f32) (h5 : a5.IsWhole) (a6 : Memref sig .tc .vmem S1x64 .f32) (h6 : a6.IsWhole) (a7 : Memref sig .tc .vmem S1x64 .f32) (h7 : a7.IsWhole) (a8 : Memref sig .tc .vmem S64x128 .f32) (h8 : a8.IsWhole) (a9 : Memref sig .tc .vmem S1x128 .f32) (h9 : a9.IsWhole) (a10 : Memref sig .tc .vmem S4096x128 .f32) (h10 : a10.IsWhole) (a11 : Memref sig .tc .vmem S1x128 .f32) (h11 : a11.IsWhole) (a12 : Memref sig .tc .vmem S1x128 .f32) (h12 : a12.IsWhole) (hc : ¬cond2_0 i)
    (x0 : Vec Ideal S4096x64 .f32) (x1 : Vec Ideal S4096x1 .f32) (x2 : Vec Ideal S1x64 .f32) (x3 : Vec Ideal S1x64 .f32) (x4 : Vec Ideal S1x1 .f32) (x5 : Vec Ideal S1x64 .f32) (x6 : Vec Ideal S1x64 .f32) (x7 : Vec Ideal S64x128 .f32) (x8 : Vec Ideal S1x128 .f32) (y11 : Vec Ideal S1x128 .f32) (y12 : Vec Ideal S1x128 .f32) :
    out2_B_11 (F := Ideal) c i a1 h1 a2 h2 a3 h3 a4 h4 a5 h5 a6 h6 a7 h7 a8 h8 a9 h9 a10 h10 a11 h11 a12 h12 hc x0 x1 x2 x3 x4 x5 x6 x7 x8 y11 y12 = k2_pay4 (k2_pay7 x4 x2 x3 x0 x5 x6 x7) x8 x1 y12 := by
  unfold out2_B_11
  rw [View.read_writes_eq_canon _ _ _ (cover2_B_11 (F := Ideal) c i a1 h1 a2 h2 a3 h3 a4 h4 a5 h5 a6 h6 a7 h7 a8 h8 a9 h9 a10 h10 a11 h11 a12 h12 hc x0 x1 x2 x3 x4 x5 x6 x7 x8 y11 y12)]
  unfold kernelRun2_B; dsimp only; sl_unfold_words
  rw [View.canon_unit_zero r2zero2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S4096x64) r2zero2, View.ld_unit_zero (S := S4096x1) r2zero2, View.ld_unit_zero (S := S1x64) r2zero2, View.ld_unit_zero (S := S1x1) r2zero2, View.ld_unit_zero (S := S64x128) r2zero2, View.ld_unit_zero (S := S1x128) r2zero2, View.ld_unit_zero (S := S4096x128) r2zero2]

end Cert.KernelIdeal.Whole

end
-- ==== Proof.Val2.lean ====
/- The third layer's call: its output array is the layer at every edge, and its two accumulated outputs are the sums over all
   edges of the weighted value and of the weighted square. -/
module

public import proofs.«01_k».proof.Proof.Out2
public import proofs.«01_k».proof.Proof.Val1
public import Idealize.ShloMosaic.Lib.Pipeline.ValueKit

@[expose] public section

set_option maxRecDepth 16384

noncomputable section

namespace Cert.KernelIdeal.Whole

open Cert.KernelIdeal Cert.KernelIdeal.Gen
open Idealize.ShloMosaic Idealize.ShloMosaic.TcCoe Idealize.SL.Sem Cert.Mlp
open Idealize.ShloMosaic.Pipeline (Dat)

theorem idx2 : ∀ t : Fin cfg2.N, win2_0.index t = ![t.val, 0] ∧ win2_1.index t = ![t.val, 0]
    ∧ win2_2.index t = ![0, 0] ∧ win2_3.index t = ![0, 0] ∧ win2_4.index t = ![0, 0] ∧ win2_5.index t = ![0, 0] ∧ win2_6.index t = ![0, 0] ∧ win2_7.index t = ![0, 0] ∧ win2_8.index t = ![0, 0]
    ∧ win2_9.index t = ![t.val, 0] :=
  (by decide +kernel : ∀ t : Fin grid2.N, _)

variable (V : (c : Dev nD) → (b : Ref sig .tc) → Buf (Elt Ideal) ((c : Thread nD τ).loc b)) (c : Dev nD)

abbrev lay2V (e : Fin 524288) (l : Fin 128) : EReal :=
  layK (N := 128) (V c main_call0_v12_0) (V c main_call0_v12_1) (V c main_call0_v12_2) (V c main_call0_v6_3) (V c main_call0_v13) (V c main_call0_v14) (V c main_arg13) (V c main_call0_v15) e l
abbrev val2V (e : Fin 524288) : EReal := (show FVec Ideal S524288x1 .f32 from V c main_call0_v7) (ix2 e 0)

/-- One point's block before the bias, and the layer. -/
abbrev p2 (t : Fin cfg2.N) : FVec Ideal S4096x128 .f32 :=
  k2_pay7 (F := Ideal) (iblk2 V c 4 t) (iblk2 V c 2 t) (iblk2 V c 3 t) (iblk2 V c 0 t) (iblk2 V c 5 t) (iblk2 V c 6 t) (iblk2 V c 7 t)
abbrev z2 (t : Fin cfg2.N) : FVec Ideal S4096x128 .f32 := k2_pay1 (F := Ideal) (p2 V c t) (iblk2 V c 8 t)

theorem blk2_0 (t : Fin cfg2.N) (r : Fin 4096) (x : Fin 64) :
    (show FVec Ideal S4096x64 .f32 from iblk2 V c 0 t) (ix2 r x) = (show FVec Ideal S524288x64 .f32 from V c main_call0_v12_0) (ix2 (eOf t r) x) := by
  blk_ext [iblk2, idx2 t, eOf]
theorem blk2_1 (t : Fin cfg2.N) (r : Fin 4096) (x : Fin 1) :
    (show FVec Ideal S4096x1 .f32 from iblk2 V c 1 t) (ix2 r x) = (show FVec Ideal S524288x1 .f32 from V c main_call0_v7) (ix2 (eOf t r) x) := by
  blk_ext [iblk2, idx2 t, eOf]
theorem blk2_2 (t : Fin cfg2.N) (a : Fin 1) (x : Fin 64) :
    (show FVec Ideal S1x64 .f32 from iblk2 V c 2 t) (ix2 a x) = (show FVec Ideal S1x64 .f32 from V c main_call0_v12_1) (ix2 a x) := by
  blk_ext [iblk2, idx2 t]
theorem blk2_3 (t : Fin cfg2.N) (a : Fin 1) (x : Fin 64) :
    (show FVec Ideal S1x64 .f32 from iblk2 V c 3 t) (ix2 a x) = (show FVec Ideal S1x64 .f32 from V c main_call0_v12_2) (ix2 a x) := by
  blk_ext [iblk2, idx2 t]
theorem blk2_4 (t : Fin cfg2.N) (a : Fin 1) (x : Fin 1) :
    (show FVec Ideal S1x1 .f32 from iblk2 V c 4 t) (ix2 a x) = (show FVec Ideal S1x1 .f32 from V c main_call0_v6_3) (ix2 a x) := by
  blk_ext [iblk2, idx2 t]
theorem blk2_5 (t : Fin cfg2.N) (a : Fin 1) (x : Fin 64) :
    (show FVec Ideal S1x64 .f32 from iblk2 V c 5 t) (ix2 a x) = (show FVec Ideal S1x64 .f32 from V c main_call0_v13) (ix2 a x) := by
  blk_ext [iblk2, idx2 t]
theorem blk2_6 (t : Fin cfg2.N) (a : Fin 1) (x : Fin 64) :
    (show FVec Ideal S1x64 .f32 from iblk2 V c 6 t) (ix2 a x) = (show FVec Ideal S1x64 .f32 from V c main_call0_v14) (ix2 a x) := by
  blk_ext [iblk2, idx2 t]
theorem blk2_7 (t : Fin cfg2.N) (a : Fin 64) (x : Fin 128) :
    (show FVec Ideal S64x128 .f32 from iblk2 V c 7 t) (ix2 a x) = (show FVec Ideal S64x128 .f32 from V c main_arg13) (ix2 a x) := by
  blk_ext [iblk2, idx2 t]
theorem blk2_8 (t : Fin cfg2.N) (a : Fin 1) (x : Fin 128) :
    (show FVec Ideal S1x128 .f32 from iblk2 V c 8 t) (ix2 a x) = (show FVec Ideal S1x128 .f32 from V c main_call0_v15) (ix2 a x) := by
  blk_ext [iblk2, idx2 t]

theorem z2_at (t : Fin cfg2.N) (r : Fin 4096) (l : Fin 128) : z2 V c t (ix2 r l) = lay2V V c (eOf t r) l := by
  refine (pay2_z _ _ _ _ _ _ _ _ r l).trans ?_
  unfold lay2V layK
  refine congrArg (max · 0) (congrArg₂ (· + ·) (Finset.sum_congr rfl fun x _ => congrArg₂ (· * ·) ?_ (blk2_7 V c t x l)) (blk2_8 V c t 0 l))
  exact congr (congr (congr (congr (congr (congrArg normK (blk2_0 V c t r x)) (blk2_2 V c t 0 x)) (blk2_3 V c t 0 x)) (blk2_4 V c t 0 0))
    (blk2_5 V c t 0 x)) (blk2_6 V c t 0 x)

theorem outs2_1 (t : Fin cfg2.N) : (outsAt2 V c t.val t.isLt).1 = z2 V c t := by
  by_cases h : t.val % 128 = 0
  · rw [outsAt2_A V c t h]; dsimp only; rw [out2_A_9_eq]
  · rw [outsAt2_B V c t h]; dsimp only; rw [out2_B_9_eq]

theorem point2_9 (t : Fin cfg2.N) (y : S4096x128.Idx) : z2 V c t y
    = lay2V V c ((win2_9.blk t).view.emb y 0) ((win2_9.blk t).view.emb y 1) := by
  revert y
  refine ix_ind2 fun r l => ?_
  have h0 : (win2_9.blk t).view.emb (ix2 r l) 0 = eOf t r := by
    apply Fin.ext; blk_simp [idx2 t, eOf]
  have h1 : (win2_9.blk t).view.emb (ix2 r l) 1 = l := by
    apply Fin.ext; blk_simp [idx2 t]
  rw [h0, h1]
  exact z2_at V c t r l

theorem final2_9 : (dat2 V c).arrAt 9 cfg2.N
    = (fun i => lay2V V c (i 0) (i 1) : FVec Ideal S524288x128 .f32) := by
  refine (dat2 V c).arrAt_eq_of_covers 9 _ (by decide +kernel) fun t _ y => ?_
  blk_simp
  rw [after2_9, outs2_1]
  exact point2_9 V c t y

theorem outs2_10 (t : Fin cfg2.N) (ht : t.val + 1 = cfg2.N) (j : S1x128.Idx) :
    (outsAt2 V c t.val t.isLt).2.1 j = ∑ p : Fin 128, ∑ r : Fin 4096, lay2V V c (eOf p r) (j 1) * val2V V c (eOf p r) := by
  have key := Pipeline.eq_sum_fin_of_reset_step_apply_last (N := cfg2.N) (fun n h => (outsAt2 V c n h).2.1) 128 (fun _ => (0 : EReal))
    (fun p j => ∑ r : Fin 4096, lay2V V c (eOf p r) (j 1) * val2V V c (eOf p r)) ?_ ?_ (le_refl 128) t ht j
  · exact key.trans (zero_add _)
  · intro t h
    refine ix_ind2 fun a l => ?_
    rw [outsAt2_A V c t h]; dsimp only; rw [out2_A_10_eq, pay2_s, pay2_5]
    exact congrArg _ (Finset.sum_congr rfl fun r _ => congrArg₂ (· * ·) (z2_at V c t r l) (blk2_1 V c t r 0))
  · intro t h
    refine ix_ind2 fun a l => ?_
    rw [outsAt2_B V c t h]; dsimp only; rw [out2_B_10_eq, pay2_s]
    exact congrArg _ (Finset.sum_congr rfl fun r _ => congrArg₂ (· * ·) (z2_at V c t r l) (blk2_1 V c t r 0))

theorem final2_10 : (dat2 V c).arrAt 10 cfg2.N
    = (fun j => ∑ p : Fin 128, ∑ r : Fin 4096, lay2V V c (eOf p r) (j 1) * val2V V c (eOf p r) : FVec Ideal S1x128 .f32) := by
  refine (dat2 V c).arrAt_eq_of_after_last 10 ⟨127, by decide⟩ (by decide +kernel) _ fun j => ?_
  rw [after2_10]
  exact outs2_10 V c _ rfl j

theorem outs2_11 (t : Fin cfg2.N) (ht : t.val + 1 = cfg2.N) (j : S1x128.Idx) :
    (outsAt2 V c t.val t.isLt).2.2 j = ∑ p : Fin 128, ∑ r : Fin 4096, lay2V V c (eOf p r) (j 1) * (lay2V V c (eOf p r) (j 1) * val2V V c (eOf p r)) := by
  have key := Pipeline.eq_sum_fin_of_reset_step_apply_last (N := cfg2.N) (fun n h => (outsAt2 V c n h).2.2) 128 (fun _ => (0 : EReal))
    (fun p j => ∑ r : Fin 4096, lay2V V c (eOf p r) (j 1) * (lay2V V c (eOf p r) (j 1) * val2V V c (eOf p r))) ?_ ?_ (le_refl 128) t ht j
  · exact key.trans (zero_add _)
  · intro t h
    refine ix_ind2 fun a l => ?_
    rw [outsAt2_A V c t h]; dsimp only; rw [out2_A_11_eq, pay2_ss, pay2_6]
    exact congrArg _ (Finset.sum_congr rfl fun r _ => congrArg₂ (· * ·) (z2_at V c t r l) (congrArg₂ (· * ·) (z2_at V c t r l) (blk2_1 V c t r 0)))
  · intro t h
    refine ix_ind2 fun a l => ?_
    rw [outsAt2_B V c t h]; dsimp only; rw [out2_B_11_eq, pay2_ss]
    exact congrArg _ (Finset.sum_congr rfl fun r _ => congrArg₂ (· * ·) (z2_at V c t r l) (congrArg₂ (· * ·) (z2_at V c t r l) (blk2_1 V c t r 0)))

theorem final2_11 : (dat2 V c).arrAt 11 cfg2.N
    = (fun j => ∑ p : Fin 128, ∑ r : Fin 4096, lay2V V c (eOf p r) (j 1) * (lay2V V c (eOf p r) (j 1) * val2V V c (eOf p r)) : FVec Ideal S1x128 .f32) := by
  refine (dat2 V c).arrAt_eq_of_after_last 11 ⟨127, by decide⟩ (by decide +kernel) _ fun j => ?_
  rw [after2_11]
  exact outs2_11 V c _ rfl j

end Cert.KernelIdeal.Whole

end
-- ==== Proof.Out3.lean ====
module

public import proofs.«01_k».proof.Proof.Gen.KernelIdeal.Frame.Region3
public import Idealize.ShloMosaic.Lib.Pipeline.Value
public import Idealize.ShloMosaic.PureOps.Ideal

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.Sem

theorem r3zero2 : (![0, 0] : Fin 2 → Nat) = fun _ => 0 := funext fun a => by fin_cases a <;> rfl
theorem r3zero3 : (![0, 0, 0] : Fin 3 → Nat) = fun _ => 0 := funext fun a => by fin_cases a <;> rfl
theorem r3zero4 : (![0, 0, 0, 0] : Fin 4 → Nat) = fun _ => 0 := funext fun a => by fin_cases a <;> rfl

theorem out3_7_eq (x0 : Vec Ideal S1x64x256x128 .f32) (x1 : Vec Ideal S1x64x256 .f32) (x2 : Vec Ideal S1x128 .f32) (x3 : Vec Ideal S1x128 .f32)
    (x4 : Vec Ideal S1x1 .f32) (x5 : Vec Ideal S1x128 .f32) (x6 : Vec Ideal S1x128 .f32) :
    out3_7 (F := Ideal) x0 x1 x2 x3 x4 x5 x6
      = k3_pay1 (k3_pay2 x4 x2 x3 x5 x0 x6) (k3_pay3 x1) (Scalar.ofBits .f32 0x00000000#32) := by
  unfold out3_7 r3_4
  rw [View.canon_unit_zero (S := S1x256x128) r3zero3]
  unfold r3_0 r3_1 r3_2 r3_3
  rw [View.ld_unit_zero (S := S1x1) r3zero2, View.ld_unit_zero (S := S1x128) r3zero2, View.ld_unit_zero (S := S1x128) r3zero2,
    View.ld_unit_zero (S := S1x128) r3zero2, View.ld_unit_zero (S := S1x128) r3zero2, View.ld_unit_zero (S := S1x64x256x128) r3zero4,
    View.ld_unit_zero (S := S1x64x256) r3zero3]

end Cert.KernelIdeal.Whole

end
-- ==== Proof.Val3.lean ====
/- The last call: at every centre and channel, the greatest normalized value among the centre's neighbours. -/
module

public import proofs.«01_k».proof.Proof.Out3
public import proofs.«01_k».proof.Proof.Val2
public import Idealize.ShloMosaic.Lib.Pipeline.ValueKit

@[expose] public section

set_option maxRecDepth 16384

noncomputable section

namespace Cert.KernelIdeal.Whole

open Cert.KernelIdeal Cert.KernelIdeal.Gen
open Idealize.ShloMosaic Idealize.ShloMosaic.TcCoe Idealize.SL.Sem Cert.Mlp
open Idealize.ShloMosaic.Pipeline (Dat)

/-- The greatest normalized value among the neighbours of centre `m` of cloud `b`. -/
def best (h : FVec Ideal S8x64x1024x128 .f32) (val : FVec Ideal S8x64x1024 .f32) (s ss : FVec Ideal S1x128 .f32) (cnt : FVec Ideal S1x1 .f32)
    (g bt : FVec Ideal S1x128 .f32) (b : Fin 8) (m : Fin 1024) (l : Fin 128) : EReal :=
  Finset.fold max (Ideal.ofBits .f32 0xFF800000#32) (fun k : Fin 64 => if 0 < val (ix3 b k m)
    then normK (h (ix4 b k m l)) (s (ix2 0 l)) (ss (ix2 0 l)) (cnt (ix2 0 0)) (g (ix2 0 l)) (bt (ix2 0 l)) else Ideal.ofBits .f32 0xFF800000#32) Finset.univ

theorem idx3 : ∀ t : Fin cfg3.N, win3_0.index t = ![t.val / 4, 0, t.val % 4, 0] ∧ win3_1.index t = ![t.val / 4, 0, t.val % 4]
    ∧ win3_2.index t = ![0, 0] ∧ win3_3.index t = ![0, 0] ∧ win3_4.index t = ![0, 0] ∧ win3_5.index t = ![0, 0] ∧ win3_6.index t = ![0, 0]
    ∧ win3_7.index t = ![t.val / 4, t.val % 4, 0] :=
  (by decide +kernel : ∀ t : Fin grid3.N, _)

/-- The cloud of a point, and the centre at row `r` of a point. -/
def b3 (t : Fin cfg3.N) : Fin 8 := ⟨t.val / 4, by have : t.val < 32 := t.isLt; omega⟩
def m3 (t : Fin cfg3.N) (r : Fin 256) : Fin 1024 := ⟨t.val % 4 * 256 + r.val, by omega⟩

variable (V : (c : Dev nD) → (b : Ref sig .tc) → Buf (Elt Ideal) ((c : Thread nD τ).loc b)) (c : Dev nD)

abbrev best3V (b : Fin 8) (m : Fin 1024) (l : Fin 128) : EReal :=
  best (V c main_call0_v17) (V c main_arg1) (V c main_call0_v16_1) (V c main_call0_v16_2) (V c main_call0_v6_3) (V c main_call0_v18) (V c main_call0_v19) b m l

theorem blk3_0 (t : Fin cfg3.N) (k : Fin 64) (r : Fin 256) (l : Fin 128) :
    (show FVec Ideal S1x64x256x128 .f32 from iblk3 V c 0 t) (ix4 0 k r l) = (show FVec Ideal S8x64x1024x128 .f32 from V c main_call0_v17) (ix4 (b3 t) k (m3 t r) l) := by
  blk_ext [iblk3, idx3 t, b3, m3]
theorem blk3_1 (t : Fin cfg3.N) (k : Fin 64) (r : Fin 256) :
    (show FVec Ideal S1x64x256 .f32 from iblk3 V c 1 t) (ix3 0 k r) = (show FVec Ideal S8x64x1024 .f32 from V c main_arg1) (ix3 (b3 t) k (m3 t r)) := by
  blk_ext [iblk3, idx3 t, b3, m3]
theorem blk3_2 (t : Fin cfg3.N) (a : Fin 1) (x : Fin 128) :
    (show FVec Ideal S1x128 .f32 from iblk3 V c 2 t) (ix2 a x) = (show FVec Ideal S1x128 .f32 from V c main_call0_v16_1) (ix2 a x) := by
  blk_ext [iblk3, idx3 t]
theorem blk3_3 (t : Fin cfg3.N) (a : Fin 1) (x : Fin 128) :
    (show FVec Ideal S1x128 .f32 from iblk3 V c 3 t) (ix2 a x) = (show FVec Ideal S1x128 .f32 from V c main_call0_v16_2) (ix2 a x) := by
  blk_ext [iblk3, idx3 t]
theorem blk3_4 (t : Fin cfg3.N) (a : Fin 1) (x : Fin 1) :
    (show FVec Ideal S1x1 .f32 from iblk3 V c 4 t) (ix2 a x) = (show FVec Ideal S1x1 .f32 from V c main_call0_v6_3) (ix2 a x) := by
  blk_ext [iblk3, idx3 t]
theorem blk3_5 (t : Fin cfg3.N) (a : Fin 1) (x : Fin 128) :
    (show FVec Ideal S1x128 .f32 from iblk3 V c 5 t) (ix2 a x) = (show FVec Ideal S1x128 .f32 from V c main_call0_v18) (ix2 a x) := by
  blk_ext [iblk3, idx3 t]
theorem blk3_6 (t : Fin cfg3.N) (a : Fin 1) (x : Fin 128) :
    (show FVec Ideal S1x128 .f32 from iblk3 V c 6 t) (ix2 a x) = (show FVec Ideal S1x128 .f32 from V c main_call0_v19) (ix2 a x) := by
  blk_ext [iblk3, idx3 t]

abbrev o3 (t : Fin cfg3.N) : FVec Ideal S1x256x128 .f32 :=
  k3_pay1 (F := Ideal) (k3_pay2 (iblk3 V c 4 t) (iblk3 V c 2 t) (iblk3 V c 3 t) (iblk3 V c 5 t) (iblk3 V c 0 t) (iblk3 V c 6 t)) (k3_pay3 (iblk3 V c 1 t))
    (Scalar.ofBits .f32 0x00000000#32)

theorem o3_at (t : Fin cfg3.N) (a : Fin 1) (r : Fin 256) (l : Fin 128) : o3 V c t (ix3 a r l) = best3V V c (b3 t) (m3 t r) l := by
  refine (pay3_o _ _ a r l).trans ?_
  unfold best3V best
  refine congrArg (fun f : Fin 64 → EReal => Finset.fold max (Ideal.ofBits .f32 0xFF800000#32) f Finset.univ) (funext fun k => ?_)
  have hv := (pay3_v (iblk3 V c 1 t) k r 0).trans (blk3_1 V c t k r)
  have hn := (pay3_n (iblk3 V c 4 t) (iblk3 V c 2 t) (iblk3 V c 3 t) (iblk3 V c 5 t) (iblk3 V c 6 t) (iblk3 V c 0 t) k r l).trans
    (congr (congr (congr (congr (congr (congrArg normK (blk3_0 V c t k r l)) (blk3_2 V c t 0 l)) (blk3_3 V c t 0 l)) (blk3_4 V c t 0 0))
      (blk3_5 V c t 0 l)) (blk3_6 V c t 0 l))
  exact congrArg₂ (fun x y : EReal => if 0 < x then y else Ideal.ofBits .f32 0xFF800000#32) hv hn

theorem point3_7 (t : Fin cfg3.N) (y : S1x256x128.Idx) : o3 V c t y
    = best3V V c ((win3_7.blk t).view.emb y 0) ((win3_7.blk t).view.emb y 1) ((win3_7.blk t).view.emb y 2) := by
  revert y
  refine ix_ind3 fun a r l => ?_
  have h0 : (win3_7.blk t).view.emb (ix3 a r l) 0 = b3 t := by
    apply Fin.ext; blk_simp [idx3 t, b3]
  have h1 : (win3_7.blk t).view.emb (ix3 a r l) 1 = m3 t r := by
    apply Fin.ext; blk_simp [idx3 t, m3]
  have h2 : (win3_7.blk t).view.emb (ix3 a r l) 2 = l := by
    apply Fin.ext; blk_simp [idx3 t]
  rw [h0, h1, h2]
  exact o3_at V c t a r l

theorem final3_7 : (dat3 V c).arrAt 7 cfg3.N
    = (fun i => best3V V c (i 0) (i 1) (i 2) : FVec Ideal S8x1024x128 .f32) := by
  refine (dat3 V c).arrAt_eq_of_covers 7 _ (by decide +kernel) fun t _ y => ?_
  blk_simp
  rw [after3_7, out3_7_eq]
  exact point3_7 V c t y

end Cert.KernelIdeal.Whole

end
-- ==== Proof.Chain.lean ====
/- The kernel's result as a function of its arguments: the regions' values joined by the host's reshapes. -/
module

public import proofs.«01_k».proof.Proof.Resh
public import proofs.«01_k».proof.Proof.Val0
public import proofs.«01_k».proof.Proof.Val1
public import proofs.«01_k».proof.Proof.Val2
public import proofs.«01_k».proof.Proof.Val3

@[expose] public section

set_option maxRecDepth 16384

noncomputable section

namespace Cert.KernelIdeal.Whole

open Cert.KernelIdeal Cert.KernelIdeal.Gen Idealize.ShloMosaic Idealize.ShloMosaic.TcCoe Idealize.SL.Sem Cert.Mlp

/-- A point's features: its own three, then its position. -/
def feat (x3 x4 : FVec Ideal S16384x3 .f32) (b : Fin 8) (p : Fin 2048) (y : Fin 6) : EReal :=
  if h : y.val < 3 then x3 (ix2 ⟨b.val * 2048 + p.val, by have := b.isLt; have := p.isLt; omega⟩ ⟨y.val, h⟩)
  else x4 (ix2 ⟨b.val * 2048 + p.val, by have := b.isLt; have := p.isLt; omega⟩ ⟨y.val - 3, by omega⟩)

/-- The first layer's input at an edge, as the kernel forms it. -/
def ein (x0 : IVec S8x64x1024 32) (x2 : FVec Ideal S8x1024x3 .f32) (x3 x4 : FVec Ideal S16384x3 .f32) (e : Edge) : Fin 6 → EReal :=
  inK (hot (x0 (ix3 e.1 e.2.2 e.2.1))) (feat x3 x4 e.1) (fun j => x2 (ix3 e.1 e.2.1 j))

/-- A rank-two array, as a matrix. -/
abbrev mat {M N : Nat} (W : FVec Ideal ⟨2, ![M, N]⟩ .f32) : Fin M → Fin N → EReal := fun x l => W (ix2 x l)
/-- A rank-one array, as a vector. -/
abbrev vec {N : Nat} (b : FVec Ideal ⟨1, ![N]⟩ .f32) : Fin N → EReal := fun l => b (ix1 l)
/-- The edges' weights. -/
abbrev wgt (x1 : FVec Ideal S8x64x1024 .f32) : Edge → EReal := fun e => x1 (ix3 e.1 e.2.2 e.2.1)

section
variable (m : (ℓ : Loc nD τ sig) → Buf (Elt Ideal) ℓ) (ρ : Dev nD → PrngReg) (c : Dev nD)

abbrev A0 : IVec S8x64x1024 32 := m ((c : Thread nD τ).loc main_arg0)
abbrev A1 : FVec Ideal S8x64x1024 .f32 := m ((c : Thread nD τ).loc main_arg1)
abbrev A2 : FVec Ideal S8x1024x3 .f32 := m ((c : Thread nD τ).loc main_arg2)
abbrev A3 : FVec Ideal S16384x3 .f32 := m ((c : Thread nD τ).loc main_arg3)
abbrev A4 : FVec Ideal S16384x3 .f32 := m ((c : Thread nD τ).loc main_arg4)
abbrev A5 : FVec Ideal S6x64 .f32 := m ((c : Thread nD τ).loc main_arg5)
abbrev A6 : FVec Ideal S64 .f32 := m ((c : Thread nD τ).loc main_arg6)
abbrev A7 : FVec Ideal S64 .f32 := m ((c : Thread nD τ).loc main_arg7)
abbrev A8 : FVec Ideal S64 .f32 := m ((c : Thread nD τ).loc main_arg8)
abbrev A9 : FVec Ideal S64x64 .f32 := m ((c : Thread nD τ).loc main_arg9)
abbrev A10 : FVec Ideal S64 .f32 := m ((c : Thread nD τ).loc main_arg10)
abbrev A11 : FVec Ideal S64 .f32 := m ((c : Thread nD τ).loc main_arg11)
abbrev A12 : FVec Ideal S64 .f32 := m ((c : Thread nD τ).loc main_arg12)
abbrev A13 : FVec Ideal S64x128 .f32 := m ((c : Thread nD τ).loc main_arg13)
abbrev A14 : FVec Ideal S128 .f32 := m ((c : Thread nD τ).loc main_arg14)
abbrev A15 : FVec Ideal S128 .f32 := m ((c : Thread nD τ).loc main_arg15)
abbrev A16 : FVec Ideal S128 .f32 := m ((c : Thread nD τ).loc main_arg16)

/-- The layers' values over the edges. -/
def Z0 : Edge → Fin 64 → EReal := dn (ein (A0 m c) (A2 m c) (A3 m c) (A4 m c)) (mat (A5 m c)) (vec (A6 m c))
def Z1 : Edge → Fin 64 → EReal := dn (nK (Z0 m c) (wgt (A1 m c)) (vec (A7 m c)) (vec (A8 m c))) (mat (A9 m c)) (vec (A10 m c))
def Z2 : Edge → Fin 128 → EReal := dn (nK (Z1 m c) (wgt (A1 m c)) (vec (A11 m c)) (vec (A12 m c))) (mat (A13 m c)) (vec (A14 m c))

theorem V1_v3 (b : Fin 8) (k : Fin 64) (p : Fin 1024) : V1 m ρ c main_call0_v3 (ix4 b k p 0) = A0 m c (ix3 b k p) :=
  (congrFun (after0_main_call0_v3 (W0 m ρ c)) (ix4 b k p 0)).trans (rs_n _ _ b k p)

theorem V1_v4 (b : Fin 8) (k : Fin 64) (p : Fin 1024) : V1 m ρ c main_call0_v4 (ix4 b k p 0) = A1 m c (ix3 b k p) :=
  (congrFun (after0_main_call0_v4 (W0 m ρ c)) (ix4 b k p 0)).trans (rs_n _ _ b k p)

theorem V1_v5 (l : Fin 64) : V1 m ρ c main_call0_v5 (ix2 0 l) = A6 m c (ix1 l) :=
  (congrFun (after0_main_call0_v5 (W0 m ρ c)) (ix2 0 l)).trans (rs_r64 _ _ l)

theorem V1_v2 (b : Fin 8) (p : Fin 2048) (y : Fin 6) : V1 m ρ c main_call0_v2 (ix3 b p y) = feat (A3 m c) (A4 m c) b p y := by
  refine (congrFun (after0_main_call0_v2 (W0 m ρ c)) (ix3 b p y)).trans ?_
  unfold feat
  by_cases h : y.val < 3
  · rw [dif_pos h]
    refine (concatenate_pair_apply_left (t := S8x2048x6) (s₁ := S8x2048x3) (s₂ := S8x2048x3) 2 _ _ _ (ix3 b p y) rfl (ix3 b p (⟨y.val, h⟩ : Fin 3)) ?_).trans (rs_pts (A3 m c) shapeCasts_S16384x3_S8x2048x3 b p ⟨y.val, h⟩)
    intro a
    match a with
    | ⟨0, _⟩ => rfl
    | ⟨1, _⟩ => rfl
    | ⟨2, _⟩ => rfl
  · rw [dif_neg h]
    refine (concatenate_pair_apply_right (t := S8x2048x6) (s₁ := S8x2048x3) (s₂ := S8x2048x3) 2 _ _ _ (ix3 b p y) rfl rfl (ix3 b p (⟨y.val - 3, by omega⟩ : Fin 3)) ?_ ?_).trans (rs_pts (A4 m c) shapeCasts_S16384x3_S8x2048x3 b p ⟨y.val - 3, by omega⟩)
    · intro a
      match a with
      | ⟨0, _⟩ => intro _; rfl
      | ⟨1, _⟩ => intro _; rfl
      | ⟨2, _⟩ => intro hn; exact absurd rfl hn
    · show y.val - 3 + 3 = y.val
      omega

theorem V1_arg2 : V1 m ρ c main_arg2 = A2 m c := W1_args m ρ c main_arg2 (by decide)
theorem V1_arg5 : V1 m ρ c main_arg5 = A5 m c := W1_args m ρ c main_arg5 (by decide)

theorem lay0_eq (e : Edge) (l : Fin 64) : lay0V (V1 m ρ) c e.1 e.2.2 e.2.1 l = Z0 m c e l := by
  unfold lay0V lay0 Z0 dn ein
  rw [V1_v3, V1_v5, V1_arg2, V1_arg5]
  rw [show (fun (p : Fin 2048) (y : Fin 6) => (V1 m ρ c main_call0_v2 : FVec Ideal S8x2048x6 .f32) (ix3 e.1 p y)) = feat (A3 m c) (A4 m c) e.1 from
    funext fun p => funext fun y => V1_v2 m ρ c e.1 p y]

theorem val0_eq (e : Edge) : val0V (V1 m ρ) c e.1 e.2.2 e.2.1 = wgt (A1 m c) e := V1_v4 m ρ c e.1 e.2.2 e.2.1

/-- The first layer's sums. -/
theorem W2_s (l : Fin 64) : W2 m ρ c (Proc.devRef .tc main_call0_v6_1) (ix2 0 l) = ∑ e, Z0 m c e l * wgt (A1 m c) e := by
  refine (congrFun (W2_arr m ρ c 7) (ix2 0 l)).trans ((congrFun (final0_7 (V1 m ρ) c) (ix2 0 l)).trans ?_)
  exact sum_grid_of (fun p r => lay0V (V1 m ρ) c (bOf p) (kOf p) r l * val0V (V1 m ρ) c (bOf p) (kOf p) r) (fun e => Z0 m c e l * wgt (A1 m c) e) fun p r =>
    congrArg₂ (· * ·) (lay0_eq m ρ c (_, r, _) l) (val0_eq m ρ c (_, r, _))

theorem W2_ss (l : Fin 64) : W2 m ρ c (Proc.devRef .tc main_call0_v6_2) (ix2 0 l) = ∑ e, Z0 m c e l * (Z0 m c e l * wgt (A1 m c) e) := by
  refine (congrFun (W2_arr m ρ c 8) (ix2 0 l)).trans ((congrFun (final0_8 (V1 m ρ) c) (ix2 0 l)).trans ?_)
  exact sum_grid_of (fun p r => lay0V (V1 m ρ) c (bOf p) (kOf p) r l * (lay0V (V1 m ρ) c (bOf p) (kOf p) r l * val0V (V1 m ρ) c (bOf p) (kOf p) r)) (fun e => Z0 m c e l * (Z0 m c e l * wgt (A1 m c) e)) fun p r =>
    congrArg₂ (· * ·) (lay0_eq m ρ c (_, r, _) l) (congrArg₂ (· * ·) (lay0_eq m ρ c (_, r, _) l) (val0_eq m ρ c (_, r, _)))

theorem W2_cnt : W2 m ρ c (Proc.devRef .tc main_call0_v6_3) (ix2 0 0) = ∑ e, wgt (A1 m c) e := by
  refine (congrFun (W2_arr m ρ c 9) (ix2 0 0)).trans ((congrFun (final0_9 (V1 m ρ) c) (ix2 0 0)).trans ?_)
  exact sum_grid_of (fun p r => val0V (V1 m ρ) c (bOf p) (kOf p) r) (fun e => wgt (A1 m c) e) fun p r => val0_eq m ρ c (_, r, _)

theorem V3_v8 (e : Edge) (l : Fin 64) : V3 m ρ c main_call0_v8 (ix2 (flat e) l) = Z0 m c e l :=
  (congrFun (after1_main_call0_v8 (W2 m ρ c)) (ix2 (flat e) l)).trans ((rs_e64 _ _ e l).trans
    ((congrFun ((W2_arr m ρ c 6).trans (final0_6 (V1 m ρ) c)) (ix4 e.1 e.2.2 e.2.1 l)).trans (lay0_eq m ρ c e l)))

theorem V3_v7 (e : Edge) : V3 m ρ c main_call0_v7 (ix2 (flat e) 0) = wgt (A1 m c) e :=
  (congrFun (after1_main_call0_v7 (W2 m ρ c)) (ix2 (flat e) 0)).trans ((rs_e1 _ _ e).trans
    (congrFun (W2_args m ρ c main_arg1 (by decide)) (ix3 e.1 e.2.2 e.2.1)))

theorem V3_of (r : Ref sig .tc) (h : r ∉ hostOps1_W) : V3 m ρ c r = W2 m ρ c (Proc.devRef .tc r) := W3_of m ρ c r h
theorem V3_v9 (l : Fin 64) : V3 m ρ c main_call0_v9 (ix2 0 l) = A7 m c (ix1 l) :=
  (congrFun (after1_main_call0_v9 (W2 m ρ c)) (ix2 0 l)).trans ((rs_r64 _ _ l).trans
    (congrFun (W2_args m ρ c main_arg7 (by decide)) (ix1 l)))
theorem V3_v10 (l : Fin 64) : V3 m ρ c main_call0_v10 (ix2 0 l) = A8 m c (ix1 l) :=
  (congrFun (after1_main_call0_v10 (W2 m ρ c)) (ix2 0 l)).trans ((rs_r64 _ _ l).trans
    (congrFun (W2_args m ρ c main_arg8 (by decide)) (ix1 l)))
theorem V3_v11 (l : Fin 64) : V3 m ρ c main_call0_v11 (ix2 0 l) = A10 m c (ix1 l) :=
  (congrFun (after1_main_call0_v11 (W2 m ρ c)) (ix2 0 l)).trans ((rs_r64 _ _ l).trans
    (congrFun (W2_args m ρ c main_arg10 (by decide)) (ix1 l)))
theorem V5_v13 (l : Fin 64) : V5 m ρ c main_call0_v13 (ix2 0 l) = A11 m c (ix1 l) :=
  (congrFun (after2_main_call0_v13 (W4 m ρ c)) (ix2 0 l)).trans ((rs_r64 _ _ l).trans
    (congrFun (W4_args m ρ c main_arg11 (by decide)) (ix1 l)))
theorem V5_v14 (l : Fin 64) : V5 m ρ c main_call0_v14 (ix2 0 l) = A12 m c (ix1 l) :=
  (congrFun (after2_main_call0_v14 (W4 m ρ c)) (ix2 0 l)).trans ((rs_r64 _ _ l).trans
    (congrFun (W4_args m ρ c main_arg12 (by decide)) (ix1 l)))
theorem V5_v15 (l : Fin 128) : V5 m ρ c main_call0_v15 (ix2 0 l) = A14 m c (ix1 l) :=
  (congrFun (after2_main_call0_v15 (W4 m ρ c)) (ix2 0 l)).trans ((rs_r128 _ _ l).trans
    (congrFun (W4_args m ρ c main_arg14 (by decide)) (ix1 l)))
theorem V7_v18 (l : Fin 128) : V7 m ρ c main_call0_v18 (ix2 0 l) = A15 m c (ix1 l) :=
  (congrFun (after3_main_call0_v18 (W6 m ρ c)) (ix2 0 l)).trans ((rs_r128 _ _ l).trans
    (congrFun (W6_args m ρ c main_arg15 (by decide)) (ix1 l)))
theorem V7_v19 (l : Fin 128) : V7 m ρ c main_call0_v19 (ix2 0 l) = A16 m c (ix1 l) :=
  (congrFun (after3_main_call0_v19 (W6 m ρ c)) (ix2 0 l)).trans ((rs_r128 _ _ l).trans
    (congrFun (W6_args m ρ c main_arg16 (by decide)) (ix1 l)))

theorem V3_arg9 : V3 m ρ c main_arg9 = A9 m c := W3_args m ρ c main_arg9 (by decide)
theorem V3_v6_1 (l : Fin 64) : V3 m ρ c main_call0_v6_1 (ix2 0 l) = ∑ e, Z0 m c e l * wgt (A1 m c) e :=
  (congrFun (V3_of m ρ c main_call0_v6_1 (by decide)) (ix2 0 l)).trans (W2_s m ρ c l)
theorem V3_v6_2 (l : Fin 64) : V3 m ρ c main_call0_v6_2 (ix2 0 l) = ∑ e, Z0 m c e l * (Z0 m c e l * wgt (A1 m c) e) :=
  (congrFun (V3_of m ρ c main_call0_v6_2 (by decide)) (ix2 0 l)).trans (W2_ss m ρ c l)
theorem V3_cnt : V3 m ρ c main_call0_v6_3 (ix2 0 0) = ∑ e, wgt (A1 m c) e :=
  (congrFun (V3_of m ρ c main_call0_v6_3 (by decide)) (ix2 0 0)).trans (W2_cnt m ρ c)

theorem lay1_eq (e : Edge) (l : Fin 64) : lay1V (V3 m ρ) c (flat e) l = Z1 m c e l := by
  unfold lay1V layK Z1 dn nK
  rw [V3_v11, V3_arg9, V3_cnt]
  refine congrArg (fun t => max (t + _) 0) (Finset.sum_congr rfl fun x _ => congrArg (· * _) ?_)
  rw [V3_v8, V3_v6_1, V3_v6_2, V3_v9, V3_v10]

theorem W4_s (l : Fin 64) : W4 m ρ c (Proc.devRef .tc main_call0_v12_1) (ix2 0 l) = ∑ e, Z1 m c e l * wgt (A1 m c) e := by
  refine (congrFun (W4_arr m ρ c 10) (ix2 0 l)).trans ((congrFun (final1_10 (V3 m ρ) c) (ix2 0 l)).trans ?_)
  refine (sum_flat fun i => lay1V (V3 m ρ) c i l * val1V (V3 m ρ) c i).trans ?_
  exact Finset.sum_congr rfl fun e _ => congrArg₂ (· * ·) (lay1_eq m ρ c e l) (V3_v7 m ρ c e)

theorem W4_ss (l : Fin 64) : W4 m ρ c (Proc.devRef .tc main_call0_v12_2) (ix2 0 l) = ∑ e, Z1 m c e l * (Z1 m c e l * wgt (A1 m c) e) := by
  refine (congrFun (W4_arr m ρ c 11) (ix2 0 l)).trans ((congrFun (final1_11 (V3 m ρ) c) (ix2 0 l)).trans ?_)
  refine (sum_flat fun i => lay1V (V3 m ρ) c i l * (lay1V (V3 m ρ) c i l * val1V (V3 m ρ) c i)).trans ?_
  exact Finset.sum_congr rfl fun e _ => congrArg₂ (· * ·) (lay1_eq m ρ c e l) (congrArg₂ (· * ·) (lay1_eq m ρ c e l) (V3_v7 m ρ c e))

theorem V5_of (r : Ref sig .tc) (h : r ∉ hostOps2_W) : V5 m ρ c r = W4 m ρ c (Proc.devRef .tc r) := W5_of m ρ c r h
theorem V5_arg13 : V5 m ρ c main_arg13 = A13 m c := W5_args m ρ c main_arg13 (by decide)
theorem V5_v12_0 (e : Edge) (l : Fin 64) : V5 m ρ c main_call0_v12_0 (ix2 (flat e) l) = Z1 m c e l :=
  (congrFun (V5_of m ρ c main_call0_v12_0 (by decide)) (ix2 (flat e) l)).trans
    ((congrFun ((W4_arr m ρ c 9).trans (final1_9 (V3 m ρ) c)) (ix2 (flat e) l)).trans (lay1_eq m ρ c e l))
theorem V5_v12_1 (l : Fin 64) : V5 m ρ c main_call0_v12_1 (ix2 0 l) = ∑ e, Z1 m c e l * wgt (A1 m c) e :=
  (congrFun (V5_of m ρ c main_call0_v12_1 (by decide)) (ix2 0 l)).trans (W4_s m ρ c l)
theorem V5_v12_2 (l : Fin 64) : V5 m ρ c main_call0_v12_2 (ix2 0 l) = ∑ e, Z1 m c e l * (Z1 m c e l * wgt (A1 m c) e) :=
  (congrFun (V5_of m ρ c main_call0_v12_2 (by decide)) (ix2 0 l)).trans (W4_ss m ρ c l)
theorem W4_keep (r : Ref sig .tc) (h : ∀ w : Fin cfg1.W, Pipeline.arrRef spec1 w = r → (cfg1.win w).isOut = false) :
    W4 m ρ c (Proc.devRef .tc r) = V3 m ρ c r := W4_of m ρ c r h
theorem V5_v7 (e : Edge) : V5 m ρ c main_call0_v7 (ix2 (flat e) 0) = wgt (A1 m c) e :=
  (congrFun ((V5_of m ρ c main_call0_v7 (by decide)).trans (W4_keep m ρ c main_call0_v7 (by decide))) (ix2 (flat e) 0)).trans (V3_v7 m ρ c e)
theorem W4_cnt : W4 m ρ c (Proc.devRef .tc main_call0_v6_3) (ix2 0 0) = ∑ e, wgt (A1 m c) e :=
  (congrFun (W4_keep m ρ c main_call0_v6_3 (by decide)) (ix2 0 0)).trans (V3_cnt m ρ c)
theorem V5_cnt : V5 m ρ c main_call0_v6_3 (ix2 0 0) = ∑ e, wgt (A1 m c) e :=
  (congrFun (V5_of m ρ c main_call0_v6_3 (by decide)) (ix2 0 0)).trans (W4_cnt m ρ c)

theorem lay2_eq (e : Edge) (l : Fin 128) : lay2V (V5 m ρ) c (flat e) l = Z2 m c e l := by
  unfold lay2V layK Z2 dn nK
  rw [V5_v15, V5_arg13, V5_cnt]
  refine congrArg (fun t => max (t + _) 0) (Finset.sum_congr rfl fun x _ => congrArg (· * _) ?_)
  rw [V5_v12_0, V5_v12_1, V5_v12_2, V5_v13, V5_v14]

theorem W6_s (l : Fin 128) : W6 m ρ c (Proc.devRef .tc main_call0_v16_1) (ix2 0 l) = ∑ e, Z2 m c e l * wgt (A1 m c) e := by
  refine (congrFun (W6_arr m ρ c 10) (ix2 0 l)).trans ((congrFun (final2_10 (V5 m ρ) c) (ix2 0 l)).trans ?_)
  refine (sum_flat fun i => lay2V (V5 m ρ) c i l * val2V (V5 m ρ) c i).trans ?_
  exact Finset.sum_congr rfl fun e _ => congrArg₂ (· * ·) (lay2_eq m ρ c e l) (V5_v7 m ρ c e)

theorem W6_ss (l : Fin 128) : W6 m ρ c (Proc.devRef .tc main_call0_v16_2) (ix2 0 l) = ∑ e, Z2 m c e l * (Z2 m c e l * wgt (A1 m c) e) := by
  refine (congrFun (W6_arr m ρ c 11) (ix2 0 l)).trans ((congrFun (final2_11 (V5 m ρ) c) (ix2 0 l)).trans ?_)
  refine (sum_flat fun i => lay2V (V5 m ρ) c i l * (lay2V (V5 m ρ) c i l * val2V (V5 m ρ) c i)).trans ?_
  exact Finset.sum_congr rfl fun e _ => congrArg₂ (· * ·) (lay2_eq m ρ c e l) (congrArg₂ (· * ·) (lay2_eq m ρ c e l) (V5_v7 m ρ c e))

theorem V7_of (r : Ref sig .tc) (h : r ∉ hostOps3_W) : V7 m ρ c r = W6 m ρ c (Proc.devRef .tc r) := W7_of m ρ c r h
theorem V7_arg1 : V7 m ρ c main_arg1 = A1 m c := W7_args m ρ c main_arg1 (by decide)
theorem V7_v17 (b : Fin 8) (p : Fin 1024) (k : Fin 64) (l : Fin 128) : V7 m ρ c main_call0_v17 (ix4 b k p l) = Z2 m c (b, p, k) l :=
  (congrFun (after3_main_call0_v17 (W6 m ρ c)) (ix4 b k p l)).trans ((rs_e128 _ _ b p k l).trans
    ((congrFun ((W6_arr m ρ c 9).trans (final2_9 (V5 m ρ) c)) (ix2 (flat (b, p, k)) l)).trans (lay2_eq m ρ c (b, p, k) l)))
theorem V7_v16_1 (l : Fin 128) : V7 m ρ c main_call0_v16_1 (ix2 0 l) = ∑ e, Z2 m c e l * wgt (A1 m c) e :=
  (congrFun (V7_of m ρ c main_call0_v16_1 (by decide)) (ix2 0 l)).trans (W6_s m ρ c l)
theorem V7_v16_2 (l : Fin 128) : V7 m ρ c main_call0_v16_2 (ix2 0 l) = ∑ e, Z2 m c e l * (Z2 m c e l * wgt (A1 m c) e) :=
  (congrFun (V7_of m ρ c main_call0_v16_2 (by decide)) (ix2 0 l)).trans (W6_ss m ρ c l)
theorem V7_cnt : V7 m ρ c main_call0_v6_3 (ix2 0 0) = ∑ e, wgt (A1 m c) e :=
  (congrFun (V7_of m ρ c main_call0_v6_3 (by decide)) (ix2 0 0)).trans
    ((congrFun (W6_of m ρ c main_call0_v6_3 (by decide)) (ix2 0 0)).trans (V5_cnt m ρ c))

/-- The kernel's result: over each centre's list, the greatest normalized third-layer value of a listed neighbour. -/
theorem W9_out (r : Fin 8192) (l : Fin 128) : W9 m ρ c (Proc.devRef .tc main_v0) (ix2 r l)
    = Finset.fold max (Ideal.ofBits .f32 0xFF800000#32) (fun k : Fin 64 =>
        if 0 < wgt (A1 m c) (⟨r.val / 1024, by have := r.isLt; omega⟩, ⟨r.val % 1024, by omega⟩, k)
        then nK (Z2 m c) (wgt (A1 m c)) (vec (A15 m c)) (vec (A16 m c)) (⟨r.val / 1024, by have := r.isLt; omega⟩, ⟨r.val % 1024, by omega⟩, k) l
        else Ideal.ofBits .f32 0xFF800000#32) Finset.univ := by
  refine (congrFun (after4_main_v0 (W8 m ρ c)) (ix2 r l)).trans ((rs_out _ _ r l).trans ?_)
  refine (congrFun (W8_arr m ρ c 7) (ix3 ⟨r.val / 1024, by have := r.isLt; omega⟩ ⟨r.val % 1024, by omega⟩ l)).trans ((congrFun (final3_7 (V7 m ρ) c) (ix3 ⟨r.val / 1024, by have := r.isLt; omega⟩ ⟨r.val % 1024, by omega⟩ l)).trans ?_)
  show best3V (V7 m ρ) c ⟨r.val / 1024, by have := r.isLt; omega⟩ ⟨r.val % 1024, by omega⟩ l = _
  generalize (⟨r.val / 1024, by have := r.isLt; omega⟩ : Fin 8) = b
  generalize (⟨r.val % 1024, by omega⟩ : Fin 1024) = p
  unfold best3V best nK
  rw [V7_v16_1, V7_v16_2, V7_cnt, V7_v18, V7_v19, V7_arg1]
  refine congrArg (fun f => Finset.fold max _ f Finset.univ) (funext fun k => ?_)
  rw [V7_v17]

end

end Cert.KernelIdeal.Whole

end
-- ==== Proof.RefGather.lean ====
/- Reading the reference: a sum over the first three axes, and the gather of a row. -/
module

public import proofs.«01_k».proof.Proof.Gen.ReferenceIdeal.Read
public import Idealize.ShloMosaic.Lib.Pointwise
public import Idealize.ShloMosaic.Lib.IdealHost
public import Idealize.ShloMosaic.PureOps.Ideal.Laws

@[expose] public section

set_option maxRecDepth 16384

noncomputable section

namespace Cert.RefSide

open Idealize.ShloMosaic Idealize.ShloMosaic.TcCoe

theorem bits0 : (Ideal.ofBits .f32 0x00000000#32 : EReal) = 0 := by simp [Ideal.ofBits, Ideal.ieee]

theorem bits1 : (Ideal.ofBits .f32 0x3F800000#32 : EReal) = 1 := by
  simp [Ideal.ofBits, Ideal.ieee]
  rw [← EReal.coe_mul]
  norm_num

/-- A sum over the first three axes is the nested sum. -/
theorem sum012 {n0 n1 n2 n3 : Nat} (h : (⟨4, ![n0, n1, n2, n3]⟩ : Shape).ReducesTo [0, 1, 2] ⟨1, ![n3]⟩)
    (x : (⟨4, ![n0, n1, n2, n3]⟩ : Shape).Idx → EReal) (init : EReal) (l : Fin n3) :
    Ideal.hostReduceAdd h x init (ix1 l) = init + ∑ a, ∑ b, ∑ c, x (ix4 a b c l) := by
  unfold Ideal.hostReduceAdd
  congr 1
  rw [Finset.sum_filter, sum_idx4]
  refine Finset.sum_congr rfl fun a _ => Finset.sum_congr rfl fun b _ => Finset.sum_congr rfl fun c _ => ?_
  have hd : ∀ d, h.drop (ix4 a b c d) = ix1 l ↔ d = l := by
    intro d
    have e : h.drop (ix4 a b c d) = ix1 d := by
      funext q
      match q with
      | ⟨0, _⟩ => rfl
    rw [e]
    constructor
    · intro h'; exact congrFun h' 0
    · rintro rfl; rfl
  simp only [hd]
  rw [Finset.sum_ite_eq' Finset.univ l]
  simp

/-- The gather of rows, one row index per place of a batch: the row at the index, read signed and clamped. -/
theorem gather_row (x : FVec Ideal Cert.ReferenceIdeal.S8x2048x3 .f32) (idx : IVec Cert.ReferenceIdeal.S8x65536x1 32) (b : Fin 8) (e : Fin 65536) (j : Fin 3) :
    Host.gather Cert.ReferenceIdeal.gather_S8x2048x3_S8x65536x1_S8x65536x3_2_1_0_0_1_2_113 x idx (ix3 b e j)
      = x (ix3 b ⟨min (idx (ix3 b e 0)).toInt.toNat 2047, by omega⟩ j) := by
  unfold Host.gather
  congr 1
  funext a
  refine Fin.ext ?_
  show (Cert.ReferenceIdeal.gather_S8x2048x3_S8x65536x1_S8x65536x3_2_1_0_0_1_2_113).start (ix3 b e j) idx a + (Cert.ReferenceIdeal.gather_S8x2048x3_S8x65536x1_S8x65536x3_2_1_0_0_1_2_113).batchCoord (ix3 b e j) a + (Cert.ReferenceIdeal.gather_S8x2048x3_S8x65536x1_S8x65536x3_2_1_0_0_1_2_113).offCoord (ix3 b e j) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (Cert.ReferenceIdeal.gather_S8x2048x3_S8x65536x1_S8x65536x3_2_1_0_0_1_2_113).operandBatchingDims from List.mem_singleton.mpr rfl)]
    rfl
  · rw [GatherDims.batchCoord_eq_zero _ _ _ (show (1 : Fin 3) ∉ (Cert.ReferenceIdeal.gather_S8x2048x3_S8x65536x1_S8x65536x3_2_1_0_0_1_2_113).operandBatchingDims from by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (Cert.ReferenceIdeal.gather_S8x2048x3_S8x65536x1_S8x65536x3_2_1_0_0_1_2_113).startIndexMap from List.mem_singleton.mpr rfl)]
    refine congrArg (fun q => min (idx q).toInt.toNat 2047) ?_
    funext b; refine Fin.ext ?_
    match b with
    | ⟨0, _⟩ => rfl
    | ⟨1, _⟩ => rfl
    | ⟨2, _⟩ => rfl
  · rw [GatherDims.batchCoord_eq_zero _ _ _ (show (2 : Fin 3) ∉ (Cert.ReferenceIdeal.gather_S8x2048x3_S8x65536x1_S8x65536x3_2_1_0_0_1_2_113).operandBatchingDims from by decide)]
    unfold GatherDims.start
    rw [dif_neg (show (2 : Fin 3) ∉ (Cert.ReferenceIdeal.gather_S8x2048x3_S8x65536x1_S8x65536x3_2_1_0_0_1_2_113).startIndexMap from by decide)]
    simp only [Nat.zero_add, Nat.add_zero]
    rfl

end Cert.RefSide

end
-- ==== Proof.RefIn.lean ====
/- Reading the reference's inputs: the gathered rows, the mask, the count; and its last step. -/
module

public import proofs.«01_k».proof.Proof.RefGather
public import Idealize.ShloMosaic.Lib.Pipeline.ValueKit
public import proofs.«01_k».proof.Proof.Chain

@[expose] public section

set_option maxRecDepth 16384

noncomputable section

namespace Cert.RefSide

open Cert.ReferenceIdeal Cert.ReferenceIdeal.Gen Cert.ReferenceIdeal.Read Idealize.ShloMosaic Idealize.ShloMosaic.TcCoe Cert.Mlp Cert.KernelIdeal.Whole

variable (x0 : IVec S8x64x1024 32) (x1 : FVec Ideal S8x64x1024 .f32) (x2 : FVec Ideal S8x1024x3 .f32) (x3 x4 : FVec Ideal S16384x3 .f32)
  (x5 : FVec Ideal S6x64 .f32) (x6 x7 x8 : FVec Ideal S64 .f32) (x9 : FVec Ideal S64x64 .f32) (x10 x11 x12 : FVec Ideal S64 .f32)
  (x13 : FVec Ideal S64x128 .f32) (x14 x15 x16 : FVec Ideal S128 .f32)

/-- A flag read as a number. -/
theorem flag (p : Prop) [Decidable p] : (FloatOps.uitofp .f32 (BitVec.ofBool (decide p)) : Ideal .f32) = (if p then (1 : EReal) else 0) := by
  by_cases h : p
  · rw [if_pos h, decide_eq_true h]
    show (((1 : ℕ) : ℝ) : EReal) = 1
    rw [Nat.cast_one]; rfl
  · rw [if_neg h, decide_eq_false h]
    show (((0 : ℕ) : ℝ) : EReal) = 0
    rw [Nat.cast_zero]; rfl

theorem v5_at (a : Fin 8) (b : Fin 1024) (c : Fin 64) : val_main_v5 (F := Ideal) x1 (ix3 a b c) = BitVec.ofBool (decide (0 < x1 (ix3 a c b))) := by
  rw [val_main_v5_apply, val_main_v3_apply, val_main_v4_apply, val_main_cst_apply]
  rw [show idx_main_v3 (ix3 a b c) = ix3 a c b from funext fun q => match q with | ⟨0, _⟩ => rfl | ⟨1, _⟩ => rfl | ⟨2, _⟩ => rfl]
  rw [show (FloatOps.ofBits .f32 0x00000000#32 : Ideal .f32) = (0 : EReal) from bits0]
  rfl

/-- The mask, where the weights are 0 or 1. -/
theorem v17_at (hw : ∀ i, x1 i = 0 ∨ x1 i = 1) (a : Fin 8) (b : Fin 1024) (c : Fin 64) :
    val_main_v17 (F := Ideal) x1 (ix4 a b c 0) = x1 (ix3 a c b) := by
  rw [val_main_v17_apply, val_main_v16_apply]
  rw [show idx_main_v16 (ix4 a b c 0) = ix3 a b c from funext fun q => match q with | ⟨0, _⟩ => rfl | ⟨1, _⟩ => rfl | ⟨2, _⟩ => rfl]
  rw [v5_at, flag]
  rcases hw (ix3 a c b) with h | h
  · rw [h, if_neg (lt_irrefl _)]
  · rw [h, if_pos zero_lt_one]

/-- The number of edges with weight one, at least one. -/
theorem v19_at : val_main_v19 (F := Ideal) x1 ix0
    = max (∑ e : Edge, val_main_v17 (F := Ideal) x1 (ix4 e.1 e.2.1 e.2.2 0)) 1 := by
  rw [val_main_v19_apply, val_main_v18_apply, val_main_cst_1_apply]
  rw [show (val_main_cst_0 (F := Ideal)) (Shape.Idx.first h_S_) = (0 : EReal) from bits0, zero_add]
  rw [show (FloatOps.ofBits .f32 0x3F800000#32 : Ideal .f32) = (1 : EReal) from bits1, sum_edge]
  rw [sum_idx4]
  refine congrArg (fun t => max t (1 : EReal)) (Finset.sum_congr rfl fun a _ => Finset.sum_congr rfl fun b _ => Finset.sum_congr rfl fun c _ => ?_)
  exact Fintype.sum_subsingleton _ 0

/-- The place of a centre's neighbour among its cloud's. -/
def row (b : Fin 1024) (c : Fin 64) : Fin 65536 := ⟨b.val * 64 + c.val, by omega⟩

theorem call0_at (hn : ∀ i, 0 ≤ (x0 i).toInt ∧ (x0 i).toInt < 2048) (a : Fin 8) (b : Fin 1024) (c : Fin 64) :
    val_main_call0_v4 (F := Ideal) x0 (ix3 a (row b c) 0) = x0 (ix3 a c b) := by
  have e : val_main_v6 (F := Ideal) x0 (ix3 a (row b c) 0) = x0 (ix3 a c b) := by
    rw [val_main_v6_apply, val_main_v2_apply]
    refine congrArg x0 (funext fun q => Fin.ext ?_)
    have ha := a.isLt; have hb := b.isLt; have hc := c.isLt
    match q with
    | ⟨0, _⟩ => show ((a.val * 65536 + (b.val * 64 + c.val)) * 1 + 0) / 65536 = a.val; omega
    | ⟨1, _⟩ => show ((a.val * 65536 + (b.val * 64 + c.val)) * 1 + 0) % 64 = c.val; omega
    | ⟨2, _⟩ => show ((a.val * 65536 + (b.val * 64 + c.val)) * 1 + 0) / 64 % 1024 = b.val; omega
  rw [val_main_call0_v4_apply, val_main_call0_v1_apply, val_main_call0_v0_apply, val_main_call0_c_apply, e]
  have h : IntOp.cmpi .slt (x0 (ix3 a c b)) 0#32 = 0#1 := by
    have h0 := (hn (ix3 a c b)).1
    show BitVec.ofBool ((x0 (ix3 a c b)).slt 0#32) = 0#1
    rw [BitVec.slt, decide_eq_false (by rw [BitVec.toInt_zero]; omega)]
    rfl
  rw [h]
  rfl

theorem call1_at (hn : ∀ i, 0 ≤ (x0 i).toInt ∧ (x0 i).toInt < 2048) (a : Fin 8) (b : Fin 1024) (c : Fin 64) :
    val_main_call1_v4 (F := Ideal) x0 (ix3 a (row b c) 0) = x0 (ix3 a c b) := by
  have e : val_main_v9 (F := Ideal) x0 (ix3 a (row b c) 0) = x0 (ix3 a c b) := by
    rw [val_main_v9_apply, val_main_v2_apply]
    refine congrArg x0 (funext fun q => Fin.ext ?_)
    have ha := a.isLt; have hb := b.isLt; have hc := c.isLt
    match q with
    | ⟨0, _⟩ => show ((a.val * 65536 + (b.val * 64 + c.val)) * 1 + 0) / 65536 = a.val; omega
    | ⟨1, _⟩ => show ((a.val * 65536 + (b.val * 64 + c.val)) * 1 + 0) % 64 = c.val; omega
    | ⟨2, _⟩ => show ((a.val * 65536 + (b.val * 64 + c.val)) * 1 + 0) / 64 % 1024 = b.val; omega
  rw [val_main_call1_v4_apply, val_main_call1_v1_apply, val_main_call1_v0_apply, val_main_call1_c_apply, e]
  have h : IntOp.cmpi .slt (x0 (ix3 a c b)) 0#32 = 0#1 := by
    have h0 := (hn (ix3 a c b)).1
    show BitVec.ofBool ((x0 (ix3 a c b)).slt 0#32) = 0#1
    rw [BitVec.slt, decide_eq_false (by rw [BitVec.toInt_zero]; omega)]
    rfl
  rw [h]
  rfl

theorem v8_at (hn : ∀ i, 0 ≤ (x0 i).toInt ∧ (x0 i).toInt < 2048) (a : Fin 8) (b : Fin 1024) (c : Fin 64) (j : Fin 3) :
    val_main_v8 (F := Ideal) x0 x3 (ix4 a b c j)
      = x3 (ix2 ⟨a.val * 2048 + (x0 (ix3 a c b)).toInt.toNat, by have := hn (ix3 a c b); have := a.isLt; omega⟩ j) := by
  rw [val_main_v8_apply]
  rw [show idx_main_v8 (ix4 a b c j) = ix3 a (row b c) j from funext fun q => Fin.ext (by
    have ha := a.isLt; have hb := b.isLt; have hc := c.isLt; have hj := j.isLt
    match q with
    | ⟨0, _⟩ => show (((a.val * 1024 + b.val) * 64 + c.val) * 3 + j.val) / 196608 = a.val; omega
    | ⟨1, _⟩ => show (((a.val * 1024 + b.val) * 64 + c.val) * 3 + j.val) / 3 % 65536 = b.val * 64 + c.val; omega
    | ⟨2, _⟩ => show (((a.val * 1024 + b.val) * 64 + c.val) * 3 + j.val) % 3 = j.val; omega)]
  unfold val_main_v7
  rw [gather_row, val_main_v0_apply]
  refine congrArg x3 (funext fun q => Fin.ext ?_)
  have hj := j.isLt
  have h := hn (ix3 a c b)
  have hm : min (val_main_call0_v4 (F := Ideal) x0 (ix3 a (row b c) 0)).toInt.toNat 2047 = (x0 (ix3 a c b)).toInt.toNat := by
    rw [call0_at x0 hn]; omega
  match q with
  | ⟨0, _⟩ =>
    show ((a.val * 2048 + min (val_main_call0_v4 (F := Ideal) x0 (ix3 a (row b c) 0)).toInt.toNat 2047) * 3 + j.val) / 3 = _
    rw [hm]
    show ((a.val * 2048 + (x0 (ix3 a c b)).toInt.toNat) * 3 + j.val) / 3 = a.val * 2048 + (x0 (ix3 a c b)).toInt.toNat
    omega
  | ⟨1, _⟩ =>
    show ((a.val * 2048 + min (val_main_call0_v4 (F := Ideal) x0 (ix3 a (row b c) 0)).toInt.toNat 2047) * 3 + j.val) % 3 = j.val
    omega

theorem v11_at (hn : ∀ i, 0 ≤ (x0 i).toInt ∧ (x0 i).toInt < 2048) (a : Fin 8) (b : Fin 1024) (c : Fin 64) (j : Fin 3) :
    val_main_v11 (F := Ideal) x0 x4 (ix4 a b c j)
      = x4 (ix2 ⟨a.val * 2048 + (x0 (ix3 a c b)).toInt.toNat, by have := hn (ix3 a c b); have := a.isLt; omega⟩ j) := by
  rw [val_main_v11_apply]
  rw [show idx_main_v11 (ix4 a b c j) = ix3 a (row b c) j from funext fun q => Fin.ext (by
    have ha := a.isLt; have hb := b.isLt; have hc := c.isLt; have hj := j.isLt
    match q with
    | ⟨0, _⟩ => show (((a.val * 1024 + b.val) * 64 + c.val) * 3 + j.val) / 196608 = a.val; omega
    | ⟨1, _⟩ => show (((a.val * 1024 + b.val) * 64 + c.val) * 3 + j.val) / 3 % 65536 = b.val * 64 + c.val; omega
    | ⟨2, _⟩ => show (((a.val * 1024 + b.val) * 64 + c.val) * 3 + j.val) % 3 = j.val; omega)]
  unfold val_main_v10
  rw [gather_row, val_main_v1_apply]
  refine congrArg x4 (funext fun q => Fin.ext ?_)
  have hj := j.isLt
  have h := hn (ix3 a c b)
  have hm : min (val_main_call1_v4 (F := Ideal) x0 (ix3 a (row b c) 0)).toInt.toNat 2047 = (x0 (ix3 a c b)).toInt.toNat := by
    rw [call1_at x0 hn]; omega
  match q with
  | ⟨0, _⟩ =>
    show ((a.val * 2048 + min (val_main_call1_v4 (F := Ideal) x0 (ix3 a (row b c) 0)).toInt.toNat 2047) * 3 + j.val) / 3 = _
    rw [hm]
    show ((a.val * 2048 + (x0 (ix3 a c b)).toInt.toNat) * 3 + j.val) / 3 = a.val * 2048 + (x0 (ix3 a c b)).toInt.toNat
    omega
  | ⟨1, _⟩ =>
    show ((a.val * 2048 + min (val_main_call1_v4 (F := Ideal) x0 (ix3 a (row b c) 0)).toInt.toNat 2047) * 3 + j.val) % 3 = j.val
    omega

/-- The kernel's row of an identity matrix, at an index in range. -/
theorem hot_at (v : BitVec 32) (h0 : 0 ≤ v.toInt) (h1 : v.toInt < 2048) (p : Fin 2048) :
    hot v p = if p = (⟨v.toInt.toNat, by omega⟩ : Fin 2048) then 1 else 0 := by
  have hv : v.toNat = v.toInt.toNat := by
    rw [BitVec.toInt_eq_toNat_cond] at h0 h1 ⊢
    have := v.isLt
    split at h0 <;> simp_all <;> omega
  have e : (v == BitVec.ofNat 32 p.val) = decide (p = (⟨v.toInt.toNat, by omega⟩ : Fin 2048)) := by
    rw [Bool.eq_iff_iff, beq_iff_eq, decide_eq_true_iff, Fin.ext_iff, ← BitVec.toNat_inj, BitVec.toNat_ofNat]
    have := p.isLt
    show v.toNat = p.val % 2 ^ 32 ↔ p.val = v.toInt.toNat
    omega
  have e' : hot v p = FloatOps.sitofp (F := Ideal) (φ := .f32) (BitVec.setWidth 32 (BitVec.ofBool (v == BitVec.ofNat 32 p.val))) := rfl
  rw [e', e]
  by_cases h : p = (⟨v.toInt.toNat, by omega⟩ : Fin 2048)
  · rw [if_pos h, decide_eq_true h]
    show (((1#32).toInt : ℝ) : EReal) = 1
    norm_num
  · rw [if_neg h, decide_eq_false h]
    show (((0#32).toInt : ℝ) : EReal) = 0
    norm_num

/-- The reference's first-layer input is the kernel's. -/
theorem v15_at (hn : ∀ i, 0 ≤ (x0 i).toInt ∧ (x0 i).toInt < 2048) (e : Edge) (x : Fin 6) :
    val_main_v15 (F := Ideal) x0 x2 x3 x4 (ix4 e.1 e.2.1 e.2.2 x) = ein x0 x2 x3 x4 e x := by
  obtain ⟨a, b, c⟩ := e
  have h := hn (ix3 a c b)
  have hs : ∑ p, hot (x0 (ix3 a c b)) p * feat x3 x4 a p x = feat x3 x4 a ⟨(x0 (ix3 a c b)).toInt.toNat, by omega⟩ x :=
    onehot_sum (fun p => feat x3 x4 a p x) (hot (x0 (ix3 a c b))) _ (hot_at _ h.1 h.2)
  unfold ein inK
  show val_main_v15 (F := Ideal) x0 x2 x3 x4 (ix4 a b c x) = if hx : x.val < 3 then ∑ p, hot (x0 (ix3 a c b)) p * feat x3 x4 a p x
    else ∑ p, hot (x0 (ix3 a c b)) p * feat x3 x4 a p x - x2 (ix3 a b ⟨x.val - 3, by omega⟩)
  rw [hs]
  unfold val_main_v15 feat
  by_cases hx : x.val < 3
  · rw [dif_pos hx, dif_pos hx]
    refine (concatenate_pair_apply_left (t := S8x1024x64x6) (s₁ := S8x1024x64x3) (s₂ := S8x1024x64x3) 3 _ _ _ (ix4 a b c x) rfl (ix4 a b c (⟨x.val, hx⟩ : Fin 3)) ?_).trans (v8_at x0 x3 hn a b c ⟨x.val, hx⟩)
    intro q
    match q with
    | ⟨0, _⟩ => rfl
    | ⟨1, _⟩ => rfl
    | ⟨2, _⟩ => rfl
    | ⟨3, _⟩ => rfl
  · rw [dif_neg hx, dif_neg hx]
    refine (concatenate_pair_apply_right (t := S8x1024x64x6) (s₁ := S8x1024x64x3) (s₂ := S8x1024x64x3) 3 _ _ _ (ix4 a b c x) rfl rfl (ix4 a b c (⟨x.val - 3, by omega⟩ : Fin 3)) ?_ ?_).trans ?_
    · intro q
      match q with
      | ⟨0, _⟩ => intro _; rfl
      | ⟨1, _⟩ => intro _; rfl
      | ⟨2, _⟩ => intro _; rfl
      | ⟨3, _⟩ => intro hq; exact absurd rfl hq
    · show x.val - 3 + 3 = x.val
      omega
    · rw [val_main_v14_apply, v11_at x0 x4 hn, val_main_v13_apply, val_main_v12_apply]
      rw [show idx_main_v12 (idx_main_v13 (ix4 a b c (⟨x.val - 3, by omega⟩ : Fin 3))) = ix3 a b (⟨x.val - 3, by omega⟩ : Fin 3) from
        funext fun q => match q with | ⟨0, _⟩ => rfl | ⟨1, _⟩ => rfl | ⟨2, _⟩ => rfl]
      rfl

end Cert.RefSide

end
-- ==== Proof.RefL1.lean ====
/- Reading the reference's layer 1: the dense part, the mean and the mean squared distance over the edges, the normalized value. -/
module

public import proofs.«01_k».proof.Proof.RefGather
public import proofs.«01_k».proof.Proof.Math

@[expose] public section

set_option maxRecDepth 16384

noncomputable section

namespace Cert.RefSide

open Cert.ReferenceIdeal Cert.ReferenceIdeal.Gen Cert.ReferenceIdeal.Read Idealize.ShloMosaic Idealize.ShloMosaic.TcCoe

variable (x0 : IVec S8x64x1024 32) (x1 : FVec Ideal S8x64x1024 .f32) (x2 : FVec Ideal S8x1024x3 .f32) (x3 x4 : FVec Ideal S16384x3 .f32)
  (x5 : FVec Ideal S6x64 .f32) (x6 x7 x8 : FVec Ideal S64 .f32) (x9 : FVec Ideal S64x64 .f32) (x10 x11 x12 : FVec Ideal S64 .f32)
  (x13 : FVec Ideal S64x128 .f32) (x14 x15 x16 : FVec Ideal S128 .f32)

theorem dense1 (a : Fin 8) (b : Fin 1024) (c : Fin 64) (l : Fin 64) : val_main_v25 (F := Ideal) x0 x2 x3 x4 x5 x6 (ix4 a b c l)
    = max (∑ x : Fin 6, val_main_v15 (F := Ideal) x0 x2 x3 x4 (ix4 a b c x) * x5 (ix2 x l) + x6 (ix1 l)) 0 := by
  rw [val_main_v25_apply, val_main_v23_apply, val_main_v22_apply, val_main_v21_apply, val_main_v24_apply, val_main_cst_2_apply, val_main_v20_apply]
  rw [(show (idx_main_v21 (idx_main_v22 (ix4 a b c l))) = (ix1 l) from funext fun q => match q with | ⟨0, _⟩ => rfl)]
  exact congrArg₂ max (congrArg (· + x6 (ix1 l)) (Finset.sum_congr rfl fun x _ => congrArg₂ (· * ·)
    (congrArg (val_main_v15 (F := Ideal) x0 x2 x3 x4) (show lidx_main_v20 (ix4 a b c l) x = ix4 a b c x from funext fun q => match q with | ⟨0, _⟩ => rfl | ⟨1, _⟩ => rfl | ⟨2, _⟩ => rfl | ⟨3, _⟩ => rfl))
    (congrArg x5 (show ridx_main_v20 (ix4 a b c l) x = ix2 x l from funext fun q => match q with | ⟨0, _⟩ => rfl | ⟨1, _⟩ => rfl)))) bits0

theorem prod1 (a : Fin 8) (b : Fin 1024) (c : Fin 64) (l : Fin 64) : val_main_v27 (F := Ideal) x0 x1 x2 x3 x4 x5 x6 (ix4 a b c l)
    = val_main_v25 (F := Ideal) x0 x2 x3 x4 x5 x6 (ix4 a b c l) * val_main_v17 (F := Ideal) x1 (ix4 a b c 0) := by
  rw [val_main_v27_apply, val_main_v26_apply]
  rw [(show (idx_main_v26 (ix4 a b c l)) = (ix4 a b c 0) from funext fun q => match q with | ⟨0, _⟩ => rfl | ⟨1, _⟩ => rfl | ⟨2, _⟩ => rfl | ⟨3, _⟩ => rfl)]
  rfl

theorem sum1 (l : Fin 64) : val_main_v28 (F := Ideal) x0 x1 x2 x3 x4 x5 x6 (ix1 l) = ∑ a : Fin 8, ∑ b : Fin 1024, ∑ c : Fin 64, val_main_v25 (F := Ideal) x0 x2 x3 x4 x5 x6 (ix4 a b c l) * val_main_v17 (F := Ideal) x1 (ix4 a b c 0) := by
  unfold val_main_v28
  refine (ValueIdx.hostReduceAdd_apply _ _ _ _ _).trans ((sum012 _ _ _ l).trans ?_)
  rw [show (val_main_cst_3 (F := Ideal)) (Shape.Idx.first h_S_) = (0 : EReal) from bits0, zero_add]
  exact Finset.sum_congr rfl fun a _ => Finset.sum_congr rfl fun b _ => Finset.sum_congr rfl fun c _ => prod1 x0 x1 x2 x3 x4 x5 x6 a b c l

theorem mean1 (l : Fin 64) : val_main_v30 (F := Ideal) x0 x1 x2 x3 x4 x5 x6 (ix1 l)
    = Ideal.div (val_main_v28 (F := Ideal) x0 x1 x2 x3 x4 x5 x6 (ix1 l)) (val_main_v19 (F := Ideal) x1 ix0) := by
  rw [val_main_v30_apply, val_main_v29_apply]
  rw [(show (idx_main_v29 (ix1 l)) = ix0 from funext fun q => q.elim0)]
  rfl

theorem sq1 (a : Fin 8) (b : Fin 1024) (c : Fin 64) (l : Fin 64) : val_main_v36 (F := Ideal) x0 x1 x2 x3 x4 x5 x6 (ix4 a b c l)
    = (val_main_v25 (F := Ideal) x0 x2 x3 x4 x5 x6 (ix4 a b c l) - val_main_v30 (F := Ideal) x0 x1 x2 x3 x4 x5 x6 (ix1 l)) * (val_main_v25 (F := Ideal) x0 x2 x3 x4 x5 x6 (ix4 a b c l) - val_main_v30 (F := Ideal) x0 x1 x2 x3 x4 x5 x6 (ix1 l)) * val_main_v17 (F := Ideal) x1 (ix4 a b c 0) := by
  rw [val_main_v36_apply, val_main_v34_apply, val_main_v33_apply, val_main_v32_apply, val_main_v31_apply, val_main_v35_apply]
  rw [(show (idx_main_v31 (idx_main_v32 (ix4 a b c l))) = (ix1 l) from funext fun q => match q with | ⟨0, _⟩ => rfl)]
  rw [(show (idx_main_v35 (ix4 a b c l)) = (ix4 a b c 0) from funext fun q => match q with | ⟨0, _⟩ => rfl | ⟨1, _⟩ => rfl | ⟨2, _⟩ => rfl | ⟨3, _⟩ => rfl)]
  rfl

theorem sqsum1 (l : Fin 64) : val_main_v37 (F := Ideal) x0 x1 x2 x3 x4 x5 x6 (ix1 l) = ∑ a : Fin 8, ∑ b : Fin 1024, ∑ c : Fin 64, ((val_main_v25 (F := Ideal) x0 x2 x3 x4 x5 x6 (ix4 a b c l) - val_main_v30 (F := Ideal) x0 x1 x2 x3 x4 x5 x6 (ix1 l)) * (val_main_v25 (F := Ideal) x0 x2 x3 x4 x5 x6 (ix4 a b c l) - val_main_v30 (F := Ideal) x0 x1 x2 x3 x4 x5 x6 (ix1 l)) * val_main_v17 (F := Ideal) x1 (ix4 a b c 0)) := by
  unfold val_main_v37
  refine (ValueIdx.hostReduceAdd_apply _ _ _ _ _).trans ((sum012 _ _ _ l).trans ?_)
  rw [show (val_main_cst_4 (F := Ideal)) (Shape.Idx.first h_S_) = (0 : EReal) from bits0, zero_add]
  exact Finset.sum_congr rfl fun a _ => Finset.sum_congr rfl fun b _ => Finset.sum_congr rfl fun c _ => sq1 x0 x1 x2 x3 x4 x5 x6 a b c l

theorem var1 (l : Fin 64) : val_main_v39 (F := Ideal) x0 x1 x2 x3 x4 x5 x6 (ix1 l)
    = Ideal.div (val_main_v37 (F := Ideal) x0 x1 x2 x3 x4 x5 x6 (ix1 l)) (val_main_v19 (F := Ideal) x1 ix0) := by
  rw [val_main_v39_apply, val_main_v38_apply]
  rw [(show (idx_main_v38 (ix1 l)) = ix0 from funext fun q => q.elim0)]
  rfl

theorem nrm1 (a : Fin 8) (b : Fin 1024) (c : Fin 64) (l : Fin 64) : val_main_v54 (F := Ideal) x0 x1 x2 x3 x4 x5 x6 x7 x8 (ix4 a b c l)
    = Cert.Mlp.normR (val_main_v25 (F := Ideal) x0 x2 x3 x4 x5 x6 (ix4 a b c l)) (val_main_v30 (F := Ideal) x0 x1 x2 x3 x4 x5 x6 (ix1 l)) (val_main_v39 (F := Ideal) x0 x1 x2 x3 x4 x5 x6 (ix1 l)) (x7 (ix1 l)) (x8 (ix1 l)) := by
  rw [val_main_v54_apply, val_main_v51_apply, val_main_v48_apply, val_main_v42_apply, val_main_v41_apply, val_main_v40_apply, val_main_v47_apply, val_main_v46_apply, val_main_v45_apply, val_main_v44_apply, val_main_v43_apply, val_main_cst_5_apply, val_main_v50_apply, val_main_v49_apply, val_main_v53_apply, val_main_v52_apply]
  rw [(show (idx_main_v40 (idx_main_v41 (ix4 a b c l))) = (ix1 l) from funext fun q => match q with | ⟨0, _⟩ => rfl)]
  rw [(show (idx_main_v46 (idx_main_v47 (ix4 a b c l))) = (ix1 l) from funext fun q => match q with | ⟨0, _⟩ => rfl)]
  rw [(show (idx_main_v49 (idx_main_v50 (ix4 a b c l))) = (ix1 l) from funext fun q => match q with | ⟨0, _⟩ => rfl)]
  rw [(show (idx_main_v52 (idx_main_v53 (ix4 a b c l))) = (ix1 l) from funext fun q => match q with | ⟨0, _⟩ => rfl)]
  rw [show (FloatOps.ofBits .f32 0x3727C5AC#32 : Ideal .f32) = Cert.Mlp.eps from rfl]
  unfold Cert.Mlp.normR
  generalize Cert.Mlp.eps = e
  generalize val_main_v25 (F := Ideal) x0 x2 x3 x4 x5 x6 (ix4 a b c l) = h
  generalize val_main_v30 (F := Ideal) x0 x1 x2 x3 x4 x5 x6 (ix1 l) = mean
  generalize val_main_v39 (F := Ideal) x0 x1 x2 x3 x4 x5 x6 (ix1 l) = var
  rfl

end Cert.RefSide

end
-- ==== Proof.RefL2.lean ====
/- Reading the reference's layer 2: the dense part, the mean and the mean squared distance over the edges, the normalized value. -/
module

public import proofs.«01_k».proof.Proof.RefGather
public import proofs.«01_k».proof.Proof.Math

@[expose] public section

set_option maxRecDepth 16384

noncomputable section

namespace Cert.RefSide

open Cert.ReferenceIdeal Cert.ReferenceIdeal.Gen Cert.ReferenceIdeal.Read Idealize.ShloMosaic Idealize.ShloMosaic.TcCoe

variable (x0 : IVec S8x64x1024 32) (x1 : FVec Ideal S8x64x1024 .f32) (x2 : FVec Ideal S8x1024x3 .f32) (x3 x4 : FVec Ideal S16384x3 .f32)
  (x5 : FVec Ideal S6x64 .f32) (x6 x7 x8 : FVec Ideal S64 .f32) (x9 : FVec Ideal S64x64 .f32) (x10 x11 x12 : FVec Ideal S64 .f32)
  (x13 : FVec Ideal S64x128 .f32) (x14 x15 x16 : FVec Ideal S128 .f32)

theorem dense2 (a : Fin 8) (b : Fin 1024) (c : Fin 64) (l : Fin 64) : val_main_v60 (F := Ideal) x0 x1 x2 x3 x4 x5 x6 x7 x8 x9 x10 (ix4 a b c l)
    = max (∑ x : Fin 64, val_main_v54 (F := Ideal) x0 x1 x2 x3 x4 x5 x6 x7 x8 (ix4 a b c x) * x9 (ix2 x l) + x10 (ix1 l)) 0 := by
  rw [val_main_v60_apply, val_main_v58_apply, val_main_v57_apply, val_main_v56_apply, val_main_v59_apply, val_main_cst_6_apply, val_main_v55_apply]
  rw [(show (idx_main_v56 (idx_main_v57 (ix4 a b c l))) = (ix1 l) from funext fun q => match q with | ⟨0, _⟩ => rfl)]
  exact congrArg₂ max (congrArg (· + x10 (ix1 l)) (Finset.sum_congr rfl fun x _ => congrArg₂ (· * ·)
    (congrArg (val_main_v54 (F := Ideal) x0 x1 x2 x3 x4 x5 x6 x7 x8) (show lidx_main_v55 (ix4 a b c l) x = ix4 a b c x from funext fun q => match q with | ⟨0, _⟩ => rfl | ⟨1, _⟩ => rfl | ⟨2, _⟩ => rfl | ⟨3, _⟩ => rfl))
    (congrArg x9 (show ridx_main_v55 (ix4 a b c l) x = ix2 x l from funext fun q => match q with | ⟨0, _⟩ => rfl | ⟨1, _⟩ => rfl)))) bits0

theorem prod2 (a : Fin 8) (b : Fin 1024) (c : Fin 64) (l : Fin 64) : val_main_v62 (F := Ideal) x0 x1 x2 x3 x4 x5 x6 x7 x8 x9 x10 (ix4 a b c l)
    = val_main_v60 (F := Ideal) x0 x1 x2 x3 x4 x5 x6 x7 x8 x9 x10 (ix4 a b c l) * val_main_v17 (F := Ideal) x1 (ix4 a b c 0) := by
  rw [val_main_v62_apply, val_main_v61_apply]
  rw [(show (idx_main_v61 (ix4 a b c l)) = (ix4 a b c 0) from funext fun q => match q with | ⟨0, _⟩ => rfl | ⟨1, _⟩ => rfl | ⟨2, _⟩ => rfl | ⟨3, _⟩ => rfl)]
  rfl

theorem sum2 (l : Fin 64) : val_main_v63 (F := Ideal) x0 x1 x2 x3 x4 x5 x6 x7 x8 x9 x10 (ix1 l) = ∑ a : Fin 8, ∑ b : Fin 1024, ∑ c : Fin 64, val_main_v60 (F := Ideal) x0 x1 x2 x3 x4 x5 x6 x7 x8 x9 x10 (ix4 a b c l) * val_main_v17 (F := Ideal) x1 (ix4 a b c 0) := by
  unfold val_main_v63
  refine (ValueIdx.hostReduceAdd_apply _ _ _ _ _).trans ((sum012 _ _ _ l).trans ?_)
  rw [show (val_main_cst_7 (F := Ideal)) (Shape.Idx.first h_S_) = (0 : EReal) from bits0, zero_add]
  exact Finset.sum_congr rfl fun a _ => Finset.sum_congr rfl fun b _ => Finset.sum_congr rfl fun c _ => prod2 x0 x1 x2 x3 x4 x5 x6 x7 x8 x9 x10 a b c l

theorem mean2 (l : Fin 64) : val_main_v65 (F := Ideal) x0 x1 x2 x3 x4 x5 x6 x7 x8 x9 x10 (ix1 l)
    = Ideal.div (val_main_v63 (F := Ideal) x0 x1 x2 x3 x4 x5 x6 x7 x8 x9 x10 (ix1 l)) (val_main_v19 (F := Ideal) x1 ix0) := by
  rw [val_main_v65_apply, val_main_v64_apply]
  rw [(show (idx_main_v64 (ix1 l)) = ix0 from funext fun q => q.elim0)]
  rfl

theorem sq2 (a : Fin 8) (b : Fin 1024) (c : Fin 64) (l : Fin 64) : val_main_v71 (F := Ideal) x0 x1 x2 x3 x4 x5 x6 x7 x8 x9 x10 (ix4 a b c l)
    = (val_main_v60 (F := Ideal) x0 x1 x2 x3 x4 x5 x6 x7 x8 x9 x10 (ix4 a b c l) - val_main_v65 (F := Ideal) x0 x1 x2 x3 x4 x5 x6 x7 x8 x9 x10 (ix1 l)) * (val_main_v60 (F := Ideal) x0 x1 x2 x3 x4 x5 x6 x7 x8 x9 x10 (ix4 a b c l) - val_main_v65 (F := Ideal) x0 x1 x2 x3 x4 x5 x6 x7 x8 x9 x10 (ix1 l)) * val_main_v17 (F := Ideal) x1 (ix4 a b c 0) := by
  rw [val_main_v71_apply, val_main_v69_apply, val_main_v68_apply, val_main_v67_apply, val_main_v66_apply, val_main_v70_apply]
  rw [(show (idx_main_v66 (idx_main_v67 (ix4 a b c l))) = (ix1 l) from funext fun q => match q with | ⟨0, _⟩ => rfl)]
  rw [(show (idx_main_v70 (ix4 a b c l)) = (ix4 a b c 0) from funext fun q => match q with | ⟨0, _⟩ => rfl | ⟨1, _⟩ => rfl | ⟨2, _⟩ => rfl | ⟨3, _⟩ => rfl)]
  rfl

theorem sqsum2 (l : Fin 64) : val_main_v72 (F := Ideal) x0 x1 x2 x3 x4 x5 x6 x7 x8 x9 x10 (ix1 l) = ∑ a : Fin 8, ∑ b : Fin 1024, ∑ c : Fin 64, ((val_main_v60 (F := Ideal) x0 x1 x2 x3 x4 x5 x6 x7 x8 x9 x10 (ix4 a b c l) - val_main_v65 (F := Ideal) x0 x1 x2 x3 x4 x5 x6 x7 x8 x9 x10 (ix1 l)) * (val_main_v60 (F := Ideal) x0 x1 x2 x3 x4 x5 x6 x7 x8 x9 x10 (ix4 a b c l) - val_main_v65 (F := Ideal) x0 x1 x2 x3 x4 x5 x6 x7 x8 x9 x10 (ix1 l)) * val_main_v17 (F := Ideal) x1 (ix4 a b c 0)) := by
  unfold val_main_v72
  refine (ValueIdx.hostReduceAdd_apply _ _ _ _ _).trans ((sum012 _ _ _ l).trans ?_)
  rw [show (val_main_cst_8 (F := Ideal)) (Shape.Idx.first h_S_) = (0 : EReal) from bits0, zero_add]
  exact Finset.sum_congr rfl fun a _ => Finset.sum_congr rfl fun b _ => Finset.sum_congr rfl fun c _ => sq2 x0 x1 x2 x3 x4 x5 x6 x7 x8 x9 x10 a b c l

theorem var2 (l : Fin 64) : val_main_v74 (F := Ideal) x0 x1 x2 x3 x4 x5 x6 x7 x8 x9 x10 (ix1 l)
    = Ideal.div (val_main_v72 (F := Ideal) x0 x1 x2 x3 x4 x5 x6 x7 x8 x9 x10 (ix1 l)) (val_main_v19 (F := Ideal) x1 ix0) := by
  rw [val_main_v74_apply, val_main_v73_apply]
  rw [(show (idx_main_v73 (ix1 l)) = ix0 from funext fun q => q.elim0)]
  rfl

theorem nrm2 (a : Fin 8) (b : Fin 1024) (c : Fin 64) (l : Fin 64) : val_main_v89 (F := Ideal) x0 x1 x2 x3 x4 x5 x6 x7 x8 x9 x10 x11 x12 (ix4 a b c l)
    = Cert.Mlp.normR (val_main_v60 (F := Ideal) x0 x1 x2 x3 x4 x5 x6 x7 x8 x9 x10 (ix4 a b c l)) (val_main_v65 (F := Ideal) x0 x1 x2 x3 x4 x5 x6 x7 x8 x9 x10 (ix1 l)) (val_main_v74 (F := Ideal) x0 x1 x2 x3 x4 x5 x6 x7 x8 x9 x10 (ix1 l)) (x11 (ix1 l)) (x12 (ix1 l)) := by
  rw [val_main_v89_apply, val_main_v86_apply, val_main_v83_apply, val_main_v77_apply, val_main_v76_apply, val_main_v75_apply, val_main_v82_apply, val_main_v81_apply, val_main_v80_apply, val_main_v79_apply, val_main_v78_apply, val_main_cst_9_apply, val_main_v85_apply, val_main_v84_apply, val_main_v88_apply, val_main_v87_apply]
  rw [(show (idx_main_v75 (idx_main_v76 (ix4 a b c l))) = (ix1 l) from funext fun q => match q with | ⟨0, _⟩ => rfl)]
  rw [(show (idx_main_v81 (idx_main_v82 (ix4 a b c l))) = (ix1 l) from funext fun q => match q with | ⟨0, _⟩ => rfl)]
  rw [(show (idx_main_v84 (idx_main_v85 (ix4 a b c l))) = (ix1 l) from funext fun q => match q with | ⟨0, _⟩ => rfl)]
  rw [(show (idx_main_v87 (idx_main_v88 (ix4 a b c l))) = (ix1 l) from funext fun q => match q with | ⟨0, _⟩ => rfl)]
  rw [show (FloatOps.ofBits .f32 0x3727C5AC#32 : Ideal .f32) = Cert.Mlp.eps from rfl]
  unfold Cert.Mlp.normR
  generalize Cert.Mlp.eps = e
  generalize val_main_v60 (F := Ideal) x0 x1 x2 x3 x4 x5 x6 x7 x8 x9 x10 (ix4 a b c l) = h
  generalize val_main_v65 (F := Ideal) x0 x1 x2 x3 x4 x5 x6 x7 x8 x9 x10 (ix1 l) = mean
  generalize val_main_v74 (F := Ideal) x0 x1 x2 x3 x4 x5 x6 x7 x8 x9 x10 (ix1 l) = var
  rfl

end Cert.RefSide

end
-- ==== Proof.RefL3.lean ====
/- Reading the reference's layer 3: the dense part, the mean and the mean squared distance over the edges, the normalized value. -/
module

public import proofs.«01_k».proof.Proof.RefGather
public import proofs.«01_k».proof.Proof.Math

@[expose] public section

set_option maxRecDepth 16384

noncomputable section

namespace Cert.RefSide

open Cert.ReferenceIdeal Cert.ReferenceIdeal.Gen Cert.ReferenceIdeal.Read Idealize.ShloMosaic Idealize.ShloMosaic.TcCoe

variable (x0 : IVec S8x64x1024 32) (x1 : FVec Ideal S8x64x1024 .f32) (x2 : FVec Ideal S8x1024x3 .f32) (x3 x4 : FVec Ideal S16384x3 .f32)
  (x5 : FVec Ideal S6x64 .f32) (x6 x7 x8 : FVec Ideal S64 .f32) (x9 : FVec Ideal S64x64 .f32) (x10 x11 x12 : FVec Ideal S64 .f32)
  (x13 : FVec Ideal S64x128 .f32) (x14 x15 x16 : FVec Ideal S128 .f32)

theorem dense3 (a : Fin 8) (b : Fin 1024) (c : Fin 64) (l : Fin 128) : val_main_v95 (F := Ideal) x0 x1 x2 x3 x4 x5 x6 x7 x8 x9 x10 x11 x12 x13 x14 (ix4 a b c l)
    = max (∑ x : Fin 64, val_main_v89 (F := Ideal) x0 x1 x2 x3 x4 x5 x6 x7 x8 x9 x10 x11 x12 (ix4 a b c x) * x13 (ix2 x l) + x14 (ix1 l)) 0 := by
  rw [val_main_v95_apply, val_main_v93_apply, val_main_v92_apply, val_main_v91_apply, val_main_v94_apply, val_main_cst_10_apply, val_main_v90_apply]
  rw [(show (idx_main_v91 (idx_main_v92 (ix4 a b c l))) = (ix1 l) from funext fun q => match q with | ⟨0, _⟩ => rfl)]
  exact congrArg₂ max (congrArg (· + x14 (ix1 l)) (Finset.sum_congr rfl fun x _ => congrArg₂ (· * ·)
    (congrArg (val_main_v89 (F := Ideal) x0 x1 x2 x3 x4 x5 x6 x7 x8 x9 x10 x11 x12) (show lidx_main_v90 (ix4 a b c l) x = ix4 a b c x from funext fun q => match q with | ⟨0, _⟩ => rfl | ⟨1, _⟩ => rfl | ⟨2, _⟩ => rfl | ⟨3, _⟩ => rfl))
    (congrArg x13 (show ridx_main_v90 (ix4 a b c l) x = ix2 x l from funext fun q => match q with | ⟨0, _⟩ => rfl | ⟨1, _⟩ => rfl)))) bits0

theorem prod3 (a : Fin 8) (b : Fin 1024) (c : Fin 64) (l : Fin 128) : val_main_v97 (F := Ideal) x0 x1 x2 x3 x4 x5 x6 x7 x8 x9 x10 x11 x12 x13 x14 (ix4 a b c l)
    = val_main_v95 (F := Ideal) x0 x1 x2 x3 x4 x5 x6 x7 x8 x9 x10 x11 x12 x13 x14 (ix4 a b c l) * val_main_v17 (F := Ideal) x1 (ix4 a b c 0) := by
  rw [val_main_v97_apply, val_main_v96_apply]
  rw [(show (idx_main_v96 (ix4 a b c l)) = (ix4 a b c 0) from funext fun q => match q with | ⟨0, _⟩ => rfl | ⟨1, _⟩ => rfl | ⟨2, _⟩ => rfl | ⟨3, _⟩ => rfl)]
  rfl

theorem sum3 (l : Fin 128) : val_main_v98 (F := Ideal) x0 x1 x2 x3 x4 x5 x6 x7 x8 x9 x10 x11 x12 x13 x14 (ix1 l) = ∑ a : Fin 8, ∑ b : Fin 1024, ∑ c : Fin 64, val_main_v95 (F := Ideal) x0 x1 x2 x3 x4 x5 x6 x7 x8 x9 x10 x11 x12 x13 x14 (ix4 a b c l) * val_main_v17 (F := Ideal) x1 (ix4 a b c 0) := by
  unfold val_main_v98
  refine (ValueIdx.hostReduceAdd_apply _ _ _ _ _).trans ((sum012 _ _ _ l).trans ?_)
  rw [show (val_main_cst_11 (F := Ideal)) (Shape.Idx.first h_S_) = (0 : EReal) from bits0, zero_add]
  exact Finset.sum_congr rfl fun a _ => Finset.sum_congr rfl fun b _ => Finset.sum_congr rfl fun c _ => prod3 x0 x1 x2 x3 x4 x5 x6 x7 x8 x9 x10 x11 x12 x13 x14 a b c l

theorem mean3 (l : Fin 128) : val_main_v100 (F := Ideal) x0 x1 x2 x3 x4 x5 x6 x7 x8 x9 x10 x11 x12 x13 x14 (ix1 l)
    = Ideal.div (val_main_v98 (F := Ideal) x0 x1 x2 x3 x4 x5 x6 x7 x8 x9 x10 x11 x12 x13 x14 (ix1 l)) (val_main_v19 (F := Ideal) x1 ix0) := by
  rw [val_main_v100_apply, val_main_v99_apply]
  rw [(show (idx_main_v99 (ix1 l)) = ix0 from funext fun q => q.elim0)]
  rfl

theorem sq3 (a : Fin 8) (b : Fin 1024) (c : Fin 64) (l : Fin 128) : val_main_v106 (F := Ideal) x0 x1 x2 x3 x4 x5 x6 x7 x8 x9 x10 x11 x12 x13 x14 (ix4 a b c l)
    = (val_main_v95 (F := Ideal) x0 x1 x2 x3 x4 x5 x6 x7 x8 x9 x10 x11 x12 x13 x14 (ix4 a b c l) - val_main_v100 (F := Ideal) x0 x1 x2 x3 x4 x5 x6 x7 x8 x9 x10 x11 x12 x13 x14 (ix1 l)) * (val_main_v95 (F := Ideal) x0 x1 x2 x3 x4 x5 x6 x7 x8 x9 x10 x11 x12 x13 x14 (ix4 a b c l) - val_main_v100 (F := Ideal) x0 x1 x2 x3 x4 x5 x6 x7 x8 x9 x10 x11 x12 x13 x14 (ix1 l)) * val_main_v17 (F := Ideal) x1 (ix4 a b c 0) := by
  rw [val_main_v106_apply, val_main_v104_apply, val_main_v103_apply, val_main_v102_apply, val_main_v101_apply, val_main_v105_apply]
  rw [(show (idx_main_v101 (idx_main_v102 (ix4 a b c l))) = (ix1 l) from funext fun q => match q with | ⟨0, _⟩ => rfl)]
  rw [(show (idx_main_v105 (ix4 a b c l)) = (ix4 a b c 0) from funext fun q => match q with | ⟨0, _⟩ => rfl | ⟨1, _⟩ => rfl | ⟨2, _⟩ => rfl | ⟨3, _⟩ => rfl)]
  rfl

theorem sqsum3 (l : Fin 128) : val_main_v107 (F := Ideal) x0 x1 x2 x3 x4 x5 x6 x7 x8 x9 x10 x11 x12 x13 x14 (ix1 l) = ∑ a : Fin 8, ∑ b : Fin 1024, ∑ c : Fin 64, ((val_main_v95 (F := Ideal) x0 x1 x2 x3 x4 x5 x6 x7 x8 x9 x10 x11 x12 x13 x14 (ix4 a b c l) - val_main_v100 (F := Ideal) x0 x1 x2 x3 x4 x5 x6 x7 x8 x9 x10 x11 x12 x13 x14 (ix1 l)) * (val_main_v95 (F := Ideal) x0 x1 x2 x3 x4 x5 x6 x7 x8 x9 x10 x11 x12 x13 x14 (ix4 a b c l) - val_main_v100 (F := Ideal) x0 x1 x2 x3 x4 x5 x6 x7 x8 x9 x10 x11 x12 x13 x14 (ix1 l)) * val_main_v17 (F := Ideal) x1 (ix4 a b c 0)) := by
  unfold val_main_v107
  refine (ValueIdx.hostReduceAdd_apply _ _ _ _ _).trans ((sum012 _ _ _ l).trans ?_)
  rw [show (val_main_cst_12 (F := Ideal)) (Shape.Idx.first h_S_) = (0 : EReal) from bits0, zero_add]
  exact Finset.sum_congr rfl fun a _ => Finset.sum_congr rfl fun b _ => Finset.sum_congr rfl fun c _ => sq3 x0 x1 x2 x3 x4 x5 x6 x7 x8 x9 x10 x11 x12 x13 x14 a b c l

theorem var3 (l : Fin 128) : val_main_v109 (F := Ideal) x0 x1 x2 x3 x4 x5 x6 x7 x8 x9 x10 x11 x12 x13 x14 (ix1 l)
    = Ideal.div (val_main_v107 (F := Ideal) x0 x1 x2 x3 x4 x5 x6 x7 x8 x9 x10 x11 x12 x13 x14 (ix1 l)) (val_main_v19 (F := Ideal) x1 ix0) := by
  rw [val_main_v109_apply, val_main_v108_apply]
  rw [(show (idx_main_v108 (ix1 l)) = ix0 from funext fun q => q.elim0)]
  rfl

theorem nrm3 (a : Fin 8) (b : Fin 1024) (c : Fin 64) (l : Fin 128) : val_main_v124 (F := Ideal) x0 x1 x2 x3 x4 x5 x6 x7 x8 x9 x10 x11 x12 x13 x14 x15 x16 (ix4 a b c l)
    = Cert.Mlp.normR (val_main_v95 (F := Ideal) x0 x1 x2 x3 x4 x5 x6 x7 x8 x9 x10 x11 x12 x13 x14 (ix4 a b c l)) (val_main_v100 (F := Ideal) x0 x1 x2 x3 x4 x5 x6 x7 x8 x9 x10 x11 x12 x13 x14 (ix1 l)) (val_main_v109 (F := Ideal) x0 x1 x2 x3 x4 x5 x6 x7 x8 x9 x10 x11 x12 x13 x14 (ix1 l)) (x15 (ix1 l)) (x16 (ix1 l)) := by
  rw [val_main_v124_apply, val_main_v121_apply, val_main_v118_apply, val_main_v112_apply, val_main_v111_apply, val_main_v110_apply, val_main_v117_apply, val_main_v116_apply, val_main_v115_apply, val_main_v114_apply, val_main_v113_apply, val_main_cst_13_apply, val_main_v120_apply, val_main_v119_apply, val_main_v123_apply, val_main_v122_apply]
  rw [(show (idx_main_v110 (idx_main_v111 (ix4 a b c l))) = (ix1 l) from funext fun q => match q with | ⟨0, _⟩ => rfl)]
  rw [(show (idx_main_v116 (idx_main_v117 (ix4 a b c l))) = (ix1 l) from funext fun q => match q with | ⟨0, _⟩ => rfl)]
  rw [(show (idx_main_v119 (idx_main_v120 (ix4 a b c l))) = (ix1 l) from funext fun q => match q with | ⟨0, _⟩ => rfl)]
  rw [(show (idx_main_v122 (idx_main_v123 (ix4 a b c l))) = (ix1 l) from funext fun q => match q with | ⟨0, _⟩ => rfl)]
  rw [show (FloatOps.ofBits .f32 0x3727C5AC#32 : Ideal .f32) = Cert.Mlp.eps from rfl]
  unfold Cert.Mlp.normR
  generalize Cert.Mlp.eps = e
  generalize val_main_v95 (F := Ideal) x0 x1 x2 x3 x4 x5 x6 x7 x8 x9 x10 x11 x12 x13 x14 (ix4 a b c l) = h
  generalize val_main_v100 (F := Ideal) x0 x1 x2 x3 x4 x5 x6 x7 x8 x9 x10 x11 x12 x13 x14 (ix1 l) = mean
  generalize val_main_v109 (F := Ideal) x0 x1 x2 x3 x4 x5 x6 x7 x8 x9 x10 x11 x12 x13 x14 (ix1 l) = var
  rfl

end Cert.RefSide

end
-- ==== Proof.RefNet.lean ====
/- The reference as the network over all edges, in its own arrangement. -/
module

public import proofs.«01_k».proof.Proof.RefIn
public import proofs.«01_k».proof.Proof.RefL1
public import proofs.«01_k».proof.Proof.RefL2
public import proofs.«01_k».proof.Proof.RefL3
public import Idealize.ShloMosaic.Lib.Pointwise
public import proofs.«01_k».proof.Proof.Math

@[expose] public section

set_option maxRecDepth 16384

noncomputable section

namespace Cert.RefSide

open Cert.ReferenceIdeal Cert.ReferenceIdeal.Gen Cert.ReferenceIdeal.Read Idealize.ShloMosaic Idealize.ShloMosaic.TcCoe Cert.Mlp Cert.KernelIdeal.Whole

variable (x0 : IVec S8x64x1024 32) (x1 : FVec Ideal S8x64x1024 .f32) (x2 : FVec Ideal S8x1024x3 .f32) (x3 x4 : FVec Ideal S16384x3 .f32)
  (x5 : FVec Ideal S6x64 .f32) (x6 x7 x8 : FVec Ideal S64 .f32) (x9 : FVec Ideal S64x64 .f32) (x10 x11 x12 : FVec Ideal S64 .f32)
  (x13 : FVec Ideal S64x128 .f32) (x14 x15 x16 : FVec Ideal S128 .f32)

/-- The weights as the reference forms them. -/
abbrev wR (e : Edge) : EReal := val_main_v17 (F := Ideal) x1 (ix4 e.1 e.2.1 e.2.2 0)

theorem mean1_eq (l : Fin 64) : val_main_v30 (F := Ideal) x0 x1 x2 x3 x4 x5 x6 (ix1 l) = meanR (fun e : Edge => val_main_v25 (F := Ideal) x0 x2 x3 x4 x5 x6 (ix4 e.1 e.2.1 e.2.2 l)) (wR x1) := by
  rw [mean1, v19_at, sum1]
  unfold meanR
  refine congrArg₂ Ideal.div ?_ rfl
  symm
  exact sum_edge _

theorem var1_eq (l : Fin 64) : val_main_v39 (F := Ideal) x0 x1 x2 x3 x4 x5 x6 (ix1 l) = varR (fun e : Edge => val_main_v25 (F := Ideal) x0 x2 x3 x4 x5 x6 (ix4 e.1 e.2.1 e.2.2 l)) (wR x1) := by
  rw [var1, v19_at, sqsum1, mean1_eq]
  unfold varR
  refine congrArg₂ Ideal.div ?_ rfl
  symm
  exact sum_edge _

theorem nrm1_eq : (fun (e : Edge) l => val_main_v54 (F := Ideal) x0 x1 x2 x3 x4 x5 x6 x7 x8 (ix4 e.1 e.2.1 e.2.2 l)) = nR (fun (e : Edge) l => val_main_v25 (F := Ideal) x0 x2 x3 x4 x5 x6 (ix4 e.1 e.2.1 e.2.2 l)) (wR x1) (vec x7) (vec x8) := by
  funext e l
  rw [nrm1, mean1_eq, var1_eq]
  rfl

theorem dense1_eq : (fun (e : Edge) l => val_main_v25 (F := Ideal) x0 x2 x3 x4 x5 x6 (ix4 e.1 e.2.1 e.2.2 l)) = dn (fun (e : Edge) l => val_main_v15 (F := Ideal) x0 x2 x3 x4 (ix4 e.1 e.2.1 e.2.2 l)) (mat x5) (vec x6) := by
  funext e l
  exact dense1 x0 x2 x3 x4 x5 x6 e.1 e.2.1 e.2.2 l

theorem mean2_eq (l : Fin 64) : val_main_v65 (F := Ideal) x0 x1 x2 x3 x4 x5 x6 x7 x8 x9 x10 (ix1 l) = meanR (fun e : Edge => val_main_v60 (F := Ideal) x0 x1 x2 x3 x4 x5 x6 x7 x8 x9 x10 (ix4 e.1 e.2.1 e.2.2 l)) (wR x1) := by
  rw [mean2, v19_at, sum2]
  unfold meanR
  refine congrArg₂ Ideal.div ?_ rfl
  symm
  exact sum_edge _

theorem var2_eq (l : Fin 64) : val_main_v74 (F := Ideal) x0 x1 x2 x3 x4 x5 x6 x7 x8 x9 x10 (ix1 l) = varR (fun e : Edge => val_main_v60 (F := Ideal) x0 x1 x2 x3 x4 x5 x6 x7 x8 x9 x10 (ix4 e.1 e.2.1 e.2.2 l)) (wR x1) := by
  rw [var2, v19_at, sqsum2, mean2_eq]
  unfold varR
  refine congrArg₂ Ideal.div ?_ rfl
  symm
  exact sum_edge _

theorem nrm2_eq : (fun (e : Edge) l => val_main_v89 (F := Ideal) x0 x1 x2 x3 x4 x5 x6 x7 x8 x9 x10 x11 x12 (ix4 e.1 e.2.1 e.2.2 l)) = nR (fun (e : Edge) l => val_main_v60 (F := Ideal) x0 x1 x2 x3 x4 x5 x6 x7 x8 x9 x10 (ix4 e.1 e.2.1 e.2.2 l)) (wR x1) (vec x11) (vec x12) := by
  funext e l
  rw [nrm2, mean2_eq, var2_eq]
  rfl

theorem dense2_eq : (fun (e : Edge) l => val_main_v60 (F := Ideal) x0 x1 x2 x3 x4 x5 x6 x7 x8 x9 x10 (ix4 e.1 e.2.1 e.2.2 l)) = dn (fun (e : Edge) l => val_main_v54 (F := Ideal) x0 x1 x2 x3 x4 x5 x6 x7 x8 (ix4 e.1 e.2.1 e.2.2 l)) (mat x9) (vec x10) := by
  funext e l
  exact dense2 x0 x1 x2 x3 x4 x5 x6 x7 x8 x9 x10 e.1 e.2.1 e.2.2 l

theorem mean3_eq (l : Fin 128) : val_main_v100 (F := Ideal) x0 x1 x2 x3 x4 x5 x6 x7 x8 x9 x10 x11 x12 x13 x14 (ix1 l) = meanR (fun e : Edge => val_main_v95 (F := Ideal) x0 x1 x2 x3 x4 x5 x6 x7 x8 x9 x10 x11 x12 x13 x14 (ix4 e.1 e.2.1 e.2.2 l)) (wR x1) := by
  rw [mean3, v19_at, sum3]
  unfold meanR
  refine congrArg₂ Ideal.div ?_ rfl
  symm
  exact sum_edge _

theorem var3_eq (l : Fin 128) : val_main_v109 (F := Ideal) x0 x1 x2 x3 x4 x5 x6 x7 x8 x9 x10 x11 x12 x13 x14 (ix1 l) = varR (fun e : Edge => val_main_v95 (F := Ideal) x0 x1 x2 x3 x4 x5 x6 x7 x8 x9 x10 x11 x12 x13 x14 (ix4 e.1 e.2.1 e.2.2 l)) (wR x1) := by
  rw [var3, v19_at, sqsum3, mean3_eq]
  unfold varR
  refine congrArg₂ Ideal.div ?_ rfl
  symm
  exact sum_edge _

theorem nrm3_eq : (fun (e : Edge) l => val_main_v124 (F := Ideal) x0 x1 x2 x3 x4 x5 x6 x7 x8 x9 x10 x11 x12 x13 x14 x15 x16 (ix4 e.1 e.2.1 e.2.2 l)) = nR (fun (e : Edge) l => val_main_v95 (F := Ideal) x0 x1 x2 x3 x4 x5 x6 x7 x8 x9 x10 x11 x12 x13 x14 (ix4 e.1 e.2.1 e.2.2 l)) (wR x1) (vec x15) (vec x16) := by
  funext e l
  rw [nrm3, mean3_eq, var3_eq]
  rfl

theorem dense3_eq : (fun (e : Edge) l => val_main_v95 (F := Ideal) x0 x1 x2 x3 x4 x5 x6 x7 x8 x9 x10 x11 x12 x13 x14 (ix4 e.1 e.2.1 e.2.2 l)) = dn (fun (e : Edge) l => val_main_v89 (F := Ideal) x0 x1 x2 x3 x4 x5 x6 x7 x8 x9 x10 x11 x12 (ix4 e.1 e.2.1 e.2.2 l)) (mat x13) (vec x14) := by
  funext e l
  exact dense3 x0 x1 x2 x3 x4 x5 x6 x7 x8 x9 x10 x11 x12 x13 x14 e.1 e.2.1 e.2.2 l

/-- The normalized third layer of the reference. -/
theorem net_ref (hw : ∀ i, x1 i = 0 ∨ x1 i = 1) (hn : ∀ i, 0 ≤ (x0 i).toInt ∧ (x0 i).toInt < 2048) :
    (fun (e : Edge) l => val_main_v124 (F := Ideal) x0 x1 x2 x3 x4 x5 x6 x7 x8 x9 x10 x11 x12 x13 x14 x15 x16 (ix4 e.1 e.2.1 e.2.2 l)) = net (fun {N} => nR (N := N)) (dn (ein x0 x2 x3 x4) (mat x5) (vec x6)) (wgt x1) (vec x7) (vec x8) (mat x9) (vec x10) (vec x11) (vec x12)
      (mat x13) (vec x14) (vec x15) (vec x16) := by
  have ew : wR x1 = wgt x1 := funext fun e => v17_at x1 hw e.1 e.2.1 e.2.2
  rw [nrm3_eq, dense3_eq, nrm2_eq, dense2_eq, nrm1_eq, dense1_eq, ew]
  rw [show (fun (e : Edge) l => val_main_v15 (F := Ideal) x0 x2 x3 x4 (ix4 e.1 e.2.1 e.2.2 l)) = ein x0 x2 x3 x4 from funext fun e => funext fun x => v15_at x0 x2 x3 x4 hn e x]
  rfl

theorem max_axis2 (y : FVec Ideal S8x1024x64x128 .f32) (a : Fin 8) (b : Fin 1024) (l : Fin 128) :
    Host.reduce FloatOps.maximumf y (val_main_cst_15 (F := Ideal)) reducesTo_S8x1024x64x128_S8x1024x128_d2 h_S_ (ix3 a b l)
      = Finset.fold max (Ideal.ofBits .f32 0xFF800000#32) (fun c : Fin 64 => y (ix4 a b c l)) Finset.univ := by
  pointwise [val_main_cst_15]

/-- The reference's result. -/
theorem out_ref (hw : ∀ i, x1 i = 0 ∨ x1 i = 1) (hn : ∀ i, 0 ≤ (x0 i).toInt ∧ (x0 i).toInt < 2048) (r : Fin 8192) (l : Fin 128) :
    val_main_v128 (F := Ideal) x0 x1 x2 x3 x4 x5 x6 x7 x8 x9 x10 x11 x12 x13 x14 x15 x16 (ix2 r l) = Finset.fold max (Ideal.ofBits .f32 0xFF800000#32) (fun k : Fin 64 =>
        if 0 < wgt x1 (⟨r.val / 1024, by have := r.isLt; omega⟩, ⟨r.val % 1024, by omega⟩, k)
        then net (fun {N} => nR (N := N)) (dn (ein x0 x2 x3 x4) (mat x5) (vec x6)) (wgt x1) (vec x7) (vec x8) (mat x9) (vec x10) (vec x11) (vec x12)
          (mat x13) (vec x14) (vec x15) (vec x16) (⟨r.val / 1024, by have := r.isLt; omega⟩, ⟨r.val % 1024, by omega⟩, k) l
        else Ideal.ofBits .f32 0xFF800000#32) Finset.univ := by
  rw [val_main_v128_apply]
  rw [show idx_main_v128 (ix2 r l) = ix3 (⟨r.val / 1024, by have := r.isLt; omega⟩ : Fin 8) (⟨r.val % 1024, by omega⟩ : Fin 1024) l from funext fun q => Fin.ext (by
    have hr := r.isLt; have hl := l.isLt
    match q with
    | ⟨0, _⟩ => show (r.val * 128 + l.val) / 131072 = r.val / 1024; omega
    | ⟨1, _⟩ => show (r.val * 128 + l.val) / 128 % 1024 = r.val % 1024; omega
    | ⟨2, _⟩ => show (r.val * 128 + l.val) % 128 = l.val; omega)]
  generalize (⟨r.val / 1024, by have := r.isLt; omega⟩ : Fin 8) = a
  generalize (⟨r.val % 1024, by omega⟩ : Fin 1024) = b
  unfold val_main_v127
  rw [max_axis2]
  refine congrArg (fun f => Finset.fold max (Ideal.ofBits .f32 0xFF800000#32) f Finset.univ) (funext fun k => ?_)
  rw [val_main_v126_apply, val_main_call2_v1_apply, val_main_v125_apply, val_main_call2_v2_apply, val_main_call2_v0_apply, val_main_cst_14_apply]
  rw [show idx_main_v125 (idx_main_call2_v1 (ix4 a b k l)) = ix3 a b k from funext fun q => match q with | ⟨0, _⟩ => rfl | ⟨1, _⟩ => rfl | ⟨2, _⟩ => rfl]
  rw [v5_at]
  have h := congrFun (congrFun (net_ref x0 x1 x2 x3 x4 x5 x6 x7 x8 x9 x10 x11 x12 x13 x14 x15 x16 hw hn) (a, b, k)) l
  rw [← h]
  show Scalar.select (BitVec.ofBool (decide (0 < x1 (ix3 a k b)))) _ _ = if 0 < x1 (ix3 a k b) then _ else _
  unfold Scalar.select
  by_cases hp : 0 < x1 (ix3 a k b)
  · rw [if_pos hp, decide_eq_true hp]; rfl
  · rw [if_neg hp, decide_eq_false hp]; rfl

end Cert.RefSide

end
-- ==== Proof.PreSide.lean ====
/- What the precondition says of the arguments: the lists are in range, the weights are 0 or 1, every other entry is a real number. -/
module

public import proofs.«01_k».proof.Pre_lists_in_order
public import proofs.«01_k».proof.Proof.RefGather
public import proofs.«01_k».proof.Proof.Math
public import Idealize.ShloMosaic.Lib.ReduceAll
public import Idealize.ShloMosaic.Lib.WordCmp

@[expose] public section

set_option maxRecDepth 16384

noncomputable section

namespace Cert.PreSide

open Cert.Pre_lists_in_order Cert.Mlp Idealize.ShloMosaic

/-- An array of numbers whose magnitudes are all less than infinity holds real numbers. -/
theorem real_of {s : Shape} {axes : List (Fin s.rank)} (x : FVec Ideal s .f32) (hb : S_.BroadcastsInDim s (![] : Fin 0 → Fin s.rank))
    (hr : s.ReducesTo axes S_) (hS : 0 < S_.numel) (j : S_.Idx)
    (e : Host.reduce IntOp.andi (cmpf .olt (Host.absf x) (broadcastInDim s ![] hb (constant S_ .f32 0x7F800000#32))) (constantI S_ 1 1#1) hr hS j = 1#1)
    (i : s.Idx) : IsR (x i) := by
  have h := Host.reduce_andi_all _ _ _ _ j e i
  have h' : BitVec.ofBool (decide (max (x i) (-(x i)) < Ideal.ofBits .f32 0x7F800000#32)) = 1#1 := h
  have ht : (Ideal.ofBits .f32 0x7F800000#32 : EReal) = ⊤ := by simp [Ideal.ofBits, Ideal.ieee]
  rw [ht] at h'
  refine IsR.of_lt_top ?_
  by_contra hc
  rw [decide_eq_false hc] at h'
  exact absurd h' (by decide)

/-- An array of integers from zero to 2047. -/
theorem range_of (x : IVec S8x64x1024 32) (hb : S_.BroadcastsInDim S8x64x1024 (![] : Fin 0 → Fin S8x64x1024.rank))
    (hr : S8x64x1024.ReducesTo [0, 1, 2] S_) (hS : 0 < S_.numel) (j : S_.Idx)
    (e : Host.reduce IntOp.andi (andi (cmpi .sge x (broadcastInDim S8x64x1024 ![] hb (constantI S_ 32 0#32)))
      (cmpi .slt x (broadcastInDim S8x64x1024 ![] hb (constantI S_ 32 2048#32)))) (constantI S_ 1 1#1) hr hS j = 1#1)
    (i : S8x64x1024.Idx) : 0 ≤ (x i).toInt ∧ (x i).toInt < 2048 := by
  obtain ⟨h1, h2⟩ := IntOp.andi_eq_one.1 (Host.reduce_andi_all _ _ _ _ j e i)
  exact ⟨IntOp.cmpi_sge.1 h1, IntOp.cmpi_slt.1 h2⟩

/-- An array of zeros and ones. -/
theorem bits_of (x : FVec Ideal S8x64x1024 .f32) (hb : S_.BroadcastsInDim S8x64x1024 (![] : Fin 0 → Fin S8x64x1024.rank))
    (hr : S8x64x1024.ReducesTo [0, 1, 2] S_) (hS : 0 < S_.numel) (j : S_.Idx)
    (e : Host.reduce IntOp.andi (ori (cmpf .oeq x (broadcastInDim S8x64x1024 ![] hb (constant S_ .f32 0x00000000#32)))
      (cmpf .oeq x (broadcastInDim S8x64x1024 ![] hb (constant S_ .f32 0x3F800000#32)))) (constantI S_ 1 1#1) hr hS j = 1#1)
    (i : S8x64x1024.Idx) : x i = 0 ∨ x i = 1 := by
  have h := Host.reduce_andi_all _ _ _ _ j e i
  have h' : BitVec.ofBool (decide (x i = Ideal.ofBits .f32 0x00000000#32)) ||| BitVec.ofBool (decide (x i = Ideal.ofBits .f32 0x3F800000#32)) = 1#1 := h
  rw [Cert.RefSide.bits0, Cert.RefSide.bits1] at h'
  by_contra hc
  rw [not_or] at hc
  rw [decide_eq_false hc.1, decide_eq_false hc.2] at h'
  exact absurd h' (by decide)

theorem unpack [Facts] (x0 : IVec S8x64x1024 32) (x1 : FVec Ideal S8x64x1024 .f32) (x2 : FVec Ideal S8x1024x3 .f32) (x3 : FVec Ideal S16384x3 .f32) (x4 : FVec Ideal S16384x3 .f32) (x5 : FVec Ideal S6x64 .f32) (x6 : FVec Ideal S64 .f32) (x7 : FVec Ideal S64 .f32) (x8 : FVec Ideal S64 .f32) (x9 : FVec Ideal S64x64 .f32) (x10 : FVec Ideal S64 .f32) (x11 : FVec Ideal S64 .f32) (x12 : FVec Ideal S64 .f32) (x13 : FVec Ideal S64x128 .f32) (x14 : FVec Ideal S128 .f32) (x15 : FVec Ideal S128 .f32) (x16 : FVec Ideal S128 .f32)
    (h : fn (F := Ideal) x0 x1 x2 x3 x4 x5 x6 x7 x8 x9 x10 x11 x12 x13 x14 x15 x16 = fun _ => 1#1) :
    (∀ i, 0 ≤ (x0 i).toInt ∧ (x0 i).toInt < 2048) ∧ (∀ i, x1 i = 0 ∨ x1 i = 1)
      ∧ (∀ i, IsR (x2 i))
      ∧ (∀ i, IsR (x3 i))
      ∧ (∀ i, IsR (x4 i))
      ∧ (∀ i, IsR (x5 i))
      ∧ (∀ i, IsR (x6 i))
      ∧ (∀ i, IsR (x7 i))
      ∧ (∀ i, IsR (x8 i))
      ∧ (∀ i, IsR (x9 i))
      ∧ (∀ i, IsR (x10 i))
      ∧ (∀ i, IsR (x11 i))
      ∧ (∀ i, IsR (x12 i))
      ∧ (∀ i, IsR (x13 i))
      ∧ (∀ i, IsR (x14 i)) := by
  replace h := congrFun h (fun a => a.elim0)
  unfold fn fn_part1 fn_part2 fn_part3 fn_part4 at h
  obtain ⟨h, p14⟩ := IntOp.andi_eq_one.1 h
  obtain ⟨h, p13⟩ := IntOp.andi_eq_one.1 h
  obtain ⟨h, p12⟩ := IntOp.andi_eq_one.1 h
  obtain ⟨h, p11⟩ := IntOp.andi_eq_one.1 h
  obtain ⟨h, p10⟩ := IntOp.andi_eq_one.1 h
  obtain ⟨h, p9⟩ := IntOp.andi_eq_one.1 h
  obtain ⟨h, p8⟩ := IntOp.andi_eq_one.1 h
  obtain ⟨h, p7⟩ := IntOp.andi_eq_one.1 h
  obtain ⟨h, p6⟩ := IntOp.andi_eq_one.1 h
  obtain ⟨h, p5⟩ := IntOp.andi_eq_one.1 h
  obtain ⟨h, p4⟩ := IntOp.andi_eq_one.1 h
  obtain ⟨h, p3⟩ := IntOp.andi_eq_one.1 h
  obtain ⟨h, p2⟩ := IntOp.andi_eq_one.1 h
  obtain ⟨p0, p1⟩ := IntOp.andi_eq_one.1 h
  exact ⟨range_of x0 _ _ _ _ p0, bits_of x1 _ _ _ _ p1, real_of x2 _ _ _ _ p2, real_of x3 _ _ _ _ p3, real_of x4 _ _ _ _ p4, real_of x5 _ _ _ _ p5, real_of x6 _ _ _ _ p6, real_of x7 _ _ _ _ p7, real_of x8 _ _ _ _ p8, real_of x9 _ _ _ _ p9, real_of x10 _ _ _ _ p10, real_of x11 _ _ _ _ p11, real_of x12 _ _ _ _ p12, real_of x13 _ _ _ _ p13, real_of x14 _ _ _ _ p14⟩

end Cert.PreSide

end
-- ==== Proof.KRun.lean ====
/- The kernel's run at the ideal instance, with its result: the launch over the generated segments, read at the last boundary. -/
module

public import proofs.«01_k».proof.Proof.Gen.KernelIdeal.Frame

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run: it ends, its result holds the boundary fold's value, and the arguments are as launched. -/
theorem kernel_run : θ_run defs (onTc (τ := τ) (main (F := F))) ⟨m, fun _ => 0, ρ⟩ (fun r => ∀ c : Dev nD,
      r.2.mem ((c.tc : Thread nD τ).loc main_v0) = W9 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => (fun c =>
      ⟨(h c _ (mem_uc main_v0 (by decide))),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩))

end Cert.KernelIdeal.Whole

end
-- ==== Proof.Final.lean ====
/- The kernel's result is the reference's, for arguments that meet the precondition. -/
module

public import proofs.«01_k».proof.Proof.Chain
public import proofs.«01_k».proof.Proof.RefNet
public import proofs.«01_k».proof.Proof.PreSide
public import proofs.«01_k».proof.Proof.KRun

@[expose] public section

set_option maxRecDepth 16384

noncomputable section

namespace Cert.KernelIdeal.Whole

open Cert.KernelIdeal Cert.KernelIdeal.Gen Idealize.ShloMosaic Idealize.ShloMosaic.TcCoe Idealize.SL.Sem Cert.Mlp

/-- The first layer's inputs are real numbers. -/
theorem ein_real (x0 : IVec S8x64x1024 32) (x2 : FVec Ideal S8x1024x3 .f32) (x3 x4 : FVec Ideal S16384x3 .f32)
    (hn : ∀ i, 0 ≤ (x0 i).toInt ∧ (x0 i).toInt < 2048) (h2 : ∀ i, IsR (x2 i)) (h3 : ∀ i, IsR (x3 i)) (h4 : ∀ i, IsR (x4 i))
    (e : Edge) (x : Fin 6) : IsR (ein x0 x2 x3 x4 e x) := by
  have hf : ∀ p, IsR (feat x3 x4 e.1 p x) := fun p => by
    unfold feat
    by_cases hx : x.val < 3
    · rw [dif_pos hx]; exact h3 _
    · rw [dif_neg hx]; exact h4 _
  have hh : ∀ p, IsR (hot (x0 (ix3 e.1 e.2.2 e.2.1)) p) := fun p => by
    rw [Cert.RefSide.hot_at _ (hn _).1 (hn _).2 p]
    split_ifs
    · exact IsR.one
    · exact IsR.zero
  have hs : IsR (∑ p, hot (x0 (ix3 e.1 e.2.2 e.2.1)) p * feat x3 x4 e.1 p x) := IsR.sum _ _ fun p => (hh p).mul (hf p)
  unfold ein inK
  by_cases hx : x.val < 3
  · rw [dif_pos hx]; exact hs
  · rw [dif_neg hx]; exact hs.sub (h2 _)

/-- The kernel's result array is the reference's value of the kernel's arguments. -/
theorem value_eq [Cert.Pre_lists_in_order.Facts] (m : (ℓ : Loc nD τ sig) → Buf (Elt Ideal) ℓ) (ρ : Dev nD → PrngReg) (c : Dev nD)
    (hp : Cert.Pre_lists_in_order.fn (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) = fun _ => 1#1) :
    W9 m ρ c (Proc.devRef .tc main_v0) = Cert.ReferenceIdeal.Read.val_main_v128 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) := by
  obtain ⟨hn, hw, h2, h3, h4, h5, h6, h7, h8, h9, h10, h11, h12, h13, h14⟩ := Cert.PreSide.unpack (A0 m c) (A1 m c) (A2 m c) (A3 m c) (A4 m c) (A5 m c) (A6 m c) (A7 m c) (A8 m c) (A9 m c) (A10 m c) (A11 m c) (A12 m c) (A13 m c) (A14 m c) (A15 m c) (A16 m c) hp
  have hz : ∀ e l, IsR (dn (ein (A0 m c) (A2 m c) (A3 m c) (A4 m c)) (mat (A5 m c)) (vec (A6 m c)) e l) := fun e l =>
    dn_real _ _ _ (ein_real _ _ _ _ hn h2 h3 h4) (fun x l => h5 _) (fun l => h6 _) e l
  have hnet := net_eq (dn (ein (A0 m c) (A2 m c) (A3 m c) (A4 m c)) (mat (A5 m c)) (vec (A6 m c))) (wgt (A1 m c)) (vec (A7 m c)) (vec (A8 m c))
    (mat (A9 m c)) (vec (A10 m c)) (vec (A11 m c)) (vec (A12 m c)) (mat (A13 m c)) (vec (A14 m c)) (vec (A15 m c)) (vec (A16 m c))
    hz (fun e => hw _) (fun l => h7 _) (fun l => h8 _) (fun x l => h9 _) (fun l => h10 _) (fun l => h11 _) (fun l => h12 _)
    (fun x l => h13 _) (fun l => h14 _)
  have key : ∀ (r : Fin 8192) (l : Fin 128), W9 m ρ c (Proc.devRef .tc main_v0) (ix2 r l)
      = Cert.ReferenceIdeal.Read.val_main_v128 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (ix2 r l) := fun r l => by
    refine (W9_out m ρ c r l).trans (Eq.trans ?_ (Cert.RefSide.out_ref (A0 m c) (A1 m c) (A2 m c) (A3 m c) (A4 m c) (A5 m c) (A6 m c) (A7 m c) (A8 m c) (A9 m c) (A10 m c) (A11 m c) (A12 m c) (A13 m c) (A14 m c) (A15 m c) (A16 m c) hw hn r l).symm)
    rw [← hnet]
    rfl
  funext i
  exact ix_ind2 (n0 := 8192) (n1 := 128) (P := fun i => W9 m ρ c (Proc.devRef .tc main_v0) i = Cert.ReferenceIdeal.Read.val_main_v128 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) i) key i

end Cert.KernelIdeal.Whole

end
-- ==== Proof.FpsMath.lean ====
/- Farthest point sampling of one cloud: the distances to the nearest selected row, and the next row, the first of the farthest. -/
module

public import Idealize.ShloMosaic.PureOps.Ideal.Laws

@[expose] public section

set_option maxRecDepth 16384

noncomputable section

namespace Cert.Fps

open Idealize.ShloMosaic

section
variable {n : ℕ}

/-- The places where `f` is greatest. -/
def tops (f : Fin n → EReal) : Finset (Fin n) := Finset.univ.filter fun p => ∀ q, f q ≤ f p

theorem tops_nonempty [NeZero n] (f : Fin n → EReal) : (tops f).Nonempty := by
  obtain ⟨p, -, hp⟩ := Finset.exists_max_image Finset.univ f ⟨0, Finset.mem_univ _⟩
  exact ⟨p, Finset.mem_filter.mpr ⟨Finset.mem_univ _, fun q => hp q (Finset.mem_univ _)⟩⟩

/-- The first place where `f` is greatest. -/
def first [NeZero n] (f : Fin n → EReal) : Fin n := (tops f).min' (tops_nonempty f)

theorem first_top [NeZero n] (f : Fin n → EReal) (q : Fin n) : f q ≤ f (first f) :=
  (Finset.mem_filter.mp ((tops f).min'_mem (tops_nonempty f))).2 q

theorem first_le [NeZero n] (f : Fin n → EReal) (p : Fin n) (h : ∀ q, f q ≤ f p) : first f ≤ p :=
  (tops f).min'_le p (Finset.mem_filter.mpr ⟨Finset.mem_univ _, h⟩)

theorem first_le_of_eq [NeZero n] (f : Fin n → EReal) (p : Fin n) (h : f p = f (first f)) : first f ≤ p :=
  first_le f p fun q => (first_top f q).trans h.ge

end

attribute [irreducible] first

/-- The squared distance of row `p` from row `s`. -/
def dist (P : Fin 2048 → Fin 3 → EReal) (s p : Fin 2048) : EReal := ∑ a, (P p a - P s a) * (P p a - P s a)

/-- After `k` further selections: every row's distance to the nearest selected row, and the row selected last. -/
def state (P : Fin 2048 → Fin 3 → EReal) : ℕ → (Fin 2048 → EReal) × Fin 2048
  | 0 => (dist P 0, 0)
  | k + 1 => (fun p => min ((state P k).1 p) (dist P (first (state P k).1) p), first (state P k).1)

/-- The distances before selection `k + 1`, and the row of selection `k`. -/
def mind (P : Fin 2048 → Fin 3 → EReal) (k : ℕ) : Fin 2048 → EReal := (state P k).1
def sel (P : Fin 2048 → Fin 3 → EReal) (k : ℕ) : Fin 2048 := (state P k).2

theorem mind_zero (P : Fin 2048 → Fin 3 → EReal) : mind P 0 = dist P 0 := by unfold mind; rw [state]
theorem sel_zero (P : Fin 2048 → Fin 3 → EReal) : sel P 0 = 0 := by unfold sel; rw [state]
theorem sel_succ (P : Fin 2048 → Fin 3 → EReal) (k : ℕ) : sel P (k + 1) = first (mind P k) := by unfold sel mind; rw [state]
theorem mind_succ (P : Fin 2048 → Fin 3 → EReal) (k : ℕ) : mind P (k + 1) = fun p => min (mind P k p) (dist P (sel P (k + 1)) p) := by unfold mind sel; rw [state]

/-- A word that is a row number. -/
theorem toInt_row (p : Fin 2048) : (BitVec.ofNat 32 p.val).toInt = p.val := by
  have := p.isLt
  rw [BitVec.toInt_eq_toNat_of_lt (by rw [BitVec.toNat_ofNat, Nat.mod_eq_of_lt (by omega)]; omega), BitVec.toNat_ofNat, Nat.mod_eq_of_lt (by omega)]

theorem toNat_row (p : Fin 2048) : (BitVec.ofNat 32 p.val).toNat = p.val := by
  have := p.isLt
  rw [BitVec.toNat_ofNat, Nat.mod_eq_of_lt (by omega)]

theorem minsi_toInt (x y : BitVec 32) : (IntOp.minsi x y).toInt = min x.toInt y.toInt := by
  unfold IntOp.minsi
  rw [BitVec.slt_eq_decide]
  by_cases h : x.toInt < y.toInt
  · simp [h, le_of_lt h]
  · simp [h, le_of_not_gt h]

/-- A fold of the signed minimum, read as an integer. -/
theorem fold_minsi {ι : Type} [DecidableEq ι] (b : BitVec 32) (g : ι → BitVec 32) (s : Finset ι) :
    (s.fold IntOp.minsi b g).toInt = s.fold min b.toInt (fun i => (g i).toInt) := by
  induction s using Finset.induction_on with
  | empty => rfl
  | insert a s ha ih => rw [Finset.fold_insert ha, Finset.fold_insert ha, minsi_toInt, ih]

/-- The smallest number of a row where `f` is `f (first f)`, the other rows counting 2048. -/
theorem first_word (f : Fin 2048 → EReal) (M : EReal) (hM : M = f (first f)) :
    Finset.fold IntOp.minsi 2147483647#32 (fun p : Fin 2048 => if f p = M then BitVec.ofNat 32 p.val else 2048#32) Finset.univ
      = BitVec.ofNat 32 (first f).val := by
  apply BitVec.eq_of_toInt_eq
  rw [fold_minsi, toInt_row]
  subst hM
  apply le_antisymm
  · refine (Finset.fold_min_le _).mpr (Or.inr ⟨first f, Finset.mem_univ _, ?_⟩)
    rw [if_pos rfl, toInt_row]
  · refine (Finset.le_fold_min _).mpr ⟨by have := (first f).isLt; rw [show (2147483647#32 : BitVec 32).toInt = 2147483647 from rfl]; omega, fun p _ => ?_⟩
    by_cases h : f p = f (first f)
    · rw [if_pos h, toInt_row]; exact_mod_cast first_le_of_eq f p h
    · rw [if_neg h]; have := (first f).isLt; rw [show (2048#32 : BitVec 32).toInt = 2048 from rfl]; omega

/-- The greatest value is the value at the first place where it is taken. -/
theorem fold_max_first (f : Fin 2048 → EReal) : Finset.fold max ⊥ f Finset.univ = f (first f) := by
  apply le_antisymm
  · exact (Finset.fold_max_le _).mpr ⟨bot_le, fun p _ => first_top f p⟩
  · exact (Finset.le_fold_max _).mpr (Or.inr ⟨first f, Finset.mem_univ _, le_refl _⟩)

end Cert.Fps

end
-- ==== Proof.SelPay.lean ====
/- What the selection call's loop computes, as extended-real formulas. -/
module

public import proofs.«01_k».proof.Proof.Gen.SelIdeal.Skeleton
public import proofs.«01_k».proof.Proof.Gen.SelIdeal
public import proofs.«01_k».proof.Proof.FpsMath
public import Idealize.ShloMosaic.Lib.Pointwise
public import Idealize.ShloMosaic.PureOps.Ideal.Laws

@[expose] public section

set_option maxRecDepth 16384

noncomputable section

namespace Cert.SelIdeal.Whole

open Cert.SelIdeal Cert.SelIdeal.Gen
open Idealize.ShloMosaic Cert.Fps

theorem bitsBot : (Ideal.ofBits .f32 0xFF800000#32 : EReal) = ⊥ := by simp [Ideal.ofBits, Ideal.ieee]

/-- The word the selection loop picks from the running distances. -/
abbrev word (acc : FVec Ideal S1x2048 .f32) : BitVec 32 := extractAt ![0, 0, 0] (k0_pay12 acc) inpos_S1x1x1_p0_0_0

theorem word_eq (acc : FVec Ideal S1x2048 .f32) : word acc = BitVec.ofNat 32 (first (fun p => acc (ix2 0 p))).val := by
  pointwise [word, k0_pay12]
  rw [bitsBot]
  have h1 : Finset.fold max (⊥ : EReal) (fun x : Fin 1 × Fin 2048 => acc (ix2 0 x.2)) Finset.univ = Finset.fold max ⊥ (fun p : Fin 2048 => acc (ix2 0 p)) Finset.univ := by
    rw [← Finset.univ_map_equiv_to_embedding (Equiv.uniqueProd (Fin 2048) (Fin 1)).symm, Finset.fold_map]; rfl
  rw [h1, fold_max_first (fun p => acc (ix2 0 p)), ← first_word (fun p => acc (ix2 0 p)) _ rfl,
    ← Finset.univ_map_equiv_to_embedding (Equiv.uniqueProd (Fin 2048) (Fin 1)).symm, Finset.fold_map]
  rfl

theorem pay7 (v0 : FVec Ideal S1x2048x3 .f32) (p : Fin 2048) (a : Fin 3) : k0_pay7 (F := Ideal) v0 (ix2 p a) = v0 (ix3 0 p a) := by
  pointwise [k0_pay7]

theorem pay9 (v0 : FVec Ideal S1x2048x3 .f32) (b : Fin 1) (p : Fin 2048) :
    k0_pay9 (F := Ideal) v0 (ix2 b p) = dist (fun p a => v0 (ix3 0 p a)) 0 p := by
  pointwise [k0_pay9, k0_pay8, k0_pay7]
  rfl

theorem pay16 (v0 : FVec Ideal S1x2048x3 .f32) (acc : FVec Ideal S1x2048 .f32) (r : FVec Ideal S1x1x3 .f32) (b : Fin 1) (p : Fin 2048) :
    k0_pay16 (F := Ideal) v0 acc r (ix2 b p) = min (acc (ix2 b p)) (∑ a, (v0 (ix3 0 p a) - r (ix3 0 0 a)) * (v0 (ix3 0 p a) - r (ix3 0 0 a))) := by
  pointwise [k0_pay16, k0_pay13, k0_pay7]

theorem pay10 (v0 : FVec Ideal S1x2048x3 .f32) (b c : Fin 1) (a : Fin 3) : k0_pay10 (F := Ideal) v0 (ix3 b c a) = v0 (ix3 0 0 a) := by
  pointwise [k0_pay10, k0_pay8, k0_pay7]

theorem pay14 (r : FVec Ideal S1x1x3 .f32) (b c : Fin 1) (a : Fin 3) : k0_pay14 (F := Ideal) r (ix3 b c a) = r (ix3 0 0 a) := by
  obtain rfl : b = 0 := Subsingleton.elim _ _
  obtain rfl : c = 0 := Subsingleton.elim _ _
  pointwise [k0_pay14, k0_pay13]

theorem pay15 (acc : FVec Ideal S1x2048 .f32) (i : S1x1x1.Idx) : k0_pay15 (F := Ideal) acc i = word acc := by
  unfold k0_pay15 word shapeCast broadcast; rfl

theorem pay11 (i : S1x1x1.Idx) : k0_pay11 i = 0#32 := by unfold k0_pay11 shapeCast broadcast; rfl

end Cert.SelIdeal.Whole

end
-- ==== Proof.SelRec.lean ====
/- The selection call's loop as a recursion: what it carries and what it writes, trip by trip. -/
module

public import proofs.«01_k».proof.Proof.SelPay
public import proofs.«01_k».proof.Proof.Gen.SelIdeal.Launch
public import proofs.«01_k».proof.Proof.Gen.SelIdeal.Loops
public import proofs.«01_k».proof.Proof.Gen.SelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.SelIdeal.Whole

open Cert.SelIdeal Cert.SelIdeal.Gen Cert.Fps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The row the word of `acc` names. -/
def rowOf (x0 : FVec Ideal S1x2048x3 .f32) (acc : FVec Ideal S1x2048 .f32) : FVec Ideal S1x1x3 .f32 :=
  fun i => x0 (ix3 0 (first (fun p => acc (ix2 0 p))) (i 2))

theorem word_toNat (acc : FVec Ideal S1x2048 .f32) : (word acc).toNat = (first (fun p => acc (ix2 0 p))).val := by
  rw [word_eq, toNat_row]

theorem word_off (acc : FVec Ideal S1x2048 .f32) : k0_off1 (word acc) = ![0, (first (fun p => acc (ix2 0 p))).val, 0] := by
  have hlt := (first (fun p => acc (ix2 0 p))).isLt
  rw [word_eq]
  have h : Affine.IsInt (BitVec.ofNat 32 (first (fun p => acc (ix2 0 p))).val) ((first (fun p => acc (ix2 0 p))).val : Int) := Affine.ofNat _ (by omega)
  exact Affine.vec_cons (Affine.ofNat 0 (by omega) : Affine.IsInt 0#32 0) (by omega) <| Affine.vec_cons (Affine.indexCast h) (by omega) <| Affine.vec_cons (Affine.ofNat 0 (by omega) : Affine.IsInt 0#32 0) (by omega) <| Affine.vec_nil

theorem word_chk (acc : FVec Ideal S1x2048 .f32) : k0_chk1 (word acc) := by
  have h := (first (fun p => acc (ix2 0 p))).isLt
  unfold k0_chk1
  rw [word_off]
  generalize (first (fun p => acc (ix2 0 p))).val = n at h
  refine Fin.cases ?_ (Fin.cases ?_ (Fin.cases ?_ (fun a => a.elim0)))
  · exact (by decide : (0 : ℕ) + 1 ≤ 1)
  · show n + 1 ≤ 2048; omega
  · exact (by decide : (0 : ℕ) + 3 ≤ 3)

/-- What the loop carries before trip `k`. -/
def accAt (x0 : FVec Ideal S1x2048x3 .f32) : ℕ → FVec Ideal S1x2048 .f32
  | 0 => k0_pay9 (F := Ideal) x0
  | k + 1 => k0_pay16 (F := Ideal) x0 (accAt x0 k) (rowOf x0 (accAt x0 k))

/-- The pieces written into the centres before trip `k`, and into the row numbers. -/
def cens (x0 : FVec Ideal S1x2048x3 .f32) : ℕ → List (View.Piece (Elt Ideal) S1x1024x3 .f32)
  | 0 => []
  | k + 1 => if h : k < k0_t1_loop.trips then
      ⟨Rect.unit (s := S1x1024x3) (k0_off2 ⟨k, h⟩) S1x1x3.size (k0_off2_inb ⟨k, h⟩), k0_pay14 (F := Ideal) (rowOf x0 (accAt x0 k))⟩ :: cens x0 k
    else cens x0 k

def idxs (x0 : FVec Ideal S1x2048x3 .f32) : ℕ → List (View.Piece (Elt Ideal) S1x1024x1 .i32)
  | 0 => []
  | k + 1 => if h : k < k0_t1_loop.trips then
      ⟨Rect.unit (s := S1x1024x1) (k0_off3 ⟨k, h⟩) S1x1x1.size (k0_off3_inb ⟨k, h⟩), k0_pay15 (F := Ideal) (accAt x0 k)⟩ :: idxs x0 k
    else idxs x0 k

theorem cens_succ (x0 : FVec Ideal S1x2048x3 .f32) (k : Fin k0_t1_loop.trips) : cens x0 (k.val + 1) =
    ⟨Rect.unit (s := S1x1024x3) (k0_off2 k) S1x1x3.size (k0_off2_inb k), k0_pay14 (F := Ideal) (rowOf x0 (accAt x0 k.val))⟩ :: cens x0 k.val := by
  rw [cens]; exact dif_pos k.isLt

theorem idxs_succ (x0 : FVec Ideal S1x2048x3 .f32) (k : Fin k0_t1_loop.trips) : idxs x0 (k.val + 1) =
    ⟨Rect.unit (s := S1x1024x1) (k0_off3 k) S1x1x1.size (k0_off3_inb k), k0_pay15 (F := Ideal) (accAt x0 k.val)⟩ :: idxs x0 k.val := by
  rw [idxs]; exact dif_pos k.isLt

theorem row_idx (off : Fin 3 → ℕ) (n : Fin 2048) (h : off = ![0, n.val, 0]) (inb : ∀ a, off a + S1x1x3.size a ≤ S1x2048x3.size a)
    (i : S1x1x3.Idx) : (Rect.unit (s := S1x2048x3) off S1x1x3.size inb).toLoadRect.idx i = (ix3 0 n (i 2) : S1x2048x3.Idx) := by
  subst h
  funext a
  apply Fin.ext
  have h0 : (i 0).val = 0 := by have := (i 0).isLt; exact Nat.lt_one_iff.mp this
  have h1 : (i 1).val = 0 := by have := (i 1).isLt; exact Nat.lt_one_iff.mp this
  revert a
  refine Fin.cases ?_ (Fin.cases ?_ (Fin.cases ?_ (fun a => a.elim0)))
  · show 0 + 1 * (i 0).val = 0; omega
  · show n.val + 1 * (i 1).val = n.val; omega
  · show 0 + 1 * (i 2).val = (i 2).val; omega

theorem row_load (arg1 : Memref sig .tc .vmem S1x2048x3 .f32) (harg1 : arg1.IsWhole) (x0 : FVec Ideal S1x2048x3 .f32) (acc : FVec Ideal S1x2048 .f32)
    (inb : ∀ a, (k0_off1 (word acc)) a + S1x1x3.size a ≤ S1x2048x3.size a) :
    View.readAt (Elt Ideal) arg1.view (Rect.unit (s := S1x2048x3) (k0_off1 (word acc)) S1x1x3.size inb).toLoadRect (harg1.unread (Val := Elt Ideal) x0) = rowOf x0 acc := by
  funext i
  rw [Memref.IsWhole.readAt_unread]
  unfold rowOf
  exact congrArg x0 (row_idx _ _ (word_off acc) inb i)

end Cert.SelIdeal.Whole

end
-- ==== Proof.SelLoop.lean ====
/- The selection call's loop: what it carries and what it writes, trip by trip. -/
module

public import proofs.«01_k».proof.Proof.SelRec
public import proofs.«01_k».proof.Proof.Gen.SelIdeal.Launch
public import proofs.«01_k».proof.Proof.Gen.SelIdeal.Loops
public import proofs.«01_k».proof.Proof.Gen.SelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.SelIdeal.Whole

open Cert.SelIdeal Cert.SelIdeal.Gen Cert.Fps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 1000000 in
theorem trip1 (c : Dev nD) (i : grid0.Coords) (arg1 : Memref sig .tc .vmem S1x2048x3 .f32) (harg1 : arg1.IsWhole) (arg2 : Memref sig .tc .vmem S1x1024x1 .i32) (harg2 : arg2.IsWhole) (arg3 : Memref sig .tc .vmem S1x1024x3 .f32) (harg3 : arg3.IsWhole) (arg4 : Memref sig .tc .vmem S1x64x1024 .i32) (harg4 : arg4.IsWhole) (arg5 : Memref sig .tc .vmem S1x64x1024 .f32) (harg5 : arg5.IsWhole)
    (v0 : Vec Ideal S1x2048x3 .f32) (k : Fin k0_t1_loop.trips) (acc : FVec Ideal S1x2048 .f32) (f2 : BufTy.Contents (Elt Ideal) arg2.view.ty) (f3 : BufTy.Contents (Elt Ideal) arg3.view.ty) (E : Set ℕ) :
    iprop((arg1.view.loc (c : Thread nD τ) ↦[arg1.view.set]{fullShare} harg1.unread (Val := Elt Ideal) v0) ∗ (arg2.view.loc (c : Thread nD τ) ↦[arg2.view.set]{fullShare} f2) ∗ (arg3.view.loc (c : Thread nD τ) ↦[arg3.view.set]{fullShare} f3) : sProp 𝕄)
      ⊢ wp frame (wpE (defs₀ (F := Ideal)) Variants.none (c : Thread nD τ) none) E (k0_t1_body (F := Ideal) i arg1 harg1 arg2 harg2 arg3 harg3 arg4 harg4 arg5 harg5 v0 k acc)
          (fun yld => iprop(⌜yld = k0_pay16 (F := Ideal) v0 acc (rowOf v0 acc)⌝
            ∗ (arg1.view.loc (c : Thread nD τ) ↦[arg1.view.set]{fullShare} harg1.unread (Val := Elt Ideal) v0)
            ∗ (arg2.view.loc (c : Thread nD τ) ↦[arg2.view.set]{fullShare} arg2.view.writes (Elt Ideal) f2 [⟨Rect.unit (s := S1x1024x1) (k0_off3 k) S1x1x1.size (k0_off3_inb k), k0_pay15 (F := Ideal) acc⟩])
            ∗ (arg3.view.loc (c : Thread nD τ) ↦[arg3.view.set]{fullShare} arg3.view.writes (Elt Ideal) f3 [⟨Rect.unit (s := S1x1024x3) (k0_off2 k) S1x1x3.size (k0_off2_inb k), k0_pay14 (F := Ideal) (rowOf v0 acc)⟩]))) := by
  have hk : k.val < 1023 := Nat.lt_of_lt_of_le k.isLt k0_t1_abs.2.1
  unfold k0_t1_body
  iintro ⟨H1, H2, H3⟩
  sl_exec (disch := first | exact word_chk _)
  sl_step
  rw [← row_load arg1 harg1 v0 acc (k0_off1_inb _ (word_chk acc))]
  isplitr
  · ipureintro; rfl
  isplitl [H1]; · iexact H1
  isplitl [H2]; · iexact H2
  iexact H3

/-- The selection loop by its invariant: the cloud as it is, the centres and the row numbers with the pieces of the trips before. -/
@[reducible] def selInv (c : Dev nD) (arg1 : Memref sig .tc .vmem S1x2048x3 .f32) (harg1 : arg1.IsWhole) (arg2 : Memref sig .tc .vmem S1x1024x1 .i32) (arg3 : Memref sig .tc .vmem S1x1024x3 .f32)
    (v0 : Vec Ideal S1x2048x3 .f32) (G2 : BufTy.Contents (Elt Ideal) arg2.view.ty) (G3 : BufTy.Contents (Elt Ideal) arg3.view.ty) (k : ℕ) (acc : FVec Ideal S1x2048 .f32) : sProp 𝕄 :=
  iprop((arg1.view.loc (c : Thread nD τ) ↦[arg1.view.set]{fullShare} harg1.unread (Val := Elt Ideal) v0)
    ∗ (∃ f, (arg2.view.loc (c : Thread nD τ) ↦[arg2.view.set]{fullShare} f) ∗ ⌜f = arg2.view.writes (Elt Ideal) G2 (idxs v0 k)⌝)
    ∗ (∃ f, (arg3.view.loc (c : Thread nD τ) ↦[arg3.view.set]{fullShare} f) ∗ ⌜f = arg3.view.writes (Elt Ideal) G3 (cens v0 k)⌝)
    ∗ ⌜acc = accAt v0 k⌝)

set_option warn.classDefReducibility false in
def selLoop (c : Dev nD) (E : Set ℕ) (i : grid0.Coords) (arg1 : Memref sig .tc .vmem S1x2048x3 .f32) (harg1 : arg1.IsWhole) (arg2 : Memref sig .tc .vmem S1x1024x1 .i32) (harg2 : arg2.IsWhole) (arg3 : Memref sig .tc .vmem S1x1024x3 .f32) (harg3 : arg3.IsWhole) (arg4 : Memref sig .tc .vmem S1x64x1024 .i32) (harg4 : arg4.IsWhole) (arg5 : Memref sig .tc .vmem S1x64x1024 .f32) (harg5 : arg5.IsWhole)
    (v0 : Vec Ideal S1x2048x3 .f32) (G2 : BufTy.Contents (Elt Ideal) arg2.view.ty) (G3 : BufTy.Contents (Elt Ideal) arg3.view.ty) (init : FVec Ideal S1x2048 .f32) :
    LoopInvTy_k0_t1 (F := Ideal) Unit ℕ (UR sig nD τ) ℕ Variants.none c none E i arg1 harg1 arg2 harg2 arg3 harg3 arg4 harg4 arg5 harg5 v0 init where
  inv := selInv c arg1 harg1 arg2 arg3 v0 G2 G3
  step k acc := by
    iintro ⟨H1, ⟨%f2, H2, %h2⟩, ⟨%f3, H3, %h3⟩, %h_acc⟩
    subst h_acc
    iapply (wp_wand_r Idealize.ShloMosaic.frame (wpE (defs₀ (F := Ideal)) Variants.none (c : Thread nD τ) none) E)
    isplitl [H1 H2 H3]
    · iapply (trip1 c i arg1 harg1 arg2 harg2 arg3 harg3 arg4 harg4 arg5 harg5 v0 k (accAt v0 k.val) f2 f3 E)
      isplitl [H1]; · iexact H1
      isplitl [H2]; · iexact H2
      iexact H3
    · iintro %yld ⟨%h_res, H1, H2, H3⟩
      unfold selInv
      rw [idxs_succ, cens_succ]
      isplitl [H1]; · iexact H1
      isplitl [H2]
      · iexists _; isplitl [H2]; · iexact H2
        ipureintro; rw [h2, ← View.writes_append]; rfl
      isplitl [H3]
      · iexists _; isplitl [H3]; · iexact H3
        ipureintro; rw [h3, ← View.writes_append]; rfl
      ipureintro; rw [h_res, accAt]

theorem whole_load (arg1 : Memref sig .tc .vmem S1x2048x3 .f32) (harg1 : arg1.IsWhole) (x0 : FVec Ideal S1x2048x3 .f32) (inb) :
    View.readAt (Elt Ideal) arg1.view (Rect.unit (s := S1x2048x3) ![0, 0, 0] S1x2048x3.size inb).toLoadRect (harg1.unread (Val := Elt Ideal) x0) = x0 := by
  funext i
  rw [Memref.IsWhole.readAt_unread]
  refine congrArg x0 (funext fun a => Fin.ext ?_)
  revert a
  refine Fin.cases ?_ (Fin.cases ?_ (Fin.cases ?_ (fun a => a.elim0)))
  · show 0 + 1 * (i 0).val = (i 0).val; omega
  · show 0 + 1 * (i 1).val = (i 1).val; omega
  · show 0 + 1 * (i 2).val = (i 2).val; omega

end Cert.SelIdeal.Whole

end
-- ==== Proof.SelRead.lean ====
/- What the selection loop leaves in the row numbers and the centres, whatever they held before. -/
module

public import proofs.«01_k».proof.Proof.SelLoop
public import proofs.«01_k».proof.Proof.Gen.SelIdeal.Launch
public import proofs.«01_k».proof.Proof.Gen.SelIdeal.Loops
public import proofs.«01_k».proof.Proof.Gen.SelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.SelIdeal.Whole

open Cert.SelIdeal Cert.SelIdeal.Gen Cert.Fps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The rows of a cloud's block. -/
abbrev rows (x0 : FVec Ideal S1x2048x3 .f32) : Fin 2048 → Fin 3 → EReal := fun p a => x0 (ix3 0 p a)

theorem accAt_eq (x0 : FVec Ideal S1x2048x3 .f32) (k : ℕ) (p : Fin 2048) : accAt x0 k (ix2 0 p) = mind (rows x0) k p := by
  induction k generalizing p with
  | zero => rw [accAt, pay9, mind_zero]
  | succ k ih =>
    rw [accAt, pay16, mind_succ, ih, sel_succ]
    unfold rowOf
    simp only [ih]
    rfl

theorem word_sel (x0 : FVec Ideal S1x2048x3 .f32) (k : ℕ) : word (accAt x0 k) = BitVec.ofNat 32 (sel (rows x0) (k + 1)).val := by
  rw [word_eq, sel_succ]
  simp only [accAt_eq]

theorem rowOf_sel (x0 : FVec Ideal S1x2048x3 .f32) (k : ℕ) (b c : Fin 1) (a : Fin 3) : rowOf x0 (accAt x0 k) (ix3 b c a) = rows x0 (sel (rows x0) (k + 1)) a := by
  unfold rowOf
  rw [sel_succ]
  simp only [accAt_eq]
  rfl

theorem trips1 : k0_t1_loop.trips = 1023 := by decide +kernel

/-- The row numbers selected in a cloud, and the centres. -/
def idxOf (x0 : FVec Ideal S1x2048x3 .f32) : Vec Ideal S1x1024x1 .i32 := fun y => BitVec.ofNat 32 (sel (rows x0) (y 1).val).val
def cenOf (x0 : FVec Ideal S1x2048x3 .f32) : Vec Ideal S1x1024x3 .f32 := fun y => rows x0 (sel (rows x0) (y 1).val) (y 2)

/-- All the pieces, the one written before the loop the oldest. -/
abbrev idxL (x0 : FVec Ideal S1x2048x3 .f32) (k : ℕ) : List (View.Piece (Elt Ideal) S1x1024x1 .i32) :=
  idxs x0 k ++ [⟨Rect.unit (s := S1x1024x1) ![0, 0, 0] S1x1x1.size inb_S1x1024x1_S1x1x1_0_0_0, k0_pay11⟩]
abbrev cenL (x0 : FVec Ideal S1x2048x3 .f32) (k : ℕ) : List (View.Piece (Elt Ideal) S1x1024x3 .f32) :=
  cens x0 k ++ [⟨Rect.unit (s := S1x1024x3) ![0, 0, 0] S1x1x3.size inb_S1x1024x3_S1x1x3_0_0_0, k0_pay10 (F := Ideal) x0⟩]

theorem idxL_succ (x0 : FVec Ideal S1x2048x3 .f32) (k : Fin k0_t1_loop.trips) : idxL x0 (k.val + 1) =
    ⟨Rect.unit (s := S1x1024x1) (k0_off3 k) S1x1x1.size (k0_off3_inb k), k0_pay15 (F := Ideal) (accAt x0 k.val)⟩ :: idxL x0 k.val := by
  unfold idxL; rw [idxs_succ]; rfl

theorem cenL_succ (x0 : FVec Ideal S1x2048x3 .f32) (k : Fin k0_t1_loop.trips) : cenL x0 (k.val + 1) =
    ⟨Rect.unit (s := S1x1024x3) (k0_off2 k) S1x1x3.size (k0_off2_inb k), k0_pay14 (F := Ideal) (rowOf x0 (accAt x0 k.val))⟩ :: cenL x0 k.val := by
  unfold cenL; rw [cens_succ]; rfl

theorem idxL_read (arg : Memref sig .tc .vmem S1x1024x1 .i32) (x0 : FVec Ideal S1x2048x3 .f32) (f : BufTy.Contents (Elt Ideal) arg.view.ty) (k : ℕ) (hk : k ≤ 1023)
    (j : Fin 1024) (hj : j.val ≤ k) : arg.view.read (Elt Ideal) (arg.view.writes (Elt Ideal) f (idxL x0 k)) (ix3 0 j 0) = BitVec.ofNat 32 (sel (rows x0) j.val).val := by
  induction k with
  | zero =>
    refine (View.read_writes_cons_unit_of_mem arg.view f _ _ _ (ix3 0 j 0) (ix3 0 0 0 : S1x1x1.Idx) rfl ?_).trans ?_
    · refine Fin.cases rfl (Fin.cases ?_ (Fin.cases rfl (fun a => a.elim0)))
      show j.val = 0 + 0; omega
    · rw [pay11, show j.val = 0 by omega, sel_zero]; rfl
  | succ k ih =>
    have hlt : k < k0_t1_loop.trips := by rw [trips1]; omega
    have e := idxL_succ x0 ⟨k, hlt⟩
    dsimp only at e
    rw [e]
    by_cases h : j.val = k + 1
    · refine (View.read_writes_cons_unit_of_mem arg.view f _ _ _ (ix3 0 j 0) (ix3 0 0 0 : S1x1x1.Idx) (k0_off3_eq _) ?_).trans ?_
      · refine Fin.cases rfl (Fin.cases ?_ (Fin.cases rfl (fun a => a.elim0)))
        show j.val = (k + 1) + 0; omega
      · rw [pay15, word_sel, h]
    · refine (View.read_writes_cons_unit_of_not_mem arg.view f _ _ _ (ix3 0 j 0) (k0_off3_eq _) 1 (Or.inl ?_)).trans (ih (by omega) (by omega))
      show j.val < k + 1; omega

theorem cenL_read (arg : Memref sig .tc .vmem S1x1024x3 .f32) (x0 : FVec Ideal S1x2048x3 .f32) (f : BufTy.Contents (Elt Ideal) arg.view.ty) (k : ℕ) (hk : k ≤ 1023)
    (j : Fin 1024) (a : Fin 3) (hj : j.val ≤ k) : arg.view.read (Elt Ideal) (arg.view.writes (Elt Ideal) f (cenL x0 k)) (ix3 0 j a) = rows x0 (sel (rows x0) j.val) a := by
  induction k with
  | zero =>
    refine (View.read_writes_cons_unit_of_mem arg.view f _ _ _ (ix3 0 j a) (ix3 0 0 a : S1x1x3.Idx) rfl ?_).trans ?_
    · refine Fin.cases rfl (Fin.cases ?_ (Fin.cases ?_ (fun a => a.elim0)))
      · show j.val = 0 + 0; omega
      · show a.val = 0 + a.val; omega
    · rw [pay10, show j.val = 0 by omega, sel_zero]
  | succ k ih =>
    have hlt : k < k0_t1_loop.trips := by rw [trips1]; omega
    have e := cenL_succ x0 ⟨k, hlt⟩
    dsimp only at e
    rw [e]
    by_cases h : j.val = k + 1
    · refine (View.read_writes_cons_unit_of_mem arg.view f _ _ _ (ix3 0 j a) (ix3 0 0 a : S1x1x3.Idx) (k0_off2_eq _) ?_).trans ?_
      · refine Fin.cases rfl (Fin.cases ?_ (Fin.cases ?_ (fun a => a.elim0)))
        · show j.val = (k + 1) + 0; omega
        · show a.val = 0 + a.val; omega
      · rw [pay14, rowOf_sel, h]
    · refine (View.read_writes_cons_unit_of_not_mem arg.view f _ _ _ (ix3 0 j a) (k0_off2_eq _) 1 (Or.inl ?_)).trans (ih (by omega) (by omega))
      show j.val < k + 1; omega

theorem idx_read (arg : Memref sig .tc .vmem S1x1024x1 .i32) (x0 : FVec Ideal S1x2048x3 .f32) (f : BufTy.Contents (Elt Ideal) arg.view.ty) :
    arg.view.read (Elt Ideal) (arg.view.writes (Elt Ideal) f (idxL x0 k0_t1_loop.trips)) = idxOf x0 := by
  rw [trips1]
  funext y
  have e : y = ix3 0 (y 1) 0 := by
    funext a; revert a
    refine Fin.cases (Subsingleton.elim (α := Fin 1) _ _) (Fin.cases rfl (Fin.cases (Subsingleton.elim (α := Fin 1) _ _) (fun a => a.elim0)))
  have hlt : (y 1).val < 1024 := (y 1).isLt
  rw [e]
  exact idxL_read arg x0 f 1023 (le_refl _) (y 1) (by omega)

theorem cen_read (arg : Memref sig .tc .vmem S1x1024x3 .f32) (x0 : FVec Ideal S1x2048x3 .f32) (f : BufTy.Contents (Elt Ideal) arg.view.ty) :
    arg.view.read (Elt Ideal) (arg.view.writes (Elt Ideal) f (cenL x0 k0_t1_loop.trips)) = cenOf x0 := by
  rw [trips1]
  funext y
  have e : y = ix3 0 (y 1) (y 2) := by
    funext a; revert a
    refine Fin.cases (Subsingleton.elim (α := Fin 1) _ _) (Fin.cases rfl (Fin.cases rfl (fun a => a.elim0)))
  have hlt : (y 1).val < 1024 := (y 1).isLt
  rw [e]
  exact cenL_read arg x0 f 1023 (le_refl _) (y 1) (y 2) (by omega)

end Cert.SelIdeal.Whole

end
-- ==== Proof.SelRun.lean ====
/- The selection call's body on any staging buffers. -/
module

public import proofs.«01_k».proof.Proof.SelRead
public import proofs.«01_k».proof.Proof.Gen.SelIdeal.Launch
public import proofs.«01_k».proof.Proof.Gen.SelIdeal.Loops
public import proofs.«01_k».proof.Proof.Gen.SelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.SelIdeal.Whole

open Cert.SelIdeal Cert.SelIdeal.Gen Cert.Fps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 1000000 in
/-- The body: the selected rows and their centres, and the pieces it writes into the two other outputs. -/
noncomputable def selRun (c : Dev nD) (i : grid0.Coords) (arg1 : Memref sig .tc .vmem S1x2048x3 .f32) (harg1 : arg1.IsWhole) (arg2 : Memref sig .tc .vmem S1x1024x1 .i32) (harg2 : arg2.IsWhole) (arg3 : Memref sig .tc .vmem S1x1024x3 .f32) (harg3 : arg3.IsWhole) (arg4 : Memref sig .tc .vmem S1x64x1024 .i32) (harg4 : arg4.IsWhole) (arg5 : Memref sig .tc .vmem S1x64x1024 .f32) (harg5 : arg5.IsWhole)
    (x0 : Vec Ideal S1x2048x3 .f32) :
    Σ' (L3 : List (View.Piece (Elt Ideal) S1x64x1024 .i32)), { L4 : List (View.Piece (Elt Ideal) S1x64x1024 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare (idxOf x0) ∗ owns (c : Thread nD τ) arg3 fullShare (cenOf x0) ∗ (∃ f, arg4.view.loc (c : Thread nD τ) ↦[arg4.view.set]{fullShare} arg4.view.writes (Elt Ideal) f L3) ∗ (∃ f, arg5.view.loc (c : Thread nD τ) ↦[arg5.view.set]{fullShare} arg5.view.writes (Elt Ideal) f L4)) -∗ K ⟨⟩))
          ⊢ wp frame (wpE (defs₀ (F := Ideal)) Variants.none c none) E (cc0__select_kernel i arg1 harg1 arg2 harg2 arg3 harg3 arg4 harg4 arg5 harg5) K } := by
  refine ⟨?_, ?_, fun E K => ?run⟩
  case run =>
    simp only [cc0__select_kernel_eq_skeleton]; unfold cc0__select_kernel_skel
    simp only [k0_part1_eq_skeleton]
    unfold owns
    iintro ⟨⟨%f0, %hf0, H0⟩, ⟨%d1, %f1, -, H1⟩, ⟨%d2, %f2, -, H2⟩, ⟨%d3, %f3, -, H3⟩, ⟨%d4, %f4, -, H4⟩, Hk⟩
    obtain rfl := harg1.eq_unread hf0
    sl_exec
    rw [whole_load]
    let L := selLoop c E i arg1 harg1 arg2 harg2 arg3 harg3 arg4 harg4 arg5 harg5 x0
      (arg2.view.writes (Elt Ideal) f1 [⟨Rect.unit (s := S1x1024x1) ![0, 0, 0] S1x1x1.size inb_S1x1024x1_S1x1x1_0_0_0, k0_pay11⟩])
      (arg3.view.writes (Elt Ideal) f2 [⟨Rect.unit (s := S1x1024x3) ![0, 0, 0] S1x1x3.size inb_S1x1024x3_S1x1x3_0_0_0, k0_pay10 (F := Ideal) x0⟩])
      (k0_pay9 (F := Ideal) x0)
    sl_exec
    sl_step
    iapply Hk
    isplitl [H0]
    · iexists _; isplitr; · ipureintro; exact harg1.read_unread _
      iexact H0
    isplitl [H1]
    · iexists _; isplitr
      swap; · iexact H1
      ipureintro; exact idx_read arg2 x0 _
    isplitl [H2]
    · iexists _; isplitr
      swap; · iexact H2
      ipureintro; exact cen_read arg3 x0 _
    isplitl [H3]; · iexists _; iexact H3
    iexists _; iexact H4

end Cert.SelIdeal.Whole

end
-- ==== Proof.SelFrame.lean ====
/- The selection call's launch: what every array holds when it ends. -/
module

public import proofs.«01_k».proof.Proof.SelRun
public import proofs.«01_k».proof.Proof.Gen.SelIdeal.Launch
public import proofs.«01_k».proof.Proof.Gen.SelIdeal.Loops
public import proofs.«01_k».proof.Proof.Gen.SelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim

@[expose] public section

set_option maxRecDepth 16384

noncomputable section

namespace Cert.SelIdeal.Whole

open Cert.SelIdeal Cert.SelIdeal.Gen Cert.Fps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

abbrev V0 (c : Dev nD) : Valuation τ sig (Elt Ideal) := StableHlo.after (List.flatten [hostOps0]) (fun b => m (c, b))
abbrev V (c : Dev nD) (b : Ref sig .tc) : Buf (Elt Ideal) ((c : Thread nD τ).loc b) := V0 m c (Proc.devRef .tc b)

theorem hostOps0_fresh : (hostOps0 : List (HloOp τ sig (Elt Ideal))).Forall fun op => op.fresh = ∅ := by
  simp only [List.Forall]; repeat' constructor
theorem hostOps1_fresh : (hostOps1 : List (HloOp τ sig (Elt Ideal))).Forall fun op => op.fresh = ∅ := by
  simp only [List.Forall]; repeat' constructor

set_option maxHeartbeats 800000 in
theorem hmain (𝒱₀ : Variants) : Pipeline.HMainK (Ix := Unit) (Name := ℕ) (U := UR sig nD τ) (Lvl := ℕ) cfgs 0 defs₀ 𝒱₀ m (main (F := Ideal)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt Ideal)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt Ideal)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt Ideal)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg0 (dats : (p : Fin _) → (c : Dev nD) → Dat τ (Elt Ideal) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

theorem before0_0_of {c : Dev nD} (dat : Dat τ (Elt Ideal) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt Ideal) Unit ℕ (UR sig nD τ) ℕ (cfgs p) c)
    (hA : ∀ c w, (dats 0 c).A w = V m c (Pipeline.arrRef spec0 w))
    (h : θ_run defs (onTc (τ := τ) (main (F := Ideal))) (s₀ m ρ) (Pipeline.FramePost cfgs dats 0 (Pipeline.afterTail₀ cfgs dats 0 (V0 m) [hostOps1]))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

abbrev VO0_1 : View sig .tc .vmem S1x1024x1 .i32 := (Memref.whole cc0_stg1_0 : Memref sig .tc .vmem S1x1024x1 .i32).view
abbrev VO0_2 : View sig .tc .vmem S1x1024x3 .f32 := (Memref.whole cc0_stg2_0 : Memref sig .tc .vmem S1x1024x3 .f32).view
abbrev VO0_3 : View sig .tc .vmem S1x64x1024 .i32 := (Memref.whole cc0_stg3_0 : Memref sig .tc .vmem S1x64x1024 .i32).view
abbrev VO0_4 : View sig .tc .vmem S1x64x1024 .f32 := (Memref.whole cc0_stg4_0 : Memref sig .tc .vmem S1x64x1024 .f32).view
abbrev ms0_0 (t : Fin cfg0.N) : Memref sig .tc .vmem S1x2048x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1024 .f32 := win0_4.stage (cfg0.slots t 4)
abbrev hs0_4 (t : Fin cfg0.N) : (ms0_4 t).IsWhole := hstage0_4 ((cfg0.slots t 4).cast nbuf0_4)

/-- What the two outputs the claims do not speak of hold after the body at point `t`. -/
def out3 (c : Dev nD) (t : Fin cfg0.N) : Vec Ideal S1x64x1024 .i32 :=
  VO0_3.read (Elt Ideal) (VO0_3.writes (Elt Ideal) VO0_3.junk (selRun c (grid0.coords t) (ms0_0 t) (hs0_0 t) (ms0_1 t) (hs0_1 t) (ms0_2 t) (hs0_2 t) (ms0_3 t) (hs0_3 t) (ms0_4 t) (hs0_4 t) (iblk m c 0 t)).1)
def out4 (c : Dev nD) (t : Fin cfg0.N) : Vec Ideal S1x64x1024 .f32 :=
  VO0_4.read (Elt Ideal) (VO0_4.writes (Elt Ideal) VO0_4.junk (selRun c (grid0.coords t) (ms0_0 t) (hs0_0 t) (ms0_1 t) (hs0_1 t) (ms0_2 t) (hs0_2 t) (ms0_3 t) (hs0_3 t) (ms0_4 t) (hs0_4 t) (iblk m c 0 t)).2.1)

theorem cover3 (c : Dev nD) (i : grid0.Coords) (arg1 : Memref sig .tc .vmem S1x2048x3 .f32) (harg1 : arg1.IsWhole) (arg2 : Memref sig .tc .vmem S1x1024x1 .i32) (harg2 : arg2.IsWhole) (arg3 : Memref sig .tc .vmem S1x1024x3 .f32) (harg3 : arg3.IsWhole) (arg4 : Memref sig .tc .vmem S1x64x1024 .i32) (harg4 : arg4.IsWhole) (arg5 : Memref sig .tc .vmem S1x64x1024 .f32) (harg5 : arg5.IsWhole)
    (x0 : Vec Ideal S1x2048x3 .f32) (y : S1x64x1024.Idx) :
    ∃ pc ∈ (selRun c i arg1 harg1 arg2 harg2 arg3 harg3 arg4 harg4 arg5 harg5 x0).1, y ∈ pc.1.set :=
  View.cover_of_tiledL (selRun c i arg1 harg1 arg2 harg2 arg3 harg3 arg4 harg4 arg5 harg5 x0).1 S1x1x1024.size (by sl_kernel_rfl) y

theorem cover4 (c : Dev nD) (i : grid0.Coords) (arg1 : Memref sig .tc .vmem S1x2048x3 .f32) (harg1 : arg1.IsWhole) (arg2 : Memref sig .tc .vmem S1x1024x1 .i32) (harg2 : arg2.IsWhole) (arg3 : Memref sig .tc .vmem S1x1024x3 .f32) (harg3 : arg3.IsWhole) (arg4 : Memref sig .tc .vmem S1x64x1024 .i32) (harg4 : arg4.IsWhole) (arg5 : Memref sig .tc .vmem S1x64x1024 .f32) (harg5 : arg5.IsWhole)
    (x0 : Vec Ideal S1x2048x3 .f32) (y : S1x64x1024.Idx) :
    ∃ pc ∈ (selRun c i arg1 harg1 arg2 harg2 arg3 harg3 arg4 harg4 arg5 harg5 x0).2.1, y ∈ pc.1.set :=
  View.cover_of_tiledL (selRun c i arg1 harg1 arg2 harg2 arg3 harg3 arg4 harg4 arg5 harg5 x0).2.1 S1x1x1024.size (by sl_kernel_rfl) y

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => idxOf (iblk m c 0 t)
    | ⟨2, _⟩ => cenOf (iblk m c 0 t)
    | ⟨3, _⟩ => out3 m c t
    | ⟨4, _⟩ => out4 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = idxOf (iblk m c 0 t) := by dsimp only [dats]
theorem after0_2 (c : Dev nD) (t : Fin cfg0.N) : (dats m 0 c).after 2 t = cenOf (iblk m c 0 t) := by dsimp only [dats]
theorem after0_3 (c : Dev nD) (t : Fin cfg0.N) : (dats m 0 c).after 3 t = out3 m c t := by dsimp only [dats]
theorem after0_4 (c : Dev nD) (t : Fin cfg0.N) : (dats m 0 c).after 4 t = out4 m c t := by dsimp only [dats]

theorem before0_0 (c : Dev nD) (t : Fin cfg0.N) (d) : (dats m 0 c).before 0 t d = iblk m c 0 t :=
  before0_0_of m (dats m 0 c) (A_eq m c 0) (after0_0 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold out3 out4
  iintro ⟨HΦ, Ho, ⟨%d0, H0⟩, ⟨%d1, H1⟩, ⟨%d2, H2⟩, ⟨%d3, H3⟩, ⟨%d4, H4⟩⟩
  iapply ((selRun c (grid0.coords t) _ _ _ _ _ _ _ _ _ _ (iblk m c 0 t)).2.2 Set.univ _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover3 c _ _ _ _ _ _ _ _ _ _ _ _)
  unfold owns; iexists _; isplitr
  swap; · iexact H4
  ipureintro; exact View.read_writes_of_cover _ _ _ _ _ (cover4 c _ _ _ _ _ _ _ _ _ _ _ _)

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

-- `θ_run_frame_around`'s implicit arguments are found by unifying its conclusion with this one, which takes unfolding plain
-- definitions in a metavariable's type
set_option backward.isDefEq.respectTransparency.types false in
set_option maxHeartbeats 800000 in
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.SelIdeal.Whole

end
-- ==== Proof.FpsCloud.lean ====
/- The rows of one of the eight clouds. -/
module

public import proofs.«01_k».proof.Proof.FpsMath
public import Idealize.ShloMosaic.Lib.Pointwise

@[expose] public section

noncomputable section

namespace Cert.Fps

open Idealize.ShloMosaic

/-- The rows of cloud `b`. -/
abbrev cloud (x : (⟨3, ![8, 2048, 3]⟩ : Shape).Idx → EReal) (b : Fin 8) : Fin 2048 → Fin 3 → EReal := fun p a => x (ix3 b p a)

/-- Of every cloud the rows selected, by number and by position. -/
def idxAll (x : (⟨3, ![8, 2048, 3]⟩ : Shape).Idx → EReal) : (⟨2, ![8, 1024]⟩ : Shape).Idx → BitVec 32 :=
  fun y => BitVec.ofNat 32 (sel (cloud x (y 0)) (y 1).val).val
def cenAll (x : (⟨3, ![8, 2048, 3]⟩ : Shape).Idx → EReal) : (⟨3, ![8, 1024, 3]⟩ : Shape).Idx → EReal :=
  fun y => cloud x (y 0) (sel (cloud x (y 0)) (y 1).val) (y 2)

theorem ix_ind2 {n0 n1 : Nat} {P : (⟨2, ![n0, n1]⟩ : Shape).Idx → Prop} (h : ∀ a b, P (ix2 a b)) (i) : P i := by
  have e : i = ix2 (i 0) (i 1) := by
    funext q
    match q with
    | ⟨0, _⟩ => rfl
    | ⟨1, _⟩ => rfl
  rw [e]; exact h _ _

theorem ix_ind3 {n0 n1 n2 : Nat} {P : (⟨3, ![n0, n1, n2]⟩ : Shape).Idx → Prop} (h : ∀ a b c, P (ix3 a b c)) (i) : P i := by
  have e : i = ix3 (i 0) (i 1) (i 2) := by
    funext q
    match q with
    | ⟨0, _⟩ => rfl
    | ⟨1, _⟩ => rfl
    | ⟨2, _⟩ => rfl
  rw [e]; exact h _ _ _

end Cert.Fps

end
-- ==== Proof.SelValue.lean ====
/- The selection call's results: of every cloud the rows selected, as numbers and as points. -/
module

public import proofs.«01_k».proof.Proof.SelFrame
public import proofs.«01_k».proof.Proof.FpsCloud
public import Idealize.ShloMosaic.Lib.Pipeline.ValueKit
public import Idealize.ShloMosaic.Lib.Pipeline.Value
public import Idealize.ShloMosaic.Lib.ValueIdx
public import Idealize.ShloMosaic.Lib.Pointwise

@[expose] public section

set_option maxRecDepth 16384

noncomputable section

namespace Cert.SelIdeal.Whole

open Cert.SelIdeal Cert.SelIdeal.Gen
open Idealize.ShloMosaic Idealize.ShloMosaic.TcCoe Idealize.SL.Sem Cert.Fps
open Idealize.ShloMosaic.Pipeline (Dat)

variable (m : (ℓ : Loc nD τ sig) → Buf (Elt Ideal) ℓ) (ρ : Dev nD → PrngReg) (c : Dev nD)

theorem idx0 : ∀ t : Fin cfg0.N, win0_0.index t = ![t.val, 0, 0] ∧ win0_1.index t = ![t.val, 0, 0] ∧ win0_2.index t = ![t.val, 0, 0] :=
  (by decide +kernel : ∀ t : Fin grid0.N, _)

/-- The cloud of a point. -/
def b0 (t : Fin cfg0.N) : Fin 8 := ⟨t.val, t.isLt⟩

/-- The positions, cloud by cloud. -/
abbrev pos : FVec Ideal S8x2048x3 .f32 := shapeCast S8x2048x3 (m ((c : Thread nD τ).loc main_arg0) : S16384x3.Idx → Elt Ideal .f32) shapeCasts_S16384x3_S8x2048x3

theorem V_pos : (V m c main_v0 : S8x2048x3.Idx → Elt Ideal .f32) = pos m c := by
  show StableHlo.after (List.flatten [hostOps0]) _ _ = _
  simp only [List.flatten_cons, List.flatten_nil, List.append_nil]
  after_results <;> rfl

theorem blk0 (t : Fin cfg0.N) (p : Fin 2048) (a : Fin 3) :
    (show FVec Ideal S1x2048x3 .f32 from iblk m c 0 t) (ix3 0 p a) = pos m c (ix3 (b0 t) p a) := by
  rw [← V_pos]
  blk_ext [iblk, idx0 t, b0]

theorem rows_at (t : Fin cfg0.N) : rows (iblk m c 0 t) = cloud (pos m c) (b0 t) := by
  funext p a
  exact blk0 m c t p a

theorem final1 : (dats m 0 c).arrAt 1 cfg0.N
    = (fun y => BitVec.ofNat 32 (sel (cloud (pos m c) (y 0)) (y 1).val).val : IVec S8x1024x1 32) := by
  refine (dats m 0 c).arrAt_eq_of_covers 1 _ (by decide +kernel) fun t _ y => ?_
  revert y
  refine ix_ind3 fun a r l => ?_
  have h0 : (win0_1.blk t).view.emb (ix3 a r l) 0 = b0 t := by
    apply Fin.ext; blk_simp [idx0 t, b0]
  have h1 : (win0_1.blk t).view.emb (ix3 a r l) 1 = r := by
    apply Fin.ext; blk_simp [idx0 t]
  rw [h0, h1]
  show idxOf (iblk m c 0 t) (ix3 a r l) = _
  unfold idxOf
  rw [rows_at]
  rfl

theorem final2 : (dats m 0 c).arrAt 2 cfg0.N
    = (fun y => cloud (pos m c) (y 0) (sel (cloud (pos m c) (y 0)) (y 1).val) (y 2) : FVec Ideal S8x1024x3 .f32) := by
  refine (dats m 0 c).arrAt_eq_of_covers 2 _ (by decide +kernel) fun t _ y => ?_
  revert y
  refine ix_ind3 fun a r l => ?_
  have h0 : (win0_2.blk t).view.emb (ix3 a r l) 0 = b0 t := by
    apply Fin.ext; blk_simp [idx0 t, b0]
  have h1 : (win0_2.blk t).view.emb (ix3 a r l) 1 = r := by
    apply Fin.ext; blk_simp [idx0 t]
  have h2 : (win0_2.blk t).view.emb (ix3 a r l) 2 = l := by
    apply Fin.ext; blk_simp [idx0 t]
  rw [h0, h1, h2]
  show cenOf (iblk m c 0 t) (ix3 a r l) = _
  unfold cenOf
  rw [rows_at]
  rfl

/-! ## The operations after the region -/

variable (U : Valuation τ sig (Elt Ideal))

theorem tail_2 : StableHlo.after (hostOps1 (F := Ideal)) U (Proc.devRef .tc main_v2)
    = shapeCast S8192x3 (U (Proc.devRef .tc main_v1_1) : S8x1024x3.Idx → Elt Ideal .f32) shapeCasts_S8x1024x3_S8192x3 := by
  after_results <;> rfl
theorem tail_5 : StableHlo.after (hostOps1 (F := Ideal)) U (Proc.devRef .tc main_v5)
    = shapeCast S8192 (broadcastInDim S8x1024 ![0] bcast_S8_S8x1024_0 (iotaInDim S8 32 0)) shapeCasts_S8x1024_S8192 := by
  after_results <;> rfl
theorem tail_13 : StableHlo.after (hostOps1 (F := Ideal)) U (Proc.devRef .tc main_v13)
    = shapeCast S8192 (addi (shapeCast S8x1024 (U (Proc.devRef .tc main_v1_0) : S8x1024x1.Idx → Elt Ideal .i32) shapeCasts_S8x1024x1_S8x1024)
        (broadcastInDim S8x1024 ![0, 1] bcast_S8x1_S8x1024_0_1 (broadcastInDim S8x1 ![0] bcast_S8_S8x1_0 (muli (iotaInDim S8 32 0) (broadcastInDim S8 ![] bcast_S_S8 (constantI S_ 32 2048#32))))))
        shapeCasts_S8x1024_S8192 := by
  after_results <;> rfl

/-- The buffers when the region has ended. -/
abbrev U1 : Valuation τ sig (Elt Ideal) := Pipeline.withArrays spec0 c (V0 m c) fun w => (dats m 0 c).arrAt w cfg0.N

theorem U1_1 : U1 m c (Proc.devRef .tc main_v1_0) = (fun y => BitVec.ofNat 32 (sel (cloud (pos m c) (y 0)) (y 1).val).val : IVec S8x1024x1 32) :=
  (Pipeline.withArrays_arr spec0 launch0.win.arr_inj c _ _ 1).trans (final1 m c)
theorem U1_2 : U1 m c (Proc.devRef .tc main_v1_1) = (cenAll (pos m c) : FVec Ideal S8x1024x3 .f32) :=
  (Pipeline.withArrays_arr spec0 launch0.win.arr_inj c _ _ 2).trans (final2 m c)

theorem drop_unit (x : FVec Ideal S8x2048x3 .f32) :
    shapeCast S8x1024 (fun y => BitVec.ofNat 32 (sel (cloud x (y 0)) (y 1).val).val : IVec S8x1024x1 32) shapeCasts_S8x1024x1_S8x1024 = idxAll x := by
  funext y
  revert y
  refine ix_ind2 fun b j => ?_
  refine (shapeCast_apply _ _ (ix2 b j) (ix3 b j 0) ?_).trans rfl
  rw [Shape.rowMajor_val_three, Shape.rowMajor_val_two]
  show (b.val * 1024 + j.val) * 1 + 0 = b.val * 1024 + j.val
  omega

/-- The three results, of the positions. -/
abbrev res2 (x : FVec Ideal S8x2048x3 .f32) : FVec Ideal S8192x3 .f32 := shapeCast S8192x3 (cenAll x : FVec Ideal S8x1024x3 .f32) shapeCasts_S8x1024x3_S8192x3
abbrev res5 : IVec S8192 32 := shapeCast S8192 (broadcastInDim S8x1024 ![0] bcast_S8_S8x1024_0 (iotaInDim S8 32 0)) shapeCasts_S8x1024_S8192
abbrev res13 (x : FVec Ideal S8x2048x3 .f32) : IVec S8192 32 := shapeCast S8192 (addi (idxAll x : IVec S8x1024 32)
  (broadcastInDim S8x1024 ![0, 1] bcast_S8x1_S8x1024_0_1 (broadcastInDim S8x1 ![0] bcast_S8_S8x1_0 (muli (iotaInDim S8 32 0) (broadcastInDim S8 ![] bcast_S_S8 (constantI S_ 32 2048#32))))))
  shapeCasts_S8x1024_S8192

theorem end_eq (b : Ref sig .tc) : Pipeline.afterTail₀ cfgs (dats m) 0 (V0 m) [hostOps1] c b = StableHlo.after (hostOps1 (F := Ideal)) (U1 m c) (Proc.devRef .tc b) := by
  unfold Pipeline.afterTail₀
  rw [show List.flatten [hostOps1 (F := Ideal)] = hostOps1 from by simp only [List.flatten_cons, List.flatten_nil, List.append_nil]]

/-- The run of the selection call with its three results. -/
theorem values : θ_run defs (onTc (τ := τ) (main (F := Ideal))) ⟨m, fun _ => 0, ρ⟩ (fun r => ∀ c : Dev nD,
    r.2.mem ((c.tc : Thread nD τ).loc main_v2) = res2 (pos m c)
    ∧ r.2.mem ((c.tc : Thread nD τ).loc main_v5) = res5
    ∧ r.2.mem ((c.tc : Thread nD τ).loc main_v13) = res13 (pos m c)
    ∧ r.2.mem ((c.tc : Thread nD τ).loc main_arg0) = m ((c.tc : Thread nD τ).loc main_arg0)) := by
  refine (θ_run defs _ _).mono (fun r h c => ⟨?_, ?_, ?_, ?_⟩) (run_main m ρ)
  · refine ((h c).2 main_v2 (Pipeline.mem_restRefs_of main_v2 (by decide) (by decide))).trans ?_
    rw [end_eq, tail_2, U1_2]
  · refine ((h c).2 main_v5 (Pipeline.mem_restRefs_of main_v5 (by decide) (by decide))).trans ?_
    rw [end_eq, tail_5]
  · refine ((h c).2 main_v13 (Pipeline.mem_restRefs_of main_v13 (by decide) (by decide))).trans ?_
    rw [end_eq, tail_13, U1_1, drop_unit]
  · exact ((h c).2 main_arg0 (Pipeline.mem_restRefs_of main_arg0 (by decide) (by decide))).trans (W_main_arg0 m (dats m) c)

end Cert.SelIdeal.Whole

end
-- ==== Proof.FpsRun.lean ====
/- The reference of the selection call as lists of host operations, and its run: the loop makes 1023 trips. -/
module

public import proofs.«01_k».proof.Proof.Gen.FpsIdeal
public import Idealize.ShloMosaic.Lib.StableHlo.Run
public import Idealize.ShloMosaic.Lib.StableHlo.RunLoop
public import Idealize.ShloMosaic.Lib.Scf.ExitTest
public import Idealize.ShloMosaic.Lib.Pipeline.Frame
public import Idealize.ShloMosaic.Lib.IdealHost
public import Idealize.ShloMosaic.PureOps.Ideal.Laws

@[expose] public section

set_option Elab.async false
set_option maxRecDepth 16384

noncomputable section

namespace Cert.FpsIdeal.Whole

open Cert.FpsIdeal Cert.FpsIdeal.Gen Idealize.ShloMosaic Idealize.ShloMosaic.TcCoe Idealize.SL.Sem Idealize.ShloMosaic.StableHlo
open Idealize.SL Idealize.SL.BI.BIBase Idealize.SL.BI.Laws Idealize.SL.ProofMode

variable {F : FTy → Type} [FloatOps F]

/-- The operations ahead of the loop. -/
abbrev preOps : List (HloOp τ sig (Elt F)) :=
  [ reshape main_arg0 main_v0 (rfl : (.f32 : EltTy) = .f32) shapeCasts_S16384x3_S8x2048x3,
    nullary main_c (constantI S_ 32 0#32),
    unary main_c main_v1 (broadcastInDim S8x1024 ![] bcast_S_S8x1024 : (⟨S_, .i32⟩ : BufTy).Contents (Elt F) → (⟨S8x1024, .i32⟩ : BufTy).Contents (Elt F)),
    unary main_v0 main_v2 ((extractStridedSlice S8x1x3 ![0, 0, 0] · slices_S8x2048x3_S8x1x3_0_0_0) : (⟨S8x2048x3, .f32⟩ : BufTy).Contents (Elt F) → (⟨S8x1x3, .f32⟩ : BufTy).Contents (Elt F)),
    unary main_v2 main_v3 (broadcastInDim S8x2048x3 ![0, 1, 2] bcast_S8x1x3_S8x2048x3_0_1_2 : (⟨S8x1x3, .f32⟩ : BufTy).Contents (Elt F) → (⟨S8x2048x3, .f32⟩ : BufTy).Contents (Elt F)),
    binary main_v0 main_v3 main_v4 (subf : (⟨S8x2048x3, .f32⟩ : BufTy).Contents (Elt F) → (⟨S8x2048x3, .f32⟩ : BufTy).Contents (Elt F) → (⟨S8x2048x3, .f32⟩ : BufTy).Contents (Elt F)),
    binary main_v4 main_v4 main_v5 (mulf : (⟨S8x2048x3, .f32⟩ : BufTy).Contents (Elt F) → (⟨S8x2048x3, .f32⟩ : BufTy).Contents (Elt F) → (⟨S8x2048x3, .f32⟩ : BufTy).Contents (Elt F)),
    nullary main_cst (constant S_ .f32 0x00000000#32),
    binary main_v5 main_cst main_v6 ((fun x v => Host.reduceAdd x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    nullary main_c_0 (constantI S_ 32 1#32),
    nullary main_c_1 (constantI S_ 32 0#32),
    unary main_v0 main_v7_0 id,
    unary main_c_1 main_v7_1 id,
    unary main_c_0 main_v7_2 id,
    unary main_v1 main_v7_3 id,
    unary main_v6 main_v7_4 id ]

theorem preOps_sub : (preOps (F := F)).Forall fun op => op.bufs ⊆ tcRefs τ sig :=
  ⟨reshape_bufs_sub .., nullary_bufs_sub .., unary_bufs_sub .., unary_bufs_sub .., unary_bufs_sub .., binary_bufs_sub .., binary_bufs_sub .., nullary_bufs_sub .., binary_bufs_sub .., nullary_bufs_sub .., nullary_bufs_sub .., unary_bufs_sub .., unary_bufs_sub .., unary_bufs_sub .., unary_bufs_sub .., unary_bufs_sub ..⟩

/-- A trip: the counter of the loop goes up. -/
abbrev bodyOps0 : List (HloOp τ sig (Elt F)) :=
  [ nullary main_while0b_c_7 (constantI S_ 32 1#32),
    binary main_v7_2 main_while0b_c_7 main_while0b_v21 (addi : (⟨S_, .i32⟩ : BufTy).Contents (Elt F) → (⟨S_, .i32⟩ : BufTy).Contents (Elt F) → (⟨S_, .i32⟩ : BufTy).Contents (Elt F)) ]

theorem bodyOps0_sub : (bodyOps0 (F := F)).Forall fun op => op.bufs ⊆ tcRefs τ sig :=
  ⟨nullary_bufs_sub .., binary_bufs_sub ..⟩

/-- A trip: the place of the largest distance. -/
abbrev bodyOps1 : List (HloOp τ sig (Elt F)) :=
  [ TRef.nullary (TRef.of (T := ⟨S8x2048, .i32⟩) main_while0b_call0_v0) (iotaInDim S8x2048 32 1),
    TRef.nullary (TRef.of (T := ⟨S_, .f32⟩) main_while0b_call0_cst) (constant S_ .f32 0xFF800000#32),
    TRef.nullary (TRef.of (T := ⟨S_, .i32⟩) main_while0b_call0_c) (constantI S_ 32 0#32),
    TRef.quaternary (TRef.of (T := ⟨S8x2048, .f32⟩) main_v7_4) (TRef.of (T := ⟨S8x2048, .i32⟩) main_while0b_call0_v0) (TRef.of (T := ⟨S_, .f32⟩) main_while0b_call0_cst) (TRef.of (T := ⟨S_, .i32⟩) main_while0b_call0_c) (TRef.of (T := ⟨S8, .f32⟩) main_while0b_call0_v1_0) (fun x y u v j => (Host.argReduce reducer_argmax_f32_i32 x y u v reducesTo_S8x2048_S8_d1 h_S_ j).1),
    TRef.quaternary (TRef.of (T := ⟨S8x2048, .f32⟩) main_v7_4) (TRef.of (T := ⟨S8x2048, .i32⟩) main_while0b_call0_v0) (TRef.of (T := ⟨S_, .f32⟩) main_while0b_call0_cst) (TRef.of (T := ⟨S_, .i32⟩) main_while0b_call0_c) (TRef.of (T := ⟨S8, .i32⟩) main_while0b_v22) (fun x y u v j => (Host.argReduce reducer_argmax_f32_i32 x y u v reducesTo_S8x2048_S8_d1 h_S_ j).2) ]

theorem bodyOps1_sub : (bodyOps1 (F := F)).Forall fun op => op.bufs ⊆ tcRefs τ sig :=
  ⟨nullary_bufs_sub .., nullary_bufs_sub .., nullary_bufs_sub .., quaternary_bufs_sub .., quaternary_bufs_sub ..⟩

/-- A trip: the place goes into the list of choices. -/
abbrev bodyOps2 : List (HloOp τ sig (Elt F)) :=
  [ unary main_while0b_v22 main_while0b_v23 (broadcastInDim S8x1 ![0] bcast_S8_S8x1_0 : (⟨S8, .i32⟩ : BufTy).Contents (Elt F) → (⟨S8x1, .i32⟩ : BufTy).Contents (Elt F)),
    nullary main_while0b_c_8 (constantI S_ 32 0#32),
    binary main_v7_2 main_while0b_c_8 main_while0b_v24 (cmpi .slt : (⟨S_, .i32⟩ : BufTy).Contents (Elt F) → (⟨S_, .i32⟩ : BufTy).Contents (Elt F) → (⟨S_, .i1⟩ : BufTy).Contents (Elt F)),
    unary main_v7_2 main_while0b_v25 (id : (⟨S_, .i32⟩ : BufTy).Contents (Elt F) → (⟨S_, .i32⟩ : BufTy).Contents (Elt F)),
    nullary main_while0b_c_9 (constantI S_ 32 1024#32),
    binary main_while0b_v25 main_while0b_c_9 main_while0b_v26 (addi : (⟨S_, .i32⟩ : BufTy).Contents (Elt F) → (⟨S_, .i32⟩ : BufTy).Contents (Elt F) → (⟨S_, .i32⟩ : BufTy).Contents (Elt F)),
    ternary main_while0b_v24 main_while0b_v26 main_v7_2 main_while0b_v27 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_while0b_c_10 (constantI S_ 32 0#32),
    binaryIndexed main_v7_3 main_while0b_v23 ![main_while0b_c_10, main_while0b_v27] ⟨S_, .i32⟩ main_while0b_v28 ((fun x u i => Host.dynamicUpdateSlice x u (fun k => (i k (Shape.Idx.first h_S_)).toInt) updateFits_S8x1024_S8x1) : (⟨S8x1024, .i32⟩ : BufTy).Contents (Elt F) → (⟨S8x1, .i32⟩ : BufTy).Contents (Elt F) → (Fin 2 → (⟨S_, .i32⟩ : BufTy).Contents (Elt F)) → (⟨S8x1024, .i32⟩ : BufTy).Contents (Elt F)),
    reshape main_while0b_v23 main_while0b_v29 (rfl : (.i32 : EltTy) = .i32) shapeCasts_S8x1_S8x1x1 ]

theorem bodyOps2_sub : (bodyOps2 (F := F)).Forall fun op => op.bufs ⊆ tcRefs τ sig :=
  ⟨unary_bufs_sub .., nullary_bufs_sub .., binary_bufs_sub .., unary_bufs_sub .., nullary_bufs_sub .., binary_bufs_sub .., ternary_bufs_sub .., nullary_bufs_sub .., binaryIndexed_bufs_sub .., reshape_bufs_sub ..⟩

/-- A trip: the chosen point is fetched. -/
abbrev bodyOps3 : List (HloOp τ sig (Elt F)) :=
  [ TRef.nullary (TRef.of (T := ⟨S_, .i32⟩) main_while0b_call1_c) (constantI S_ 32 0#32),
    TRef.unary (TRef.of (T := ⟨S_, .i32⟩) main_while0b_call1_c) (TRef.of (T := ⟨S8x1x1, .i32⟩) main_while0b_call1_v0) (broadcastInDim S8x1x1 ![] bcast_S_S8x1x1),
    TRef.binary (TRef.of (T := ⟨S8x1x1, .i32⟩) main_while0b_v29) (TRef.of (T := ⟨S8x1x1, .i32⟩) main_while0b_call1_v0) (TRef.of (T := ⟨S8x1x1, .i1⟩) main_while0b_call1_v1) (cmpi .slt),
    TRef.nullary (TRef.of (T := ⟨S_, .i32⟩) main_while0b_call1_c_0) (constantI S_ 32 2048#32),
    TRef.unary (TRef.of (T := ⟨S_, .i32⟩) main_while0b_call1_c_0) (TRef.of (T := ⟨S8x1x1, .i32⟩) main_while0b_call1_v2) (broadcastInDim S8x1x1 ![] bcast_S_S8x1x1),
    TRef.binary (TRef.of (T := ⟨S8x1x1, .i32⟩) main_while0b_v29) (TRef.of (T := ⟨S8x1x1, .i32⟩) main_while0b_call1_v2) (TRef.of (T := ⟨S8x1x1, .i32⟩) main_while0b_call1_v3) addi,
    TRef.ternary (TRef.of (T := ⟨S8x1x1, .i1⟩) main_while0b_call1_v1) (TRef.of (T := ⟨S8x1x1, .i32⟩) main_while0b_call1_v3) (TRef.of (T := ⟨S8x1x1, .i32⟩) main_while0b_v29) (TRef.of (T := ⟨S8x1x1, .i32⟩) main_while0b_call1_v4) select,
    TRef.binary (TRef.of (T := ⟨S8x2048x3, .f32⟩) main_v7_0) (TRef.of (T := ⟨S8x1x1, .i32⟩) main_while0b_call1_v4) (TRef.of (T := ⟨S8x1x3, .f32⟩) main_while0b_v30) (fun x i => Host.gather gather_S8x2048x3_S8x1x1_S8x1x3_2_1_0_0_1_2_113 x i) ]

theorem bodyOps3_sub : (bodyOps3 (F := F)).Forall fun op => op.bufs ⊆ tcRefs τ sig :=
  ⟨nullary_bufs_sub .., unary_bufs_sub .., binary_bufs_sub .., nullary_bufs_sub .., unary_bufs_sub .., binary_bufs_sub .., ternary_bufs_sub .., binary_bufs_sub ..⟩

/-- A trip: the distances to the nearest chosen point. -/
abbrev bodyOps4 : List (HloOp τ sig (Elt F)) :=
  [ unary main_while0b_v30 main_while0b_v31 (broadcastInDim S8x2048x3 ![0, 1, 2] bcast_S8x1x3_S8x2048x3_0_1_2 : (⟨S8x1x3, .f32⟩ : BufTy).Contents (Elt F) → (⟨S8x2048x3, .f32⟩ : BufTy).Contents (Elt F)),
    binary main_v7_0 main_while0b_v31 main_while0b_v32 (subf : (⟨S8x2048x3, .f32⟩ : BufTy).Contents (Elt F) → (⟨S8x2048x3, .f32⟩ : BufTy).Contents (Elt F) → (⟨S8x2048x3, .f32⟩ : BufTy).Contents (Elt F)),
    binary main_while0b_v32 main_while0b_v32 main_while0b_v33 (mulf : (⟨S8x2048x3, .f32⟩ : BufTy).Contents (Elt F) → (⟨S8x2048x3, .f32⟩ : BufTy).Contents (Elt F) → (⟨S8x2048x3, .f32⟩ : BufTy).Contents (Elt F)),
    nullary main_while0b_cst_11 (constant S_ .f32 0x00000000#32),
    binary main_while0b_v33 main_while0b_cst_11 main_while0b_v34 ((fun x v => Host.reduceAdd x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    binary main_v7_4 main_while0b_v34 main_while0b_v35 (minimumf : (⟨S8x2048, .f32⟩ : BufTy).Contents (Elt F) → (⟨S8x2048, .f32⟩ : BufTy).Contents (Elt F) → (⟨S8x2048, .f32⟩ : BufTy).Contents (Elt F)),
    nullary main_while0b_c_12 (constantI S_ 32 1#32),
    binary main_v7_1 main_while0b_c_12 main_while0b_v36 (addi : (⟨S_, .i32⟩ : BufTy).Contents (Elt F) → (⟨S_, .i32⟩ : BufTy).Contents (Elt F) → (⟨S_, .i32⟩ : BufTy).Contents (Elt F)),
    unary main_while0b_v36 main_v7_1 id,
    unary main_while0b_v21 main_v7_2 id,
    unary main_while0b_v28 main_v7_3 id,
    unary main_while0b_v35 main_v7_4 id ]

theorem bodyOps4_sub : (bodyOps4 (F := F)).Forall fun op => op.bufs ⊆ tcRefs τ sig :=
  ⟨unary_bufs_sub .., binary_bufs_sub .., binary_bufs_sub .., nullary_bufs_sub .., binary_bufs_sub .., binary_bufs_sub .., nullary_bufs_sub .., binary_bufs_sub .., unary_bufs_sub .., unary_bufs_sub .., unary_bufs_sub .., unary_bufs_sub ..⟩

/-- After the loop: the choices as a column. -/
abbrev postOps0 : List (HloOp τ sig (Elt F)) :=
  [ reshape main_v7_3 main_v8 (rfl : (.i32 : EltTy) = .i32) shapeCasts_S8x1024_S8x1024x1 ]

theorem postOps0_sub : (postOps0 (F := F)).Forall fun op => op.bufs ⊆ tcRefs τ sig :=
  reshape_bufs_sub ..

/-- After the loop: the chosen points are fetched. -/
abbrev postOps1 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8x1024x1, .i32⟩) main_call2_v0) (broadcastInDim S8x1024x1 ![] bcast_S_S8x1024x1),
    TRef.binary (TRef.of (T := ⟨S8x1024x1, .i32⟩) main_v8) (TRef.of (T := ⟨S8x1024x1, .i32⟩) main_call2_v0) (TRef.of (T := ⟨S8x1024x1, .i1⟩) main_call2_v1) (cmpi .slt),
    TRef.nullary (TRef.of (T := ⟨S_, .i32⟩) main_call2_c_0) (constantI S_ 32 2048#32),
    TRef.unary (TRef.of (T := ⟨S_, .i32⟩) main_call2_c_0) (TRef.of (T := ⟨S8x1024x1, .i32⟩) main_call2_v2) (broadcastInDim S8x1024x1 ![] bcast_S_S8x1024x1),
    TRef.binary (TRef.of (T := ⟨S8x1024x1, .i32⟩) main_v8) (TRef.of (T := ⟨S8x1024x1, .i32⟩) main_call2_v2) (TRef.of (T := ⟨S8x1024x1, .i32⟩) main_call2_v3) addi,
    TRef.ternary (TRef.of (T := ⟨S8x1024x1, .i1⟩) main_call2_v1) (TRef.of (T := ⟨S8x1024x1, .i32⟩) main_call2_v3) (TRef.of (T := ⟨S8x1024x1, .i32⟩) main_v8) (TRef.of (T := ⟨S8x1024x1, .i32⟩) main_call2_v4) select,
    TRef.binary (TRef.of (T := ⟨S8x2048x3, .f32⟩) main_v0) (TRef.of (T := ⟨S8x1024x1, .i32⟩) main_call2_v4) (TRef.of (T := ⟨S8x1024x3, .f32⟩) main_v9) (fun x i => Host.gather gather_S8x2048x3_S8x1024x1_S8x1024x3_2_1_0_0_1_2_113 x i) ]

theorem postOps1_sub : (postOps1 (F := F)).Forall fun op => op.bufs ⊆ tcRefs τ sig :=
  ⟨nullary_bufs_sub .., unary_bufs_sub .., binary_bufs_sub .., nullary_bufs_sub .., unary_bufs_sub .., binary_bufs_sub .., ternary_bufs_sub .., binary_bufs_sub ..⟩

/-- After the loop: the results. -/
abbrev postOps2 : List (HloOp τ sig (Elt F)) :=
  [ reshape main_v9 main_v10 (rfl : (.f32 : EltTy) = .f32) shapeCasts_S8x1024x3_S8192x3,
    nullary main_v11 (iotaInDim S8 32 0),
    unary main_v11 main_v12 (broadcastInDim S8x1024 ![0] bcast_S8_S8x1024_0 : (⟨S8, .i32⟩ : BufTy).Contents (Elt F) → (⟨S8x1024, .i32⟩ : BufTy).Contents (Elt F)),
    reshape main_v12 main_v13 (rfl : (.i32 : EltTy) = .i32) shapeCasts_S8x1024_S8192,
    nullary main_v14 (iotaInDim S8 32 0),
    nullary main_c_2 (constantI S_ 32 2048#32),
    unary main_c_2 main_v15 (broadcastInDim S8 ![] bcast_S_S8 : (⟨S_, .i32⟩ : BufTy).Contents (Elt F) → (⟨S8, .i32⟩ : BufTy).Contents (Elt F)),
    binary main_v14 main_v15 main_v16 (muli : (⟨S8, .i32⟩ : BufTy).Contents (Elt F) → (⟨S8, .i32⟩ : BufTy).Contents (Elt F) → (⟨S8, .i32⟩ : BufTy).Contents (Elt F)),
    unary main_v16 main_v17 (broadcastInDim S8x1 ![0] bcast_S8_S8x1_0 : (⟨S8, .i32⟩ : BufTy).Contents (Elt F) → (⟨S8x1, .i32⟩ : BufTy).Contents (Elt F)),
    unary main_v17 main_v18 (broadcastInDim S8x1024 ![0, 1] bcast_S8x1_S8x1024_0_1 : (⟨S8x1, .i32⟩ : BufTy).Contents (Elt F) → (⟨S8x1024, .i32⟩ : BufTy).Contents (Elt F)),
    binary main_v7_3 main_v18 main_v19 (addi : (⟨S8x1024, .i32⟩ : BufTy).Contents (Elt F) → (⟨S8x1024, .i32⟩ : BufTy).Contents (Elt F) → (⟨S8x1024, .i32⟩ : BufTy).Contents (Elt F)),
    reshape main_v19 main_v20 (rfl : (.i32 : EltTy) = .i32) shapeCasts_S8x1024_S8192 ]

theorem postOps2_sub : (postOps2 (F := F)).Forall fun op => op.bufs ⊆ tcRefs τ sig :=
  ⟨reshape_bufs_sub .., nullary_bufs_sub .., unary_bufs_sub .., reshape_bufs_sub .., nullary_bufs_sub .., nullary_bufs_sub .., unary_bufs_sub .., binary_bufs_sub .., unary_bufs_sub .., unary_bufs_sub .., binary_bufs_sub .., reshape_bufs_sub ..⟩

/-- The loop's condition. -/
abbrev condOps : List (HloOp τ sig (Elt F)) :=
  [ nullary main_while0c_c_7 (constantI S_ 32 1023#32),
    binary main_v7_1 main_while0c_c_7 main_while0c_v21 (cmpi .slt : (⟨S_, .i32⟩ : BufTy).Contents (Elt F) → (⟨S_, .i32⟩ : BufTy).Contents (Elt F) → (⟨S_, .i1⟩ : BufTy).Contents (Elt F)) ]

theorem condOps_sub : (condOps (F := F)).Forall fun op => op.bufs ⊆ tcRefs τ sig :=
  ⟨nullary_bufs_sub .., binary_bufs_sub ..⟩

/-- The program's pieces. -/
abbrev preI : List (List (HloOp τ sig (Elt F))) := [preOps]
abbrev bodyI : List (List (HloOp τ sig (Elt F))) := [bodyOps0, bodyOps1, bodyOps2, bodyOps3, bodyOps4]
abbrev postI : List (List (HloOp τ sig (Elt F))) := [postOps0, postOps1, postOps2]

theorem plain_pre : Plain (preI (F := F)) := .cons preOps_sub .nil
theorem plain_body : Plain (bodyI (F := F)) := .cons bodyOps0_sub (.cons bodyOps1_sub (.cons bodyOps2_sub (.cons bodyOps3_sub (.cons bodyOps4_sub .nil))))
theorem plain_post : Plain (postI (F := F)) := .cons postOps0_sub (.cons postOps1_sub (.cons postOps2_sub .nil))

theorem main_pieces (c : Dev nD) : main (F := F) c = Pipeline.chain ((preI.map fun ops => (seq ops : Prog _ PUnit)) ++ HostLoop.enter 0 :: postI.map fun ops => (seq ops : Prog _ PUnit)) := by
  rfl

theorem body_pieces : main_while0_body (F := F) = Pipeline.chain (bodyI.map fun ops => (seq ops : Prog _ PUnit)) := by
  rfl

/-! What one trip, and the condition, leave in the carried buffers. -/

variable (V : Valuation τ sig (Elt Ideal))

theorem cond_0 : after condOps V (Proc.devRef .tc main_v7_0) = V (Proc.devRef .tc main_v7_0) := by after_results <;> rfl
theorem cond_1 : after condOps V (Proc.devRef .tc main_v7_1) = V (Proc.devRef .tc main_v7_1) := by after_results <;> rfl
theorem cond_2 : after condOps V (Proc.devRef .tc main_v7_2) = V (Proc.devRef .tc main_v7_2) := by after_results <;> rfl
theorem cond_3 : after condOps V (Proc.devRef .tc main_v7_3) = V (Proc.devRef .tc main_v7_3) := by after_results <;> rfl
theorem cond_4 : after condOps V (Proc.devRef .tc main_v7_4) = V (Proc.devRef .tc main_v7_4) := by after_results <;> rfl

theorem keep0_0 : after bodyOps0 V (Proc.devRef .tc main_v7_0) = V (Proc.devRef .tc main_v7_0) := by after_results <;> rfl
theorem keep0_1 : after bodyOps0 V (Proc.devRef .tc main_v7_1) = V (Proc.devRef .tc main_v7_1) := by after_results <;> rfl
theorem keep0_2 : after bodyOps0 V (Proc.devRef .tc main_v7_2) = V (Proc.devRef .tc main_v7_2) := by after_results <;> rfl
theorem keep0_3 : after bodyOps0 V (Proc.devRef .tc main_v7_3) = V (Proc.devRef .tc main_v7_3) := by after_results <;> rfl
theorem keep0_4 : after bodyOps0 V (Proc.devRef .tc main_v7_4) = V (Proc.devRef .tc main_v7_4) := by after_results <;> rfl
theorem keep1_0 : after bodyOps1 V (Proc.devRef .tc main_v7_0) = V (Proc.devRef .tc main_v7_0) := by after_results <;> rfl
theorem keep1_1 : after bodyOps1 V (Proc.devRef .tc main_v7_1) = V (Proc.devRef .tc main_v7_1) := by after_results <;> rfl
theorem keep1_2 : after bodyOps1 V (Proc.devRef .tc main_v7_2) = V (Proc.devRef .tc main_v7_2) := by after_results <;> rfl
theorem keep1_3 : after bodyOps1 V (Proc.devRef .tc main_v7_3) = V (Proc.devRef .tc main_v7_3) := by after_results <;> rfl
theorem keep1_4 : after bodyOps1 V (Proc.devRef .tc main_v7_4) = V (Proc.devRef .tc main_v7_4) := by after_results <;> rfl
theorem keep1_n : after bodyOps1 V (Proc.devRef .tc main_while0b_v21) = V (Proc.devRef .tc main_while0b_v21) := by after_results <;> rfl
theorem keep2_0 : after bodyOps2 V (Proc.devRef .tc main_v7_0) = V (Proc.devRef .tc main_v7_0) := by after_results <;> rfl
theorem keep2_1 : after bodyOps2 V (Proc.devRef .tc main_v7_1) = V (Proc.devRef .tc main_v7_1) := by after_results <;> rfl
theorem keep2_4 : after bodyOps2 V (Proc.devRef .tc main_v7_4) = V (Proc.devRef .tc main_v7_4) := by after_results <;> rfl
theorem keep2_n : after bodyOps2 V (Proc.devRef .tc main_while0b_v21) = V (Proc.devRef .tc main_while0b_v21) := by after_results <;> rfl
theorem keep3_0 : after bodyOps3 V (Proc.devRef .tc main_v7_0) = V (Proc.devRef .tc main_v7_0) := by after_results <;> rfl
theorem keep3_1 : after bodyOps3 V (Proc.devRef .tc main_v7_1) = V (Proc.devRef .tc main_v7_1) := by after_results <;> rfl
theorem keep3_4 : after bodyOps3 V (Proc.devRef .tc main_v7_4) = V (Proc.devRef .tc main_v7_4) := by after_results <;> rfl
theorem keep3_n : after bodyOps3 V (Proc.devRef .tc main_while0b_v21) = V (Proc.devRef .tc main_while0b_v21) := by after_results <;> rfl
theorem keep3_u : after bodyOps3 V (Proc.devRef .tc main_while0b_v28) = V (Proc.devRef .tc main_while0b_v28) := by after_results <;> rfl
theorem keep4_0 : after bodyOps4 V (Proc.devRef .tc main_v7_0) = V (Proc.devRef .tc main_v7_0) := by after_results <;> rfl

theorem new0_n : after bodyOps0 V (Proc.devRef .tc main_while0b_v21) = addi (V (Proc.devRef .tc main_v7_2) : S_.Idx → Elt Ideal .i32) (constantI S_ 32 1#32) := by
  after_results <;> rfl
theorem new1_a : after bodyOps1 V (Proc.devRef .tc main_while0b_v22) = fun j => (Host.argReduce (reducer_argmax_f32_i32 (F := Ideal)) (V (Proc.devRef .tc main_v7_4) : S8x2048.Idx → Elt Ideal .f32)
    (iotaInDim S8x2048 32 1) (constant (F := Ideal) S_ .f32 0xFF800000#32) (constantI S_ 32 0#32) reducesTo_S8x2048_S8_d1 h_S_ j).2 := by
  after_results <;> rfl
theorem new2_s : after bodyOps2 V (Proc.devRef .tc main_while0b_v29)
    = shapeCast S8x1x1 (broadcastInDim S8x1 ![0] bcast_S8_S8x1_0 (V (Proc.devRef .tc main_while0b_v22) : S8.Idx → Elt Ideal .i32)) shapeCasts_S8x1_S8x1x1 := by
  after_results <;> rfl
theorem new2_u : after bodyOps2 V (Proc.devRef .tc main_while0b_v28)
    = Host.dynamicUpdateSlice (V (Proc.devRef .tc main_v7_3) : S8x1024.Idx → Elt Ideal .i32)
        (broadcastInDim S8x1 ![0] bcast_S8_S8x1_0 (V (Proc.devRef .tc main_while0b_v22) : S8.Idx → Elt Ideal .i32))
        (fun k => ((![constantI S_ 32 0#32, select (cmpi .slt (V (Proc.devRef .tc main_v7_2) : S_.Idx → Elt Ideal .i32) (constantI S_ 32 0#32))
            (addi (V (Proc.devRef .tc main_v7_2) : S_.Idx → Elt Ideal .i32) (constantI S_ 32 1024#32)) (V (Proc.devRef .tc main_v7_2) : S_.Idx → Elt Ideal .i32)] : Fin 2 → S_.Idx → Elt Ideal .i32) k (Shape.Idx.first h_S_)).toInt)
        updateFits_S8x1024_S8x1 := by
  after_results_simp
  refine congrArg (fun st => Host.dynamicUpdateSlice _ _ st updateFits_S8x1024_S8x1) (funext fun k => ?_)
  refine Fin.cases ?_ (fun k => Fin.cases ?_ (fun k => k.elim0) k) k
  · show BitVec.toInt ((HloOp.result _ _ (Proc.devRef .tc main_while0b_c_10) : S_.Idx → Elt Ideal .i32) _) = _
    after_results_simp <;> rfl
  · show BitVec.toInt ((HloOp.result _ _ (Proc.devRef .tc main_while0b_v27) : S_.Idx → Elt Ideal .i32) _) = _
    after_results_simp <;> rfl
theorem new3_g : after bodyOps3 V (Proc.devRef .tc main_while0b_v30)
    = Host.gather gather_S8x2048x3_S8x1x1_S8x1x3_2_1_0_0_1_2_113 (V (Proc.devRef .tc main_v7_0) : S8x2048x3.Idx → Elt Ideal .f32)
        (select (cmpi .slt (V (Proc.devRef .tc main_while0b_v29) : S8x1x1.Idx → Elt Ideal .i32) (broadcastInDim S8x1x1 ![] bcast_S_S8x1x1 (constantI S_ 32 0#32)))
          (addi (V (Proc.devRef .tc main_while0b_v29) : S8x1x1.Idx → Elt Ideal .i32) (broadcastInDim S8x1x1 ![] bcast_S_S8x1x1 (constantI S_ 32 2048#32)))
          (V (Proc.devRef .tc main_while0b_v29) : S8x1x1.Idx → Elt Ideal .i32)) := by
  after_results <;> rfl
theorem new4_1 : after bodyOps4 V (Proc.devRef .tc main_v7_1) = addi (V (Proc.devRef .tc main_v7_1) : S_.Idx → Elt Ideal .i32) (constantI S_ 32 1#32) := by
  after_results <;> rfl
theorem new4_2 : after bodyOps4 V (Proc.devRef .tc main_v7_2) = (V (Proc.devRef .tc main_while0b_v21) : S_.Idx → Elt Ideal .i32) := by
  after_results <;> rfl
theorem new4_3 : after bodyOps4 V (Proc.devRef .tc main_v7_3) = (V (Proc.devRef .tc main_while0b_v28) : S8x1024.Idx → Elt Ideal .i32) := by
  after_results <;> rfl

/-- The squared distances to given points, one point per cloud. -/
abbrev distOps (x : FVec Ideal S8x2048x3 .f32) (s : FVec Ideal S8x1x3 .f32) : FVec Ideal S8x2048 .f32 :=
  Host.reduceAdd (mulf (subf x (broadcastInDim S8x2048x3 ![0, 1, 2] bcast_S8x1x3_S8x2048x3_0_1_2 s)) (subf x (broadcastInDim S8x2048x3 ![0, 1, 2] bcast_S8x1x3_S8x2048x3_0_1_2 s)))
    (constant (F := Ideal) S_ .f32 0x00000000#32) reducesTo_S8x2048x3_S8x2048_d2 h_S_

theorem new4_4 : after bodyOps4 V (Proc.devRef .tc main_v7_4) = minimumf (V (Proc.devRef .tc main_v7_4) : S8x2048.Idx → Elt Ideal .f32)
    (distOps (V (Proc.devRef .tc main_v7_0)) (V (Proc.devRef .tc main_while0b_v30))) := by
  after_results <;> rfl

theorem pre_0 : after preOps V (Proc.devRef .tc main_v7_0) = shapeCast S8x2048x3 (V (Proc.devRef .tc main_arg0) : S16384x3.Idx → Elt Ideal .f32) shapeCasts_S16384x3_S8x2048x3 := by
  after_results <;> rfl
theorem pre_x : after preOps V (Proc.devRef .tc main_v0) = shapeCast S8x2048x3 (V (Proc.devRef .tc main_arg0) : S16384x3.Idx → Elt Ideal .f32) shapeCasts_S16384x3_S8x2048x3 := by
  after_results <;> rfl
theorem pre_1 : after preOps V (Proc.devRef .tc main_v7_1) = constantI S_ 32 0#32 := by
  after_results <;> rfl
theorem pre_2 : after preOps V (Proc.devRef .tc main_v7_2) = constantI S_ 32 1#32 := by
  after_results <;> rfl
theorem pre_3 : after preOps V (Proc.devRef .tc main_v7_3) = broadcastInDim S8x1024 ![] bcast_S_S8x1024 (constantI S_ 32 0#32) := by
  after_results <;> rfl
theorem pre_4 : after preOps V (Proc.devRef .tc main_v7_4) = distOps (shapeCast S8x2048x3 (V (Proc.devRef .tc main_arg0) : S16384x3.Idx → Elt Ideal .f32) shapeCasts_S16384x3_S8x2048x3)
    (extractStridedSlice S8x1x3 ![0, 0, 0] (shapeCast S8x2048x3 (V (Proc.devRef .tc main_arg0) : S16384x3.Idx → Elt Ideal .f32) shapeCasts_S16384x3_S8x2048x3) slices_S8x2048x3_S8x1x3_0_0_0) := by
  after_results <;> rfl

theorem keepx_c : after condOps V (Proc.devRef .tc main_v0) = V (Proc.devRef .tc main_v0) := by after_results <;> rfl
theorem keepx_0 : after bodyOps0 V (Proc.devRef .tc main_v0) = V (Proc.devRef .tc main_v0) := by after_results <;> rfl
theorem keepx_1 : after bodyOps1 V (Proc.devRef .tc main_v0) = V (Proc.devRef .tc main_v0) := by after_results <;> rfl
theorem keepx_2 : after bodyOps2 V (Proc.devRef .tc main_v0) = V (Proc.devRef .tc main_v0) := by after_results <;> rfl
theorem keepx_3 : after bodyOps3 V (Proc.devRef .tc main_v0) = V (Proc.devRef .tc main_v0) := by after_results <;> rfl
theorem keepx_4 : after bodyOps4 V (Proc.devRef .tc main_v0) = V (Proc.devRef .tc main_v0) := by after_results <;> rfl

theorem post0_s : after postOps0 V (Proc.devRef .tc main_v8) = shapeCast S8x1024x1 (V (Proc.devRef .tc main_v7_3) : S8x1024.Idx → Elt Ideal .i32) shapeCasts_S8x1024_S8x1024x1 := by
  after_results <;> rfl
theorem post0_x : after postOps0 V (Proc.devRef .tc main_v0) = V (Proc.devRef .tc main_v0) := by after_results <;> rfl
theorem post0_3 : after postOps0 V (Proc.devRef .tc main_v7_3) = V (Proc.devRef .tc main_v7_3) := by after_results <;> rfl
theorem post1_g : after postOps1 V (Proc.devRef .tc main_v9)
    = Host.gather gather_S8x2048x3_S8x1024x1_S8x1024x3_2_1_0_0_1_2_113 (V (Proc.devRef .tc main_v0) : S8x2048x3.Idx → Elt Ideal .f32)
        (select (cmpi .slt (V (Proc.devRef .tc main_v8) : S8x1024x1.Idx → Elt Ideal .i32) (broadcastInDim S8x1024x1 ![] bcast_S_S8x1024x1 (constantI S_ 32 0#32)))
          (addi (V (Proc.devRef .tc main_v8) : S8x1024x1.Idx → Elt Ideal .i32) (broadcastInDim S8x1024x1 ![] bcast_S_S8x1024x1 (constantI S_ 32 2048#32)))
          (V (Proc.devRef .tc main_v8) : S8x1024x1.Idx → Elt Ideal .i32)) := by
  after_results <;> rfl
theorem post1_3 : after postOps1 V (Proc.devRef .tc main_v7_3) = V (Proc.devRef .tc main_v7_3) := by after_results <;> rfl
theorem post2_10 : after postOps2 V (Proc.devRef .tc main_v10) = shapeCast S8192x3 (V (Proc.devRef .tc main_v9) : S8x1024x3.Idx → Elt Ideal .f32) shapeCasts_S8x1024x3_S8192x3 := by
  after_results <;> rfl
theorem post2_13 : after postOps2 V (Proc.devRef .tc main_v13) = shapeCast S8192 (broadcastInDim S8x1024 ![0] bcast_S8_S8x1024_0 (iotaInDim S8 32 0)) shapeCasts_S8x1024_S8192 := by
  after_results <;> rfl
theorem post2_20 : after postOps2 V (Proc.devRef .tc main_v20)
    = shapeCast S8192 (addi (V (Proc.devRef .tc main_v7_3) : S8x1024.Idx → Elt Ideal .i32)
        (broadcastInDim S8x1024 ![0, 1] bcast_S8x1_S8x1024_0_1 (broadcastInDim S8x1 ![0] bcast_S8_S8x1_0 (muli (iotaInDim S8 32 0) (broadcastInDim S8 ![] bcast_S_S8 (constantI S_ 32 2048#32))))))
        shapeCasts_S8x1024_S8192 := by
  after_results <;> rfl

theorem body_1 : afterL bodyI V (Proc.devRef .tc main_v7_1) = addi (V (Proc.devRef .tc main_v7_1) : S_.Idx → Elt Ideal .i32) (constantI S_ 32 1#32) := by
  simp only [bodyI, afterL_cons, afterL_nil]
  rw [new4_1, keep3_1, keep2_1, keep1_1, keep0_1]

theorem trip_1 (m : (ℓ : Loc nD τ sig) → Buf (Elt Ideal) ℓ) (c : Dev nD) (k : ℕ) :
    atTrip condOps bodyI (entryContents preI m) k c (Proc.devRef .tc main_v7_1) = fun _ => BitVec.ofNat 32 k := by
  induction k with
  | zero => rw [atTrip_zero]; exact pre_1 _
  | succ k ih =>
    rw [atTrip_succ, body_1, cond_1, ih]
    funext i
    show BitVec.ofNat 32 k + 1#32 = BitVec.ofNat 32 (k + 1)
    rw [BitVec.ofNat_add]

theorem pred_iff (k : ℕ) (hk : k ≤ 1023) : IntOp.cmpi .slt (BitVec.ofNat 32 k) 1023#32 = 1#1 ↔ k < 1023 := by
  have e : (BitVec.ofNat 32 k).toInt = k := by
    rw [BitVec.toInt_eq_toNat_of_lt (by rw [BitVec.toNat_ofNat]; omega), BitVec.toNat_ofNat]
    omega
  show BitVec.ofBool ((BitVec.ofNat 32 k).slt 1023#32) = 1#1 ↔ k < 1023
  have h2 : (BitVec.ofNat 32 k).slt 1023#32 = decide (k < 1023) := by
    simp only [BitVec.slt, e]
    rw [show (1023#32 : BitVec 32).toInt = 1023 from by decide]
    simp
  rw [h2]
  by_cases h : k < 1023 <;> simp [h]

set_option backward.isDefEq.respectTransparency.types false in
theorem cond_spec (m : (ℓ : Loc nD τ sig) → Buf (Elt Ideal) ℓ) :
    CondSpec (pcfgs (F := Ideal)) defs₀ loops main_while0_cond condOps bodyI (entryContents preI m) 1023 := by
  intro k hk c bd
  have hctr := trip_1 m c k
  generalize atTrip condOps bodyI (entryContents preI m) k c = W at hctr ⊢
  unfold main_while0_cond
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ W main_v7_1 HostLoop.idx0)
        (HloOp.result _ W main_while0c_c_7 HostLoop.idx0) = 1#1) (k < 1023)
    rw [StableHlo.nullary_result_ne _ _ _ _ (by decide), StableHlo.nullary_result, hctr]
    exact pred_iff k hk
  isplitl [Hb]; · iexact Hb
  rw [StableHlo.after_cons, StableHlo.after_cons, StableHlo.after_nil]; iexact Hh

/-- The run: every buffer ends at the fold of the pieces, the loop's 1023 times. -/
theorem run (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ (c : Dev nD) (b : Ref sig .tc), (Proc.devRef .tc b : DevRef τ sig).isScoped = false →
        r.2.mem ((c.tc : Thread nD τ).loc b) = finalContents condOps preI bodyI postI 1023 m c (Proc.devRef .tc b)) :=
  run_loop (pcfgs (F := Ideal)) defs₀ loops main 0 main_while0_cond main_while0_body rfl preI bodyI postI condOps
    plain_pre plain_body plain_post main_pieces body_pieces 1023 m ρ (cond_spec m)

end Cert.FpsIdeal.Whole

end
-- ==== Proof.FpsStep.lean ====
/- The reference of the selection call, element by element. -/
module

public import proofs.«01_k».proof.Proof.FpsRun
public import proofs.«01_k».proof.Proof.FpsCloud
public import Idealize.ShloMosaic.Lib.Pointwise
public import Idealize.ShloMosaic.Lib.WordCmp

@[expose] public section

set_option maxRecDepth 16384

noncomputable section

namespace Cert.FpsIdeal.Whole

open Cert.FpsIdeal Cert.FpsIdeal.Gen Idealize.ShloMosaic Idealize.ShloMosaic.TcCoe Cert.Fps

/-- A gather of one row per cloud: the row at the index, read signed and clamped. -/
theorem gather_one (x : FVec Ideal Cert.FpsIdeal.S8x2048x3 .f32) (idx : IVec Cert.FpsIdeal.S8x1x1 32) (b : Fin 8) (e : Fin 1) (j : Fin 3) :
    Host.gather Cert.FpsIdeal.gather_S8x2048x3_S8x1x1_S8x1x3_2_1_0_0_1_2_113 x idx (ix3 b e j)
      = x (ix3 b ⟨min (idx (ix3 b e 0)).toInt.toNat 2047, by omega⟩ j) := by
  unfold Host.gather
  congr 1
  funext a
  refine Fin.ext ?_
  show (Cert.FpsIdeal.gather_S8x2048x3_S8x1x1_S8x1x3_2_1_0_0_1_2_113).start (ix3 b e j) idx a + (Cert.FpsIdeal.gather_S8x2048x3_S8x1x1_S8x1x3_2_1_0_0_1_2_113).batchCoord (ix3 b e j) a + (Cert.FpsIdeal.gather_S8x2048x3_S8x1x1_S8x1x3_2_1_0_0_1_2_113).offCoord (ix3 b e j) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (Cert.FpsIdeal.gather_S8x2048x3_S8x1x1_S8x1x3_2_1_0_0_1_2_113).operandBatchingDims from List.mem_singleton.mpr rfl)]
    rfl
  · rw [GatherDims.batchCoord_eq_zero _ _ _ (show (1 : Fin 3) ∉ (Cert.FpsIdeal.gather_S8x2048x3_S8x1x1_S8x1x3_2_1_0_0_1_2_113).operandBatchingDims from by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (Cert.FpsIdeal.gather_S8x2048x3_S8x1x1_S8x1x3_2_1_0_0_1_2_113).startIndexMap from List.mem_singleton.mpr rfl)]
    refine congrArg (fun q => min (idx q).toInt.toNat 2047) ?_
    funext b; refine Fin.ext ?_
    match b with
    | ⟨0, _⟩ => rfl
    | ⟨1, _⟩ => rfl
    | ⟨2, _⟩ => rfl
  · rw [GatherDims.batchCoord_eq_zero _ _ _ (show (2 : Fin 3) ∉ (Cert.FpsIdeal.gather_S8x2048x3_S8x1x1_S8x1x3_2_1_0_0_1_2_113).operandBatchingDims from by decide)]
    unfold GatherDims.start
    rw [dif_neg (show (2 : Fin 3) ∉ (Cert.FpsIdeal.gather_S8x2048x3_S8x1x1_S8x1x3_2_1_0_0_1_2_113).startIndexMap from by decide)]
    simp only [Nat.zero_add, Nat.add_zero]
    rfl

/-- A gather of 1024 rows per cloud: the row at the index, read signed and clamped. -/
theorem gather_all (x : FVec Ideal Cert.FpsIdeal.S8x2048x3 .f32) (idx : IVec Cert.FpsIdeal.S8x1024x1 32) (b : Fin 8) (e : Fin 1024) (j : Fin 3) :
    Host.gather Cert.FpsIdeal.gather_S8x2048x3_S8x1024x1_S8x1024x3_2_1_0_0_1_2_113 x idx (ix3 b e j)
      = x (ix3 b ⟨min (idx (ix3 b e 0)).toInt.toNat 2047, by omega⟩ j) := by
  unfold Host.gather
  congr 1
  funext a
  refine Fin.ext ?_
  show (Cert.FpsIdeal.gather_S8x2048x3_S8x1024x1_S8x1024x3_2_1_0_0_1_2_113).start (ix3 b e j) idx a + (Cert.FpsIdeal.gather_S8x2048x3_S8x1024x1_S8x1024x3_2_1_0_0_1_2_113).batchCoord (ix3 b e j) a + (Cert.FpsIdeal.gather_S8x2048x3_S8x1024x1_S8x1024x3_2_1_0_0_1_2_113).offCoord (ix3 b e j) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (Cert.FpsIdeal.gather_S8x2048x3_S8x1024x1_S8x1024x3_2_1_0_0_1_2_113).operandBatchingDims from List.mem_singleton.mpr rfl)]
    rfl
  · rw [GatherDims.batchCoord_eq_zero _ _ _ (show (1 : Fin 3) ∉ (Cert.FpsIdeal.gather_S8x2048x3_S8x1024x1_S8x1024x3_2_1_0_0_1_2_113).operandBatchingDims from by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (Cert.FpsIdeal.gather_S8x2048x3_S8x1024x1_S8x1024x3_2_1_0_0_1_2_113).startIndexMap from List.mem_singleton.mpr rfl)]
    refine congrArg (fun q => min (idx q).toInt.toNat 2047) ?_
    funext b; refine Fin.ext ?_
    match b with
    | ⟨0, _⟩ => rfl
    | ⟨1, _⟩ => rfl
    | ⟨2, _⟩ => rfl
  · rw [GatherDims.batchCoord_eq_zero _ _ _ (show (2 : Fin 3) ∉ (Cert.FpsIdeal.gather_S8x2048x3_S8x1024x1_S8x1024x3_2_1_0_0_1_2_113).operandBatchingDims from by decide)]
    unfold GatherDims.start
    rw [dif_neg (show (2 : Fin 3) ∉ (Cert.FpsIdeal.gather_S8x2048x3_S8x1024x1_S8x1024x3_2_1_0_0_1_2_113).startIndexMap from by decide)]
    simp only [Nat.zero_add, Nat.add_zero]
    rfl

theorem zeroBits : (Ideal.ofBits .f32 0x00000000#32 : EReal) = 0 := by simp [Ideal.ofBits, Ideal.ieee]
theorem botBits : (Ideal.ofBits .f32 0xFF800000#32 : EReal) = ⊥ := by simp [Ideal.ofBits, Ideal.ieee]

/-- A word that is not negative is its own index. -/
theorem wrap (w u : BitVec 32) (h : 0 ≤ w.toInt) : Scalar.select (IntOp.cmpi .slt w 0#32) u w = w := by
  have e : IntOp.cmpi .slt w 0#32 = 0#1 := by
    show BitVec.ofBool (w.slt 0#32) = 0#1
    have h2 : w.slt 0#32 = false := by
      simp only [BitVec.slt, decide_eq_false_iff_not]
      rw [show (0#32 : BitVec 32).toInt = 0 from by decide]
      omega
    rw [h2]; rfl
  rw [e]; rfl

/-- The squared distance of a row of a cloud to the cloud's given point. -/
theorem dist_at (x : FVec Ideal S8x2048x3 .f32) (s : FVec Ideal S8x1x3 .f32) (b : Fin 8) (p : Fin 2048) :
    distOps x s (ix2 b p) = ∑ a : Fin 3, (x (ix3 b p a) - s (ix3 b 0 a)) * (x (ix3 b p a) - s (ix3 b 0 a)) := by
  pointwise [distOps]

/-! ## The place of the greatest value -/

theorem reducer_at (a b : EReal × BitVec 32) : reducer_argmax_f32_i32 (F := Ideal) a b
    = (if b.1 < a.1 then a.1 else b.1, if b.1 < a.1 ∨ (a.1 = b.1 ∧ a.2.toInt < b.2.toInt) then a.2 else b.2) := by
  have hg : FloatOps.cmpf (F := Ideal) (φ := .f32) .ogt a.1 b.1 = BitVec.ofBool (decide (b.1 < a.1)) := rfl
  have hn : FloatOps.cmpf (F := Ideal) (φ := .f32) .une a.1 a.1 = BitVec.ofBool (decide (a.1 ≠ a.1)) := rfl
  have he : FloatOps.cmpf (F := Ideal) (φ := .f32) .oeq a.1 b.1 = BitVec.ofBool (decide (a.1 = b.1)) := rfl
  have hs : IntOp.cmpi .slt a.2 b.2 = BitVec.ofBool (decide (a.2.toInt < b.2.toInt)) := rfl
  unfold reducer_argmax_f32_i32
  simp only [hg, hn, he, hs]
  by_cases h1 : b.1 < a.1 <;> by_cases h2 : a.1 = b.1 <;> by_cases h3 : a.2.toInt < b.2.toInt <;>
    simp [h1, h2, h3, Scalar.select, IntOp.ori, IntOp.andi]

/-- What the fold holds once the rows of `done` have passed. -/
def Holds (f : Fin 2048 → EReal) (done : Fin 2048 → Prop) (s : EReal × BitVec 32) : Prop :=
  ∃ j : Fin 2048, s.2 = BitVec.ofNat 32 j.val ∧ ((done j ∧ f j = s.1) ∨ (s.1 = ⊥ ∧ j = 0))
    ∧ (∀ p, done p → f p ≤ s.1) ∧ ∀ p, done p → f p = s.1 → j ≤ p

theorem holds_step (f : Fin 2048 → EReal) (done : Fin 2048 → Prop) (s : EReal × BitVec 32) (h : Holds f done s) (p : Fin 2048) :
    Holds f (fun q => done q ∨ q = p) (reducer_argmax_f32_i32 (F := Ideal) s (f p, BitVec.ofNat 32 p.val)) := by
  obtain ⟨j, hw, hj, hle, hmin⟩ := h
  rw [reducer_at]
  dsimp only
  rw [hw, toInt_row, toInt_row]
  by_cases h1 : f p < s.1
  · rw [if_pos h1, if_pos (Or.inl h1)]
    refine ⟨j, rfl, ?_, ?_, ?_⟩
    · rcases hj with ⟨a, b⟩ | c
      · exact Or.inl ⟨Or.inl a, b⟩
      · exact Or.inr c
    · rintro q (hq | rfl)
      · exact hle q hq
      · exact h1.le
    · rintro q (hq | rfl) e
      · exact hmin q hq e
      · exact absurd e h1.ne
  · rw [if_neg h1]
    have h1' : s.1 ≤ f p := not_lt.mp h1
    by_cases h2 : s.1 = f p ∧ (j.val : Int) < p.val
    · rw [if_pos (Or.inr h2)]
      refine ⟨j, rfl, ?_, ?_, ?_⟩
      · rcases hj with ⟨a, b⟩ | ⟨a, b⟩
        · exact Or.inl ⟨Or.inl a, b.trans h2.1⟩
        · exact Or.inr ⟨h2.1 ▸ a, b⟩
      · rintro q (hq | rfl)
        · exact (hle q hq).trans h1'
        · exact le_refl _
      · rintro q (hq | rfl) e
        · exact hmin q hq (e.trans h2.1.symm)
        · have := h2.2
          exact Fin.le_iff_val_le_val.mpr (by omega)
    · rw [if_neg (by rintro (c | c); exacts [h1 c, h2 c])]
      refine ⟨p, rfl, Or.inl ⟨Or.inr rfl, rfl⟩, ?_, ?_⟩
      · rintro q (hq | rfl)
        · exact (hle q hq).trans h1'
        · exact le_refl _
      · rintro q (hq | rfl) e
        · have e' : s.1 = f p := le_antisymm h1' (le_of_eq_of_le (Eq.symm e) (hle q hq))
          have hjq := hmin q hq (e.trans e'.symm)
          have : ¬ ((j.val : Int) < p.val) := fun c => h2 ⟨e', c⟩
          have h3 := Fin.le_iff_val_le_val.mp hjq
          exact Fin.le_iff_val_le_val.mpr (by omega)
        · exact le_refl _

theorem holds_fold (f : Fin 2048 → EReal) (l : List (Fin 2048)) : ∀ (done : Fin 2048 → Prop) (s : EReal × BitVec 32), Holds f done s →
    Holds f (fun q => done q ∨ q ∈ l) ((l.map fun p => (f p, BitVec.ofNat 32 p.val)).foldl (reducer_argmax_f32_i32 (F := Ideal)) s) := by
  induction l with
  | nil =>
    intro done s h
    have e : (fun q => done q ∨ q ∈ ([] : List (Fin 2048))) = done := by funext q; simp
    rw [e]; exact h
  | cons p l ih =>
    intro done s h
    have e : (fun q => done q ∨ q ∈ p :: l) = fun q => (done q ∨ q = p) ∨ q ∈ l := by
      funext q; simp [or_assoc]
    rw [e, List.map_cons, List.foldl_cons]
    exact ih _ _ (holds_step f done s h p)

theorem holds_first (f : Fin 2048 → EReal) (s : EReal × BitVec 32) (h : Holds f (fun _ => True) s) : s.2 = BitVec.ofNat 32 (first f).val := by
  obtain ⟨j, hw, hj, hle, hmin⟩ := h
  have hfj : f j = s.1 := by
    rcases hj with ⟨-, b⟩ | ⟨a, b⟩
    · exact b
    · rw [b, a]; exact le_bot_iff.mp (a ▸ hle 0 trivial)
  have h1 : first f ≤ j := first_le f j fun q => hfj ▸ hle q trivial
  have h2 : j ≤ first f := hmin _ trivial (le_antisymm (hle _ trivial) (hfj ▸ first_top f j))
  rw [hw, le_antisymm h2 h1]

theorem fold_first (f : Fin 2048 → EReal) (l : List (Fin 2048)) (h : ∀ p, p ∈ l) (s : EReal × BitVec 32) (h1 : s.1 = ⊥) (h2 : s.2 = 0#32) :
    ((l.map fun p => (f p, BitVec.ofNat 32 p.val)).foldl (reducer_argmax_f32_i32 (F := Ideal)) s).2 = BitVec.ofNat 32 (first f).val := by
  refine holds_first f _ ?_
  have h0 : Holds f (fun _ => False) s := ⟨0, h2, Or.inr ⟨h1, rfl⟩, fun _ c => c.elim, fun _ c => c.elim⟩
  have hf := holds_fold f l _ _ h0
  have e : (fun q => False ∨ q ∈ l) = fun _ => True := by funext q; simp [h q]
  rw [e] at hf
  exact hf

/-- The row of a place of an 8 by 2048 array. -/
def rowOf (n : Fin S8x2048.numel) : Fin 2048 := S8x2048.rowMajor.symm n 1

theorem drop_iff (i : S8x2048.Idx) (b : Fin 8) : (reducesTo_S8x2048_S8_d1).drop i = ix1 b ↔ i = ix2 b (i 1) := by
  have e : (reducesTo_S8x2048_S8_d1).drop i = ix1 (i 0) := by
    funext q
    match q with
    | ⟨0, _⟩ => rfl
  rw [e]
  constructor
  · intro h
    have h' : i 0 = b := congrFun h 0
    funext q
    match q with
    | ⟨0, _⟩ => exact h'
    | ⟨1, _⟩ => rfl
  · intro h
    have h' : i 0 = b := congrFun h 0
    rw [h']; rfl

theorem fiber_eq (x : FVec Ideal S8x2048 .f32) (b : Fin 8) (l : List (Fin S8x2048.numel))
    (hl : ∀ n ∈ l, S8x2048.rowMajor.symm n = ix2 b (rowOf n)) :
    (l.map fun n => ((x (S8x2048.rowMajor.symm n) : EReal), iotaInDim S8x2048 32 1 (S8x2048.rowMajor.symm n)))
      = (l.map rowOf).map fun p : Fin 2048 => ((x (ix2 b p) : EReal), BitVec.ofNat 32 p.val) := by
  rw [List.map_map]
  refine List.map_congr_left fun n hn => ?_
  refine Prod.ext ?_ rfl
  exact congrArg x (hl n hn)

theorem argmax_at (x : FVec Ideal S8x2048 .f32) (b : Fin 8) :
    (Host.argReduce (reducer_argmax_f32_i32 (F := Ideal)) x (iotaInDim S8x2048 32 1) (constant (F := Ideal) S_ .f32 0xFF800000#32) (constantI S_ 32 0#32)
      reducesTo_S8x2048_S8_d1 h_S_ (ix1 b)).2 = BitVec.ofNat 32 (first fun p : Fin 2048 => x (ix2 b p)).val := by
  rw [Ideal.argReduce_eq_reduce2, Host.reduce2_eq_foldl_fiber]
  unfold Host.argReduceFiber
  rw [fiber_eq x b _ (fun n hn => (drop_iff _ b).mp (of_decide_eq_true (List.mem_filter.mp hn).2))]
  refine fold_first _ _ (fun p => ?_) _ botBits rfl
  refine List.mem_map.mpr ⟨S8x2048.rowMajor (ix2 b p), List.mem_filter.mpr ⟨List.mem_finRange _, decide_eq_true ((drop_iff _ b).mpr ?_)⟩, ?_⟩
  · rw [Equiv.symm_apply_apply]; rfl
  · unfold rowOf; rw [Equiv.symm_apply_apply]; rfl

/-! ## One more choice in the list -/

theorem update_at (x : IVec S8x1024 32) (u : IVec S8x1 32) (st : Fin 2 → Int) (k : ℕ) (h0 : st 0 = 0) (h1 : st 1 = k) (hk : k < 1024)
    (b : Fin 8) (j : Fin 1024) :
    Host.dynamicUpdateSlice x u st updateFits_S8x1024_S8x1 (ix2 b j) = if j.val = k then u (ix2 b 0) else x (ix2 b j) := by
  have hs : S8x1024.Slices (![0, k] : Fin 2 → Nat) S8x1 := ⟨rfl, fun a => by
    match a with
    | ⟨0, _⟩ => exact (by decide : 0 + 8 ≤ 8)
    | ⟨1, _⟩ => exact (by omega : k + 1 ≤ 1024)⟩
  rw [WordCmp.dynamicUpdateSlice_eq_update x u st updateFits_S8x1024_S8x1 (![0, k] : Fin 2 → Nat) hs (fun a => by
    match a with
    | ⟨0, _⟩ => exact h0
    | ⟨1, _⟩ => exact h1)]
  unfold updateSlice
  by_cases hj : j.val = k
  · rw [if_pos hj, dif_pos (fun a => by
      match a with
      | ⟨0, _⟩ => exact ⟨Nat.zero_le _, (by have := b.isLt; show b.val < 0 + 8; omega)⟩
      | ⟨1, _⟩ => exact ⟨(by show k ≤ j.val; omega), (by show j.val < k + 1; omega)⟩)]
    refine congrArg u (funext fun a => ?_)
    match a with
    | ⟨0, _⟩ => exact Fin.ext (by show b.val - 0 = b.val; omega)
    | ⟨1, _⟩ => exact Fin.ext (by show j.val - k = 0; omega)
  · rw [if_neg hj, dif_neg (fun c => by
      have h2 := c 1
      have h3 : k ≤ j.val ∧ j.val < k + 1 := h2
      omega)]

end Cert.FpsIdeal.Whole

end
-- ==== Proof.FpsRef.lean ====
/- The reference of the selection call: its loop selects the farthest rows one after another, and its three results follow. -/
module

public import proofs.«01_k».proof.Proof.FpsStep

@[expose] public section

set_option maxRecDepth 16384

noncomputable section

namespace Cert.FpsIdeal.Whole

open Cert.FpsIdeal Cert.FpsIdeal.Gen Idealize.ShloMosaic Idealize.ShloMosaic.TcCoe Idealize.SL.Sem Idealize.ShloMosaic.StableHlo Cert.Fps

/-! ## The pieces of one turn -/

/-- The row numbers of the greatest distances, one per cloud. -/
abbrev pick (d : FVec Ideal S8x2048 .f32) : IVec S8 32 := fun j =>
  (Host.argReduce (reducer_argmax_f32_i32 (F := Ideal)) d (iotaInDim S8x2048 32 1) (constant (F := Ideal) S_ .f32 0xFF800000#32) (constantI S_ 32 0#32)
    reducesTo_S8x2048_S8_d1 h_S_ j).2

/-- Row numbers written into the list at a place. -/
abbrev put (l : IVec S8x1024 32) (u : IVec S8 32) (n : IVec S_ 32) : IVec S8x1024 32 :=
  Host.dynamicUpdateSlice l (broadcastInDim S8x1 ![0] bcast_S8_S8x1_0 u)
    (fun k => ((![constantI S_ 32 0#32, select (cmpi .slt n (constantI S_ 32 0#32)) (addi n (constantI S_ 32 1024#32)) n] : Fin 2 → S_.Idx → Elt Ideal .i32) k (Shape.Idx.first h_S_)).toInt)
    updateFits_S8x1024_S8x1

/-- The points of given row numbers, one per cloud. -/
abbrev point1 (x : FVec Ideal S8x2048x3 .f32) (w : IVec S8x1x1 32) : FVec Ideal S8x1x3 .f32 :=
  Host.gather gather_S8x2048x3_S8x1x1_S8x1x3_2_1_0_0_1_2_113 x
    (select (cmpi .slt w (broadcastInDim S8x1x1 ![] bcast_S_S8x1x1 (constantI S_ 32 0#32))) (addi w (broadcastInDim S8x1x1 ![] bcast_S_S8x1x1 (constantI S_ 32 2048#32))) w)

/-- The points of given row numbers, 1024 per cloud. -/
abbrev points (x : FVec Ideal S8x2048x3 .f32) (w : IVec S8x1024x1 32) : FVec Ideal S8x1024x3 .f32 :=
  Host.gather gather_S8x2048x3_S8x1024x1_S8x1024x3_2_1_0_0_1_2_113 x
    (select (cmpi .slt w (broadcastInDim S8x1024x1 ![] bcast_S_S8x1024x1 (constantI S_ 32 0#32))) (addi w (broadcastInDim S8x1024x1 ![] bcast_S_S8x1024x1 (constantI S_ 32 2048#32))) w)

theorem put_at (l : IVec S8x1024 32) (u : IVec S8 32) (n : IVec S_ 32) (k : ℕ) (hk : k < 1024) (hn : n = fun _ => BitVec.ofNat 32 k) (b : Fin 8) (j : Fin 1024) :
    put l u n (ix2 b j) = if j.val = k then u (ix1 b) else l (ix2 b j) := by
  have e : (BitVec.ofNat 32 k).toInt = k := by
    rw [BitVec.toInt_eq_toNat_of_lt (by rw [BitVec.toNat_ofNat]; omega), BitVec.toNat_ofNat]
    omega
  refine (update_at l _ _ k rfl ?_ hk b j).trans ?_
  · subst hn
    show (Scalar.select (IntOp.cmpi .slt (BitVec.ofNat 32 k) 0#32) _ (BitVec.ofNat 32 k)).toInt = _
    rw [wrap _ _ (by omega), e]
  · have hb : broadcastInDim S8x1 ![0] bcast_S8_S8x1_0 u (ix2 b 0) = u (ix1 b) := by pointwise
    rw [hb]

theorem spread (u : IVec S8 32) (b : Fin 8) (e : Fin 1) :
    shapeCast S8x1x1 (broadcastInDim S8x1 ![0] bcast_S8_S8x1_0 u) shapeCasts_S8x1_S8x1x1 (ix3 b e 0) = u (ix1 b) := by
  have hb : broadcastInDim S8x1 ![0] bcast_S8_S8x1_0 u (ix2 b 0) = u (ix1 b) := by pointwise
  refine (shapeCast_apply _ _ (ix3 b e 0) (ix2 b 0) ?_).trans hb
  rw [Shape.rowMajor_val_three, Shape.rowMajor_val_two]
  have := e.isLt
  show b.val * 1 + 0 = (b.val * 1 + e.val) * 1 + 0
  omega

theorem row_eq (w : BitVec 32) (p : Fin 2048) (hw : w = BitVec.ofNat 32 p.val) (h : min w.toInt.toNat 2047 < 2048) :
    (⟨min w.toInt.toNat 2047, h⟩ : Fin 2048) = p := by
  subst hw
  have := p.isLt
  refine Fin.ext ?_
  show min (BitVec.ofNat 32 p.val).toInt.toNat 2047 = p.val
  rw [toInt_row]
  omega

theorem point1_at (x : FVec Ideal S8x2048x3 .f32) (w : IVec S8x1x1 32) (b : Fin 8) (e : Fin 1) (a : Fin 3) (p : Fin 2048)
    (hw : w (ix3 b e 0) = BitVec.ofNat 32 p.val) : point1 x w (ix3 b e a) = x (ix3 b p a) := by
  refine (gather_one x _ b e a).trans ?_
  refine congrArg (fun q => x (ix3 b q a)) (row_eq _ p ?_ _)
  refine (wrap (w (ix3 b e 0)) _ ?_).trans hw
  rw [hw, toInt_row]; omega

theorem points_at (x : FVec Ideal S8x2048x3 .f32) (w : IVec S8x1024x1 32) (b : Fin 8) (e : Fin 1024) (a : Fin 3) (p : Fin 2048)
    (hw : w (ix3 b e 0) = BitVec.ofNat 32 p.val) : points x w (ix3 b e a) = x (ix3 b p a) := by
  refine (gather_all x _ b e a).trans ?_
  refine congrArg (fun q => x (ix3 b q a)) (row_eq _ p ?_ _)
  refine (wrap (w (ix3 b e 0)) _ ?_).trans hw
  rw [hw, toInt_row]; omega

/-! ## One turn of the loop -/

section
variable (V : Valuation τ sig (Elt Ideal))

theorem body_0 : afterL bodyI V (Proc.devRef .tc main_v7_0) = V (Proc.devRef .tc main_v7_0) := by
  simp only [bodyI, afterL_cons, afterL_nil]
  rw [keep4_0, keep3_0, keep2_0, keep1_0, keep0_0]
theorem body_x : afterL bodyI V (Proc.devRef .tc main_v0) = V (Proc.devRef .tc main_v0) := by
  simp only [bodyI, afterL_cons, afterL_nil]
  rw [keepx_4, keepx_3, keepx_2, keepx_1, keepx_0]
theorem body_2 : afterL bodyI V (Proc.devRef .tc main_v7_2) = addi (V (Proc.devRef .tc main_v7_2) : S_.Idx → Elt Ideal .i32) (constantI S_ 32 1#32) := by
  simp only [bodyI, afterL_cons, afterL_nil]
  rw [new4_2, keep3_n, keep2_n, keep1_n, new0_n]
theorem body_3 : afterL bodyI V (Proc.devRef .tc main_v7_3) = put (V (Proc.devRef .tc main_v7_3)) (pick (V (Proc.devRef .tc main_v7_4))) (V (Proc.devRef .tc main_v7_2)) := by
  simp only [bodyI, afterL_cons, afterL_nil]
  rw [new4_3, keep3_u, new2_u, new1_a, keep1_3, keep1_2, keep0_3, keep0_2, keep0_4]
  rfl
theorem body_4 : afterL bodyI V (Proc.devRef .tc main_v7_4) = minimumf (V (Proc.devRef .tc main_v7_4) : S8x2048.Idx → Elt Ideal .f32)
    (distOps (V (Proc.devRef .tc main_v7_0)) (point1 (V (Proc.devRef .tc main_v7_0))
      (shapeCast S8x1x1 (broadcastInDim S8x1 ![0] bcast_S8_S8x1_0 (pick (V (Proc.devRef .tc main_v7_4)))) shapeCasts_S8x1_S8x1x1))) := by
  simp only [bodyI, afterL_cons, afterL_nil]
  rw [new4_4, keep3_4, keep2_4, keep1_4, keep0_4, keep3_0, new3_g, keep2_0, keep1_0, keep0_0, new2_s, new1_a, keep0_4]

theorem arg_c : after condOps V (Proc.devRef .tc main_arg0) = V (Proc.devRef .tc main_arg0) := by after_results <;> rfl
theorem arg_p : after preOps V (Proc.devRef .tc main_arg0) = V (Proc.devRef .tc main_arg0) := by after_results <;> rfl
theorem arg_0 : after bodyOps0 V (Proc.devRef .tc main_arg0) = V (Proc.devRef .tc main_arg0) := by after_results <;> rfl
theorem arg_1 : after bodyOps1 V (Proc.devRef .tc main_arg0) = V (Proc.devRef .tc main_arg0) := by after_results <;> rfl
theorem arg_2 : after bodyOps2 V (Proc.devRef .tc main_arg0) = V (Proc.devRef .tc main_arg0) := by after_results <;> rfl
theorem arg_3 : after bodyOps3 V (Proc.devRef .tc main_arg0) = V (Proc.devRef .tc main_arg0) := by after_results <;> rfl
theorem arg_4 : after bodyOps4 V (Proc.devRef .tc main_arg0) = V (Proc.devRef .tc main_arg0) := by after_results <;> rfl
theorem arg_5 : after postOps0 V (Proc.devRef .tc main_arg0) = V (Proc.devRef .tc main_arg0) := by after_results <;> rfl
theorem arg_6 : after postOps1 V (Proc.devRef .tc main_arg0) = V (Proc.devRef .tc main_arg0) := by after_results <;> rfl
theorem arg_7 : after postOps2 V (Proc.devRef .tc main_arg0) = V (Proc.devRef .tc main_arg0) := by after_results <;> rfl
theorem body_arg : afterL bodyI V (Proc.devRef .tc main_arg0) = V (Proc.devRef .tc main_arg0) := by
  simp only [bodyI, afterL_cons, afterL_nil]
  rw [arg_4, arg_3, arg_2, arg_1, arg_0]
end

/-! ## Every turn -/

variable (m : (ℓ : Loc nD τ sig) → Buf (Elt Ideal) ℓ) (ρ : Dev nD → PrngReg) (c : Dev nD)

/-- The positions, cloud by cloud. -/
abbrev pos : FVec Ideal S8x2048x3 .f32 := shapeCast S8x2048x3 (m ((c : Thread nD τ).loc main_arg0) : S16384x3.Idx → Elt Ideal .f32) shapeCasts_S16384x3_S8x2048x3

/-- The list of row numbers once `k` further selections are made. -/
def listAt (x : FVec Ideal S8x2048x3 .f32) (k : ℕ) : IVec S8x1024 32 :=
  fun y => if (y 1).val ≤ k then BitVec.ofNat 32 (sel (cloud x (y 0)) (y 1).val).val else 0#32

/-- The distances then. -/
def mindAt (x : FVec Ideal S8x2048x3 .f32) (k : ℕ) : FVec Ideal S8x2048 .f32 := fun y => mind (cloud x (y 0)) k (y 1)

theorem dist_row (x : FVec Ideal S8x2048x3 .f32) (s : FVec Ideal S8x1x3 .f32) (b : Fin 8) (q p : Fin 2048) (h : ∀ a, s (ix3 b 0 a) = x (ix3 b q a)) :
    distOps x s (ix2 b p) = Fps.dist (cloud x b) q p := by
  rw [dist_at]
  unfold Fps.dist
  refine Finset.sum_congr rfl fun a _ => ?_
  rw [h a]

theorem pick_at (x : FVec Ideal S8x2048x3 .f32) (k : ℕ) (b : Fin 8) : pick (mindAt x k) (ix1 b) = BitVec.ofNat 32 (sel (cloud x b) (k + 1)).val := by
  rw [sel_succ]
  exact argmax_at (mindAt x k) b

theorem list_zero (x : FVec Ideal S8x2048x3 .f32) : (broadcastInDim S8x1024 ![] bcast_S_S8x1024 (constantI S_ 32 0#32) : IVec S8x1024 32) = listAt x 0 := by
  funext y
  unfold listAt
  split
  · rename_i h
    have h0 : (y 1).val = 0 := by omega
    rw [h0, sel_zero]; rfl
  · rfl

theorem list_succ (x : FVec Ideal S8x2048x3 .f32) (k : ℕ) (hk : k + 1 < 1024) : put (listAt x k) (pick (mindAt x k)) (fun _ => BitVec.ofNat 32 (k + 1)) = listAt x (k + 1) := by
  funext y
  revert y
  refine ix_ind2 fun b j => ?_
  rw [put_at _ _ _ (k + 1) hk rfl, pick_at]
  show (if j.val = k + 1 then _ else if j.val ≤ k then BitVec.ofNat 32 (sel (cloud x b) j.val).val else 0#32)
    = if j.val ≤ k + 1 then BitVec.ofNat 32 (sel (cloud x b) j.val).val else 0#32
  by_cases h : j.val = k + 1
  · rw [if_pos h, if_pos (by omega), h]
  · rw [if_neg h]
    by_cases h2 : j.val ≤ k
    · rw [if_pos h2, if_pos (by omega)]
    · rw [if_neg h2, if_neg (by omega)]

theorem mind_first (x : FVec Ideal S8x2048x3 .f32) : distOps x (extractStridedSlice S8x1x3 ![0, 0, 0] x slices_S8x2048x3_S8x1x3_0_0_0) = mindAt x 0 := by
  funext y
  revert y
  refine ix_ind2 fun b p => ?_
  rw [dist_row x _ b 0 p (fun a => by pointwise)]
  show _ = mind (cloud x b) 0 p
  rw [mind_zero]

theorem mind_next (x : FVec Ideal S8x2048x3 .f32) (k : ℕ) : minimumf (mindAt x k) (distOps x (point1 x
      (shapeCast S8x1x1 (broadcastInDim S8x1 ![0] bcast_S8_S8x1_0 (pick (mindAt x k))) shapeCasts_S8x1_S8x1x1))) = mindAt x (k + 1) := by
  funext y
  revert y
  refine ix_ind2 fun b p => ?_
  show min (mind (cloud x b) k p) (distOps x _ (ix2 b p)) = mind (cloud x b) (k + 1) p
  rw [mind_succ, dist_row x _ b (sel (cloud x b) (k + 1)) p (fun a => point1_at x _ b 0 a _ ((spread _ b 0).trans (pick_at x k b)))]

theorem trip (k : ℕ) (hk : k < 1024) :
    atTrip condOps bodyI (entryContents preI m) k c (Proc.devRef .tc main_v7_0) = pos m c
    ∧ atTrip condOps bodyI (entryContents preI m) k c (Proc.devRef .tc main_v0) = pos m c
    ∧ atTrip condOps bodyI (entryContents preI m) k c (Proc.devRef .tc main_arg0) = m ((c : Thread nD τ).loc main_arg0)
    ∧ atTrip condOps bodyI (entryContents preI m) k c (Proc.devRef .tc main_v7_2) = (fun _ => BitVec.ofNat 32 (k + 1) : IVec S_ 32)
    ∧ atTrip condOps bodyI (entryContents preI m) k c (Proc.devRef .tc main_v7_3) = listAt (pos m c) k
    ∧ atTrip condOps bodyI (entryContents preI m) k c (Proc.devRef .tc main_v7_4) = mindAt (pos m c) k := by
  induction k with
  | zero =>
    rw [atTrip_zero]
    refine ⟨pre_0 _, pre_x _, arg_p _, pre_2 _, ?_, ?_⟩
    · exact (pre_3 _).trans (list_zero _)
    · exact (pre_4 _).trans (mind_first _)
  | succ k ih =>
    obtain ⟨h0, hx, ha, h2, h3, h4⟩ := ih (by omega)
    rw [atTrip_succ, body_0, body_x, body_arg, body_2, body_3, body_4, cond_0, keepx_c, arg_c, cond_2, cond_3, cond_4, h0, hx, ha, h2, h3, h4]
    refine ⟨rfl, rfl, rfl, ?_, list_succ _ k hk, mind_next _ k⟩
    funext i
    show BitVec.ofNat 32 (k + 1) + 1#32 = BitVec.ofNat 32 (k + 1 + 1)
    rw [BitVec.ofNat_add (k + 1) 1]

/-! ## The results -/

theorem list_last (x : FVec Ideal S8x2048x3 .f32) : listAt x 1023 = idxAll x := by
  funext y
  revert y
  refine ix_ind2 fun b j => ?_
  have := j.isLt
  show (if j.val ≤ 1023 then _ else _) = _
  rw [if_pos (by omega)]
  rfl

theorem points_all (x : FVec Ideal S8x2048x3 .f32) : points x (shapeCast S8x1024x1 (idxAll x : IVec S8x1024 32) shapeCasts_S8x1024_S8x1024x1) = cenAll x := by
  funext y
  revert y
  refine ix_ind3 fun b j a => ?_
  refine points_at x _ b j a (sel (cloud x b) j.val) ?_
  refine (shapeCast_apply _ _ (ix3 b j 0) (ix2 b j) ?_).trans rfl
  rw [Shape.rowMajor_val_three, Shape.rowMajor_val_two]
  show b.val * 1024 + j.val = (b.val * 1024 + j.val) * 1 + 0
  omega

abbrev res10 (x : FVec Ideal S8x2048x3 .f32) : FVec Ideal S8192x3 .f32 := shapeCast S8192x3 (cenAll x : FVec Ideal S8x1024x3 .f32) shapeCasts_S8x1024x3_S8192x3
abbrev res13 : IVec S8192 32 := shapeCast S8192 (broadcastInDim S8x1024 ![0] bcast_S8_S8x1024_0 (iotaInDim S8 32 0)) shapeCasts_S8x1024_S8192
abbrev res20 (x : FVec Ideal S8x2048x3 .f32) : IVec S8192 32 := shapeCast S8192 (addi (idxAll x : IVec S8x1024 32)
  (broadcastInDim S8x1024 ![0, 1] bcast_S8x1_S8x1024_0_1 (broadcastInDim S8x1 ![0] bcast_S8_S8x1_0 (muli (iotaInDim S8 32 0) (broadcastInDim S8 ![] bcast_S_S8 (constantI S_ 32 2048#32))))))
  shapeCasts_S8x1024_S8192

/-- The run of the reference with its three results. -/
theorem values : θ_run (defs (F := Ideal)) (onTc (τ := τ) (main (F := Ideal))) ⟨m, fun _ => 0, ρ⟩ (fun r => ∀ c : Dev nD,
    r.2.mem ((c.tc : Thread nD τ).loc main_v10) = res10 (pos m c)
    ∧ r.2.mem ((c.tc : Thread nD τ).loc main_v13) = res13
    ∧ r.2.mem ((c.tc : Thread nD τ).loc main_v20) = res20 (pos m c)
    ∧ r.2.mem ((c.tc : Thread nD τ).loc main_arg0) = m ((c.tc : Thread nD τ).loc main_arg0)) := by
  refine (θ_run _ _ _).mono (fun r h c => ?_) (run m ρ)
  obtain ⟨h0, hx, ha, h2, h3, h4⟩ := trip m c 1023 (by omega)
  refine ⟨?_, ?_, ?_, ?_⟩
  · refine (h c main_v10 rfl).trans ?_
    simp only [finalContents, postI, afterL_cons, afterL_nil]
    rw [post2_10, post1_g, post0_s, post0_x, cond_3, keepx_c, hx, h3, list_last]
    exact congrArg (fun z : FVec Ideal S8x1024x3 .f32 => shapeCast S8192x3 z shapeCasts_S8x1024x3_S8192x3) (points_all _)
  · refine (h c main_v13 rfl).trans ?_
    simp only [finalContents, postI, afterL_cons, afterL_nil]
    rw [post2_13]
  · refine (h c main_v20 rfl).trans ?_
    simp only [finalContents, postI, afterL_cons, afterL_nil]
    rw [post2_20, post1_3, post0_3, cond_3, h3, list_last]
  · refine (h c main_arg0 rfl).trans ?_
    simp only [finalContents, postI, afterL_cons, afterL_nil]
    rw [arg_7, arg_6, arg_5, arg_c, ha]

end Cert.FpsIdeal.Whole

end
-- ==== Proof.lean ====
module

public import proofs.«01_k».proof.Proof.Gen.SelIdeal.Launch
public import proofs.«01_k».proof.Proof.Gen.SelIdeal.Points
public import proofs.«01_k».proof.Proof.Gen.FpsIdeal
public import proofs.«01_k».proof.Proof.Gen.SelIdeal.Loops
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_lists_in_order
public import proofs.«01_k».proof.Proof.Gen.ReferenceIdeal.Run
public import proofs.«01_k».proof.Proof.Gen.ReferenceIdeal.Read
public import proofs.«01_k».proof.Proof.Final
public import proofs.«01_k».proof.Proof.KRun
public import proofs.«01_k».proof.Proof.SelValue
public import proofs.«01_k».proof.Proof.FpsRef
public import Idealize.ShloMosaic.Adequacy
public import Idealize.ShloMosaic.Init

@[expose] public section

noncomputable section

namespace Cert.Proof

open Idealize.ShloMosaic Idealize.SL.Sem Cert.Kernel

/-- The reference runs, leaves its arguments alone and owns no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's value of equal arguments. -/
theorem reference_congr {a0 b0 : IVec Cert.ReferenceIdeal.S8x64x1024 32} {a1 b1 : FVec Ideal Cert.ReferenceIdeal.S8x64x1024 .f32} {a2 b2 : FVec Ideal Cert.ReferenceIdeal.S8x1024x3 .f32} {a3 b3 : FVec Ideal Cert.ReferenceIdeal.S16384x3 .f32} {a4 b4 : FVec Ideal Cert.ReferenceIdeal.S16384x3 .f32} {a5 b5 : FVec Ideal Cert.ReferenceIdeal.S6x64 .f32} {a6 b6 : FVec Ideal Cert.ReferenceIdeal.S64 .f32} {a7 b7 : FVec Ideal Cert.ReferenceIdeal.S64 .f32} {a8 b8 : FVec Ideal Cert.ReferenceIdeal.S64 .f32} {a9 b9 : FVec Ideal Cert.ReferenceIdeal.S64x64 .f32} {a10 b10 : FVec Ideal Cert.ReferenceIdeal.S64 .f32} {a11 b11 : FVec Ideal Cert.ReferenceIdeal.S64 .f32} {a12 b12 : FVec Ideal Cert.ReferenceIdeal.S64 .f32} {a13 b13 : FVec Ideal Cert.ReferenceIdeal.S64x128 .f32} {a14 b14 : FVec Ideal Cert.ReferenceIdeal.S128 .f32} {a15 b15 : FVec Ideal Cert.ReferenceIdeal.S128 .f32} {a16 b16 : FVec Ideal Cert.ReferenceIdeal.S128 .f32}
    (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10) (e11 : a11 = b11) (e12 : a12 = b12) (e13 : a13 = b13) (e14 : a14 = b14) (e15 : a15 = b15) (e16 : a16 = b16) :
    Cert.ReferenceIdeal.Read.val_main_v128 (F := Ideal) a0 a1 a2 a3 a4 a5 a6 a7 a8 a9 a10 a11 a12 a13 a14 a15 a16
      = Cert.ReferenceIdeal.Read.val_main_v128 (F := Ideal) b0 b1 b2 b3 b4 b5 b6 b7 b8 b9 b10 b11 b12 b13 b14 b15 b16 := by
  subst e0
  subst e1
  subst e2
  subst e3
  subst e4
  subst e5
  subst e6
  subst e7
  subst e8
  subst e9
  subst e10
  subst e11
  subst e12
  subst e13
  subst e14
  subst e15
  subst e16
  rfl

/-- From equal arguments that meet the precondition the kernel and the reference end with equal results. -/
theorem algebraic : Cert.algebraic_KernelIdeal_ReferenceIdeal_pre_lists_in_order (hKernelIdeal := Cert.KernelIdeal.Gen.facts)
    (hReferenceIdeal := Cert.ReferenceIdeal.Gen.facts) (hPre_lists_in_order := Cert.Pre_lists_in_order.Gen.facts) := by
  intro m ρ m' ρ' hp hagree
  refine ⟨fun c => Cert.KernelIdeal.Gen.W9 m ρ c (Proc.devRef .tc Cert.KernelIdeal.main_v0), Cert.KernelIdeal.Whole.kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v128_eq (F := Ideal) (StableHlo.launchContents m' c)).trans ?_
  refine Eq.trans ?_ (Cert.KernelIdeal.Whole.value_eq (m := m) (ρ := ρ) (c := c) (hp c)).symm
  obtain ⟨e0, e1, e2, e3, e4, e5, e6, e7, e8, e9, e10, e11, e12, e13, e14, e15, e16⟩ := hagree c
  exact reference_congr e0 e1 e2 e3 e4 e5 e6 e7 e8 e9 e10 e11 e12 e13 e14 e15 e16

/-- The selection call's reference runs, leaves its argument alone and owns no semaphore. -/
theorem frame_fps : Cert.quiescent_FpsIdeal (hFpsIdeal := Cert.FpsIdeal.Gen.facts) := fun m ρ _ =>
  (θ_run Cert.FpsIdeal.defs _ _).mono (fun r h => ⟨fun c => (h c).2.2.2, sem_eq_zero_of_no_sems (by decide) r.2⟩)
    (Cert.FpsIdeal.Whole.values m ρ)

/-- From equal positions the selection call and its reference end with equal results. -/
theorem algebraic_sel : Cert.algebraic_SelIdeal_FpsIdeal (hSelIdeal := Cert.SelIdeal.Gen.facts) (hFpsIdeal := Cert.FpsIdeal.Gen.facts) := by
  intro m ρ m' ρ' _ hagree
  refine ⟨fun c => Cert.SelIdeal.Whole.res2 (Cert.SelIdeal.Whole.pos m c), fun _ => Cert.SelIdeal.Whole.res5,
    fun c => Cert.SelIdeal.Whole.res13 (Cert.SelIdeal.Whole.pos m c), Cert.SelIdeal.Whole.values m ρ, ?_⟩
  refine (θ_run Cert.FpsIdeal.defs _ _).mono (fun _ h c => ?_) (Cert.FpsIdeal.Whole.values m' ρ')
  have e : Cert.FpsIdeal.Whole.pos m' c = Cert.SelIdeal.Whole.pos m c :=
    congrArg (fun z : FVec Ideal Cert.FpsIdeal.S16384x3 .f32 => shapeCast Cert.FpsIdeal.S8x2048x3 z Cert.FpsIdeal.Gen.facts.shapeCasts_S16384x3_S8x2048x3) (hagree c)
  obtain ⟨h0, h1, h2, h3⟩ := h c
  exact ⟨h0.trans (congrArg Cert.FpsIdeal.Whole.res10 e), h1, h2.trans (congrArg Cert.FpsIdeal.Whole.res20 e), h3⟩

theorem claim : Cert.Claim := ⟨Cert.Kernel.Gen.facts, Cert.KernelIdeal.Gen.facts, Cert.ReferenceIdeal.Gen.facts, Cert.SelIdeal.Gen.facts, Cert.FpsIdeal.Gen.facts,
  Cert.Pre_lists_in_order.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, fun m ρ _ => Cert.SelIdeal.Whole.frame m ρ, frame_fps, trivial, algebraic, algebraic_sel⟩

end Cert.Proof

end
